-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_attn [hPre_finite_attn : Cert.Pre_finite_attn.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_attn.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).1 = (fun _ => 1#1)
    ∧ (Cert.Pre_finite_attn.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2.1 = (fun _ => 1#1)
    ∧ (Cert.Pre_finite_attn.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_attn [hPre_finite_attn : Cert.Pre_finite_attn.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_attn.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).1 = (fun _ => 1#1)
    ∧ (Cert.Pre_finite_attn.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2.1 = (fun _ => 1#1)
    ∧ (Cert.Pre_finite_attn.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_attn [hKernel17Ideal : Cert.Kernel17Ideal.Facts] [hPre_finite_attn : Cert.Pre_finite_attn.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_attn m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_attn [hReference17Ideal : Cert.Reference17Ideal.Facts] [hPre_finite_attn : Cert.Pre_finite_attn.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_attn m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "mask" .f32 0xF149F2CA#32 ⊥

def algebraic_Kernel17Ideal_Reference17Ideal_pre_finite_attn [hKernel17Ideal : Cert.Kernel17Ideal.Facts] [hReference17Ideal : Cert.Reference17Ideal.Facts] [hPre_finite_attn : Cert.Pre_finite_attn.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_attn m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v72_0)) (v1 : (c : Dev Cert.Kernel17Ideal.nD) → Buf (Elt Ideal) ((c.tc : Thread Cert.Kernel17Ideal.nD Cert.Kernel17Ideal.τ).loc Cert.Kernel17Ideal.main_v72_1)) (v2 : (c : Dev Cert.Kernel17Ideal.nD) → Buf (Elt Ideal) ((c.tc : Thread Cert.Kernel17Ideal.nD Cert.Kernel17Ideal.τ).loc Cert.Kernel17Ideal.main_v72_2)) (v3 : (c : Dev Cert.Kernel17Ideal.nD) → Buf (Elt Ideal) ((c.tc : Thread Cert.Kernel17Ideal.nD Cert.Kernel17Ideal.τ).loc Cert.Kernel17Ideal.main_v72_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v72_0) = v0 c
          ∧ r.2.mem ((c.tc : Thread Cert.Kernel17Ideal.nD Cert.Kernel17Ideal.τ).loc Cert.Kernel17Ideal.main_v72_1) = v1 c
          ∧ r.2.mem ((c.tc : Thread Cert.Kernel17Ideal.nD Cert.Kernel17Ideal.τ).loc Cert.Kernel17Ideal.main_v72_2) = v2 c
          ∧ r.2.mem ((c.tc : Thread Cert.Kernel17Ideal.nD Cert.Kernel17Ideal.τ).loc Cert.Kernel17Ideal.main_v72_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v151) = v0 c
          ∧ r.2.mem ((c.tc : Thread Cert.Reference17Ideal.nD Cert.Reference17Ideal.τ).loc Cert.Reference17Ideal.main_v152) = v1 c
          ∧ r.2.mem ((c.tc : Thread Cert.Reference17Ideal.nD Cert.Reference17Ideal.τ).loc Cert.Reference17Ideal.main_v153) = v2 c
          ∧ r.2.mem ((c.tc : Thread Cert.Reference17Ideal.nD Cert.Reference17Ideal.τ).loc Cert.Reference17Ideal.main_v154) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  IdealRules.named_const.Statement Cert.Kernel18Ideal.κ "mask" .f32 0xF149F2CA#32 ⊥

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v71) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_attn (hKernel17Ideal := hKernel17Ideal) (hPre_finite_attn := hPre_finite_attn)
    ∧ quiescent_Reference17Ideal (hReference17Ideal := hReference17Ideal)
    ∧ quiescent_Reference17Ideal_pre_finite_attn (hReference17Ideal := hReference17Ideal) (hPre_finite_attn := hPre_finite_attn)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_attn (hKernel17Ideal := hKernel17Ideal) (hReference17Ideal := hReference17Ideal) (hPre_finite_attn := hPre_finite_attn)
    ∧ preserves_Kernel18_Kernel18Ideal
    ∧ algebraic_Kernel18Ideal_Reference18Ideal (hKernel18Ideal := hKernel18Ideal) (hReference18Ideal := hReference18Ideal)
-- ==== Pre_finite.lean ====
abbrev S4096x5632 : Shape := ⟨2, ![4096, 5632]⟩
abbrev S2x4096x5632 : Shape := ⟨3, ![2, 4096, 5632]⟩
abbrev S3x11264 : Shape := ⟨2, ![3, 11264]⟩
abbrev S11264 : Shape := ⟨1, ![11264]⟩
abbrev S_ : Shape := ⟨0, ![]⟩

class Facts : Prop where
  bcast_S_S4096x5632 : S_.BroadcastsInDim S4096x5632 (![] : Fin 0 → Fin S4096x5632.rank)
  bitsLt_bf16_f32 : FTy.bits .bf16 < FTy.bits .f32
  bcast_S_S2x4096x5632 : S_.BroadcastsInDim S2x4096x5632 (![] : Fin 0 → Fin S2x4096x5632.rank)
  bcast_S_S3x11264 : S_.BroadcastsInDim S3x11264 (![] : Fin 0 → Fin S3x11264.rank)
  bcast_S_S11264 : S_.BroadcastsInDim S11264 (![] : Fin 0 → Fin S11264.rank)

variable [Facts]

def fn {F : FTy → Type} [FloatOps F] (main_arg0 : FVec F S4096x5632 .f32) (main_arg1 : FVec F S2x4096x5632 .bf16) (main_arg2 : FVec F S3x11264 .f32) (main_arg3 : FVec F S11264 .f32) : IVec S4096x5632 1 × IVec S2x4096x5632 1 × IVec S3x11264 1 × IVec S11264 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2x4096x5632 .f32 := (extf .f32 · bitsLt_bf16_f32) main_arg1
  let main_v4 : FVec F S2x4096x5632 .f32 := Host.absf main_v3
  let main_cst_0 : FVec F S_ .f32 := constant S_ .f32 0x7F800000#32
  let main_v5 : FVec F S2x4096x5632 .f32 := broadcastInDim S2x4096x5632 ![] bcast_S_S2x4096x5632 main_cst_0
  let main_v6 : IVec S2x4096x5632 1 := cmpf .olt main_v4 main_v5
  let main_v7 : FVec F S3x11264 .f32 := Host.absf main_arg2
  let main_cst_1 : FVec F S_ .f32 := constant S_ .f32 0x7F800000#32
  let main_v8 : FVec F S3x11264 .f32 := broadcastInDim S3x11264 ![] bcast_S_S3x11264 main_cst_1
  let main_v9 : IVec S3x11264 1 := cmpf .olt main_v7 main_v8
  let main_v10 : FVec F S11264 .f32 := Host.absf main_arg3
  let main_cst_2 : FVec F S_ .f32 := constant S_ .f32 0x7F800000#32
  let main_v11 : FVec F S11264 .f32 := broadcastInDim S11264 ![] bcast_S_S11264 main_cst_2
  let main_v12 : IVec S11264 1 := cmpf .olt main_v10 main_v11
  (main_v2, main_v6, main_v9, main_v12)
-- ==== Pre_finite_attn.lean ====
abbrev S4096x2304 : Shape := ⟨2, ![4096, 2304]⟩
abbrev S16 : Shape := ⟨1, ![16]⟩
abbrev S4096x1024 : Shape := ⟨2, ![4096, 1024]⟩
abbrev S_ : Shape := ⟨0, ![]⟩

class Facts : Prop where
  bitsLt_bf16_f32 : FTy.bits .bf16 < FTy.bits .f32
  bcast_S_S4096x2304 : S_.BroadcastsInDim S4096x2304 (![] : Fin 0 → Fin S4096x2304.rank)
  bcast_S_S16 : S_.BroadcastsInDim S16 (![] : Fin 0 → Fin S16.rank)
  bcast_S_S4096x1024 : S_.BroadcastsInDim S4096x1024 (![] : Fin 0 → Fin S4096x1024.rank)

variable [Facts]

def fn {F : FTy → Type} [FloatOps F] (main_arg0 : FVec F S4096x2304 .bf16) (main_arg1 : FVec F S16 .f32) (main_arg2 : FVec F S4096x1024 .bf16) : IVec S4096x2304 1 × IVec S16 1 × IVec S4096x1024 1 :=
  let main_v0 : FVec F S4096x2304 .f32 := (extf .f32 · bitsLt_bf16_f32) main_arg0
  let main_v1 : FVec F S4096x2304 .f32 := Host.absf main_v0
  let main_cst : FVec F S_ .f32 := constant S_ .f32 0x7F800000#32
  let main_v2 : FVec F S4096x2304 .f32 := broadcastInDim S4096x2304 ![] bcast_S_S4096x2304 main_cst
  let main_v3 : IVec S4096x2304 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Kernel.lean ====
abbrev S4096x5632 : Shape := ⟨2, ![4096, 5632]⟩
abbrev S2x4096x5632 : Shape := ⟨3, ![2, 4096, 5632]⟩
abbrev S3x11264 : Shape := ⟨2, ![3, 11264]⟩
abbrev S11264 : Shape := ⟨1, ![11264]⟩
abbrev S3x2x5632 : Shape := ⟨3, ![3, 2, 5632]⟩
abbrev S2x3x5632 : Shape := ⟨3, ![2, 3, 5632]⟩
abbrev S2x1x5632 : Shape := ⟨3, ![2, 1, 5632]⟩
abbrev S256x1408 : Shape := ⟨2, ![256, 1408]⟩
abbrev S2x256x1408 : Shape := ⟨3, ![2, 256, 1408]⟩
abbrev S2x16x1408 : Shape := ⟨3, ![2, 16, 1408]⟩
abbrev S2x3x1408 : Shape := ⟨3, ![2, 3, 1408]⟩
abbrev S2x1x1408 : Shape := ⟨3, ![2, 1, 1408]⟩
abbrev S1x256x1408 : Shape := ⟨3, ![1, 256, 1408]⟩
abbrev S1x16x1408 : Shape := ⟨3, ![1, 16, 1408]⟩
abbrev S16x1408 : Shape := ⟨2, ![16, 1408]⟩
abbrev S1x3x1408 : Shape := ⟨3, ![1, 3, 1408]⟩
abbrev S3x1408 : Shape := ⟨2, ![3, 1408]⟩
abbrev S1x1x1408 : Shape := ⟨3, ![1, 1, 1408]⟩
abbrev S1x1408 : Shape := ⟨2, ![1, 1408]⟩
abbrev S1408 : Shape := ⟨1, ![1408]⟩

abbrev nBuf : Space → Nat
  | .hbm => 14
  | .vmem => 24
  | .smem => 0
  | _ => 0

abbrev bufTy : (tb : Table) → Fin (tcTables nBuf tb) → BufTy
  | .hbm, ⟨0, _⟩ => ⟨S4096x5632, .f32⟩
  | .hbm, ⟨1, _⟩ => ⟨S2x4096x5632, .bf16⟩
  | .hbm, ⟨2, _⟩ => ⟨S3x11264, .f32⟩
  | .hbm, ⟨3, _⟩ => ⟨S11264, .f32⟩
  | .hbm, ⟨4, _⟩ => ⟨S3x2x5632, .f32⟩
  | .hbm, ⟨5, _⟩ => ⟨S2x3x5632, .f32⟩
  | .hbm, ⟨6, _⟩ => ⟨S2x1x5632, .f32⟩
  | .hbm, ⟨7, _⟩ => ⟨S2x4096x5632, .bf16⟩
  | .hbm, ⟨8, _⟩ => ⟨S2x3x5632, .f32⟩
  | .hbm, ⟨9, _⟩ => ⟨S2x1x5632, .f32⟩
  | .hbm, ⟨10, _⟩ => ⟨S3x2x5632, .f32⟩
  | .hbm, ⟨11, _⟩ => ⟨S3x11264, .f32⟩
  | .hbm, ⟨12, _⟩ => ⟨S11264, .f32⟩
  | .hbm, ⟨13, _⟩ => ⟨S2x4096x5632, .bf16⟩
  | .local _ .vmem, ⟨0, _⟩ => ⟨S256x1408, .f32⟩
  | .local _ .vmem, ⟨1, _⟩ => ⟨S256x1408, .f32⟩
  | .local _ .vmem, ⟨2, _⟩ => ⟨S2x256x1408, .bf16⟩
  | .local _ .vmem, ⟨3, _⟩ => ⟨S2x256x1408, .bf16⟩
  | .local _ .vmem, ⟨4, _⟩ => ⟨S2x16x1408, .bf16⟩
  | .local _ .vmem, ⟨5, _⟩ => ⟨S2x16x1408, .bf16⟩
  | .local _ .vmem, ⟨6, _⟩ => ⟨S2x3x1408, .f32⟩
  | .local _ .vmem, ⟨7, _⟩ => ⟨S2x3x1408, .f32⟩
  | .local _ .vmem, ⟨8, _⟩ => ⟨S2x1x1408, .f32⟩
  | .local _ .vmem, ⟨9, _⟩ => ⟨S2x1x1408, .f32⟩
  | .local _ .vmem, ⟨10, _⟩ => ⟨S2x256x1408, .bf16⟩
  | .local _ .vmem, ⟨11, _⟩ => ⟨S2x256x1408, .bf16⟩
  | .local _ .vmem, ⟨12, _⟩ => ⟨S2x3x1408, .f32⟩
  | .local _ .vmem, ⟨13, _⟩ => ⟨S2x3x1408, .f32⟩
  | .local _ .vmem, ⟨14, _⟩ => ⟨S2x1x1408, .f32⟩
  | .local _ .vmem, ⟨15, _⟩ => ⟨S2x1x1408, .f32⟩
  | .local _ .vmem, ⟨16, _⟩ => ⟨S2x256x1408, .bf16⟩
  | .local _ .vmem, ⟨17, _⟩ => ⟨S2x256x1408, .bf16⟩
  | .local _ .vmem, ⟨18, _⟩ => ⟨S2x16x1408, .bf16⟩
  | .local _ .vmem, ⟨19, _⟩ => ⟨S2x16x1408, .bf16⟩
  | .local _ .vmem, ⟨20, _⟩ => ⟨S2x3x1408, .f32⟩
  | .local _ .vmem, ⟨21, _⟩ => ⟨S2x3x1408, .f32⟩
  | .local _ .vmem, ⟨22, _⟩ => ⟨S2x256x1408, .bf16⟩
  | .local _ .vmem, ⟨23, _⟩ => ⟨S2x256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S2x256x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x16x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x3x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x5632 : Shape := ⟨2, ![4096, 5632]⟩
abbrev S2x4096x5632 : Shape := ⟨3, ![2, 4096, 5632]⟩
abbrev S3x11264 : Shape := ⟨2, ![3, 11264]⟩
abbrev S11264 : Shape := ⟨1, ![11264]⟩
abbrev S1x4096x5632 : Shape := ⟨3, ![1, 4096, 5632]⟩
abbrev S4096x11264 : Shape := ⟨2, ![4096, 11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩

abbrev nBuf : Space → Nat
  | .hbm => 152
  | .vmem => 0
  | .smem => 0
  | _ => 0

abbrev hbmTy0_0 (i : Nat) : BufTy := match i % 128 with
  | 0 => ⟨S4096x5632, .f32⟩
  | 1 => ⟨S2x4096x5632, .bf16⟩
  | 2 => ⟨S3x11264, .f32⟩
  | 3 => ⟨S11264, .f32⟩
  | 4 => ⟨S2x4096x5632, .f32⟩
  | 5 => ⟨S1x4096x5632, .f32⟩
  | 6 => ⟨S4096x5632, .f32⟩
  | 7 => ⟨S1x4096x5632, .f32⟩
  | 8 => ⟨S4096x5632, .f32⟩
  | 9 => ⟨S4096x11264, .f32⟩
  | 10 => ⟨S_, .f32⟩
  | 11 => ⟨S2x11264, .f32⟩
  | 12 => ⟨S4098x11264, .f32⟩
  | 13 => ⟨S_, .f32⟩
  | 14 => ⟨S2x11264, .f32⟩
  | 15 => ⟨S4096x11264, .f32⟩
  | 16 => ⟨S1x11264, .f32⟩
  | 17 => ⟨S11264, .f32⟩
  | 18 => ⟨S1x11264, .f32⟩
  | 19 => ⟨S4096x11264, .f32⟩
  | 20 => ⟨S4096x11264, .f32⟩
  | 21 => ⟨S1x11264, .f32⟩
  | 22 => ⟨S4096x11264, .f32⟩
  | 23 => ⟨S4096x11264, .f32⟩
  | 24 => ⟨S4096x11264, .f32⟩
  | 25 => ⟨S1x11264, .f32⟩
  | 26 => ⟨S11264, .f32⟩
  | 27 => ⟨S1x11264, .f32⟩
  | 28 => ⟨S4096x11264, .f32⟩
  | 29 => ⟨S4096x11264, .f32⟩
  | 30 => ⟨S4096x11264, .f32⟩
  | 31 => ⟨S4096x11264, .f32⟩
  | 32 => ⟨S1x11264, .f32⟩
  | 33 => ⟨S11264, .f32⟩
  | 34 => ⟨S1x11264, .f32⟩
  | 35 => ⟨S4096x11264, .f32⟩
  | 36 => ⟨S4096x11264, .f32⟩
  | 37 => ⟨S4096x11264, .f32⟩
  | 38 => ⟨S4096x5632, .f32⟩
  | 39 => ⟨S4096x5632, .f32⟩
  | 40 => ⟨S_, .f32⟩
  | 41 => ⟨S_, .f32⟩
  | 42 => ⟨S_, .f32⟩
  | 43 => ⟨S4096x5632, .f32⟩
  | 44 => ⟨S4096x5632, .f32⟩
  | 45 => ⟨S4096x5632, .f32⟩
  | 46 => ⟨S_, .f32⟩
  | 47 => ⟨S4096x5632, .f32⟩
  | 48 => ⟨S4096x5632, .f32⟩
  | 49 => ⟨S4096x5632, .f32⟩
  | 50 => ⟨S4096x5632, .f32⟩
  | 51 => ⟨S4096x5632, .f32⟩
  | 52 => ⟨S_, .f32⟩
  | 53 => ⟨S4096x5632, .f32⟩
  | 54 => ⟨S4096x5632, .f32⟩
  | 55 => ⟨S4096x5632, .f32⟩
  | 56 => ⟨S_, .f32⟩
  | 57 => ⟨S4096x5632, .f32⟩
  | 58 => ⟨S4096x5632, .f32⟩
  | 59 => ⟨S_, .f32⟩
  | 60 => ⟨S4096x5632, .f32⟩
  | 61 => ⟨S4096x5632, .f32⟩
  | 62 => ⟨S4096x5632, .f32⟩
  | 63 => ⟨S_, .f32⟩
  | 64 => ⟨S4096x5632, .f32⟩
  | 65 => ⟨S4096x5632, .f32⟩
  | 66 => ⟨S_, .f32⟩
  | 67 => ⟨S4096x5632, .f32⟩
  | 68 => ⟨S4096x5632, .f32⟩
  | 69 => ⟨S4096x5632, .f32⟩
  | 70 => ⟨S4096x5632, .f32⟩
  | 71 => ⟨S4096x5632, .f32⟩
  | 72 => ⟨S4096x5632, .f32⟩
  | 73 => ⟨S4096x5632, .f32⟩
  | 74 => ⟨S4096x5632, .f32⟩
  | 75 => ⟨S_, .f32⟩
  | 76 => ⟨S4096x5632, .f32⟩
  | 77 => ⟨S4096x5632, .f32⟩
  | 78 => ⟨S4096x5632, .f32⟩
  | 79 => ⟨S_, .f32⟩
  | 80 => ⟨S4096x5632, .f32⟩
  | 81 => ⟨S4096x5632, .f32⟩
  | 82 => ⟨S4096x5632, .f32⟩
  | 83 => ⟨S4096x5632, .f32⟩
  | 84 => ⟨S4096x5632, .f32⟩
  | 85 => ⟨S4096x5632, .f32⟩
  | 86 => ⟨S4096x5632, .f32⟩
  | 87 => ⟨S_, .f32⟩
  | 88 => ⟨S4096x11264, .f32⟩
  | 89 => ⟨S_, .f32⟩
  | 90 => ⟨S4096x11264, .f32⟩
  | 91 => ⟨S4096x11264, .f32⟩
  | 92 => ⟨S4096x11264, .f32⟩
  | 93 => ⟨S_, .f32⟩
  | 94 => ⟨S11264, .f32⟩
  | 95 => ⟨S1x11264, .f32⟩
  | 96 => ⟨S4096x11264, .f32⟩
  | 97 => ⟨S4096x11264, .f32⟩
  | 98 => ⟨S_, .f32⟩
  | 99 => ⟨S11264, .f32⟩
  | 100 => ⟨S1x11264, .f32⟩
  | 101 => ⟨S_, .f32⟩
  | 102 => ⟨S3x11264, .f32⟩
  | 103 => ⟨S_, .f32⟩
  | 104 => ⟨S4098x11264, .f32⟩
  | 105 => ⟨S4096x11264, .f32⟩
  | 106 => ⟨S_, .f32⟩
  | 107 => ⟨S11264, .f32⟩
  | 108 => ⟨S1x11264, .f32⟩
  | 109 => ⟨S4096x11264, .f32⟩
  | 110 => ⟨S4096x11264, .f32⟩
  | 111 => ⟨S_, .f32⟩
  | 112 => ⟨S11264, .f32⟩
  | 113 => ⟨S1x11264, .f32⟩
  | 114 => ⟨S_, .f32⟩
  | 115 => ⟨S3x11264, .f32⟩
  | 116 => ⟨S3x11264, .f32⟩
  | 117 => ⟨S_, .f32⟩
  | 118 => ⟨S4098x11264, .f32⟩
  | 119 => ⟨S4098x11264, .f32⟩
  | 120 => ⟨S_, .f32⟩
  | 121 => ⟨S11264, .f32⟩
  | 122 => ⟨S1x11264, .f32⟩
  | 123 => ⟨S_, .f32⟩
  | 124 => ⟨S11264, .f32⟩
  | 125 => ⟨S4096x11264, .f32⟩
  | 126 => ⟨S_, .f32⟩
  | 127 => ⟨S11264, .f32⟩
  | _ => ⟨S4096x5632, .f32⟩

abbrev hbmTy0_1 (i : Nat) : BufTy := match i % 128 with
  | 0 => ⟨S1x11264, .f32⟩
  | 1 => ⟨S4096x11264, .f32⟩
  | 2 => ⟨S4096x11264, .f32⟩
  | 3 => ⟨S_, .f32⟩
  | 4 => ⟨S11264, .f32⟩
  | 5 => ⟨S1x11264, .f32⟩
  | 6 => ⟨S_, .f32⟩
  | 7 => ⟨S3x11264, .f32⟩
  | 8 => ⟨S3x11264, .f32⟩
  | 9 => ⟨S_, .f32⟩
  | 10 => ⟨S4098x11264, .f32⟩
  | 11 => ⟨S4098x11264, .f32⟩
  | 12 => ⟨S2x11264, .f32⟩
  | 13 => ⟨S4096x11264, .f32⟩
  | 14 => ⟨S4096x5632, .f32⟩
  | 15 => ⟨S4096x5632, .f32⟩
  | 16 => ⟨S1x4096x5632, .f32⟩
  | 17 => ⟨S_, .f32⟩
  | 18 => ⟨S2x4096x5632, .f32⟩
  | 19 => ⟨S1x4096x5632, .f32⟩
  | 20 => ⟨S_, .f32⟩
  | 21 => ⟨S2x4096x5632, .f32⟩
  | 22 => ⟨S2x4096x5632, .f32⟩
  | 23 => ⟨S2x4096x5632, .bf16⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_13 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_14 : Ref sig .tc := ⟨.hbm, 98, rfl⟩
abbrev main_v79 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_cst_20 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩
abbrev main_cst_25 : Ref sig .tc := ⟨.hbm, 134, rfl⟩
abbrev main_v104 : Ref sig .tc := ⟨.hbm, 135, rfl⟩
abbrev main_v105 : Ref sig .tc := ⟨.hbm, 136, rfl⟩
abbrev main_cst_26 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_27 : Ref sig .tc := ⟨.hbm, 145, rfl⟩
abbrev main_v113 : Ref sig .tc := ⟨.hbm, 146, rfl⟩
abbrev main_v114 : Ref sig .tc := ⟨.hbm, 147, rfl⟩
abbrev main_cst_28 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S5632x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x2048 : Shape := ⟨2, ![4096, 2048]⟩
abbrev S2x4096x5632 : Shape := ⟨3, ![2, 4096, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x4x2816, .f32⟩
  | .hbm, ⟨15, _⟩ => ⟨S4x2048x2816, .f32⟩
  | .hbm, ⟨16, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S2x4096x5632 : Shape := ⟨3, ![2, 4096, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4096x5632 : Shape := ⟨3, ![2, 4096, 5632]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S4096x2048, .f32⟩
  | .hbm, ⟨9, _⟩ => ⟨S4096x11264, .f32⟩
  | .hbm, ⟨10, _⟩ => ⟨S4096x11264, .f32⟩
  | .hbm, ⟨11, _⟩ => ⟨S4096x2048, .f32⟩
  | .hbm, ⟨12, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2304 : Shape := ⟨2, ![4096, 2304]⟩
abbrev S4096x2048 : Shape := ⟨2, ![4096, 2048]⟩
abbrev S2304x2048 : Shape := ⟨2, ![2304, 2048]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2304, .bf16⟩
  | .hbm, ⟨1, _⟩ => ⟨S4096x2048, .bf16⟩
  | .hbm, ⟨2, _⟩ => ⟨S2304x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2304 : Shape := ⟨2, ![4096, 2304]⟩
abbrev S4096x2048 : Shape := ⟨2, ![4096, 2048]⟩
abbrev S4096x1280 : Shape := ⟨2, ![4096, 1280]⟩
abbrev S4096x1024 : Shape := ⟨2, ![4096, 1024]⟩
abbrev S_ : Shape := ⟨0, ![]⟩
abbrev S2048x2304 : Shape := ⟨2, ![2048, 2304]⟩
abbrev S2304x2048 : Shape := ⟨2, ![2304, 2048]⟩
abbrev S2048x1024 : Shape := ⟨2, ![2048, 1024]⟩
abbrev S2048x1280 : Shape := ⟨2, ![2048, 1280]⟩

abbrev nBuf : Space → Nat
  | .hbm => 17
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x2048, .bf16⟩
  | .hbm, ⟨2, _⟩ => ⟨S4096x1280, .bf16⟩
  | .hbm, ⟨3, _⟩ => ⟨S4096x1024, .bf16⟩
  | .hbm, ⟨4, _⟩ => ⟨S4096x2304, .bf16⟩
  | .hbm, ⟨5, _⟩ => ⟨S_, .f32⟩
  | .hbm, ⟨6, _⟩ => ⟨S2048x2304, .f32⟩
  | .hbm, ⟨7, _⟩ => ⟨S4096x2048, .f32⟩
  | .hbm, ⟨8, _⟩ => ⟨S4096x2304, .f32⟩
  | .hbm, ⟨9, _⟩ => ⟨S4096x2304, .f32⟩
  | .hbm, ⟨10, _⟩ => ⟨S2304x2048, .f32⟩
  | .hbm, ⟨11, _⟩ => ⟨S2048x2304, .f32⟩
  | .hbm, ⟨12, _⟩ => ⟨S2048x1024, .f32⟩
  | .hbm, ⟨13, _⟩ => ⟨S2048x1280, .f32⟩
  | .hbm, ⟨14, _⟩ => ⟨S2048x2304, .f32⟩
  | .hbm, ⟨15, _⟩ => ⟨S2304x2048, .f32⟩
  | .hbm, ⟨16, _⟩ => ⟨S2304x2048, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S4096x2304 : Shape := ⟨2, ![4096, 2304]⟩
abbrev S2048x2304 : Shape := ⟨2, ![2048, 2304]⟩
abbrev S2304x2048 : Shape := ⟨2, ![2304, 2048]⟩
abbrev S1024x2048 : Shape := ⟨2, ![1024, 2048]⟩
abbrev S1280x2048 : Shape := ⟨2, ![1280, 2048]⟩
abbrev S4096x2048 : Shape := ⟨2, ![4096, 2048]⟩
abbrev S1024x2304 : Shape := ⟨2, ![1024, 2304]⟩
abbrev S2304x1024 : Shape := ⟨2, ![2304, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x2304, .bf16⟩
  | .hbm, ⟨1, _⟩ => ⟨S2048x2304, .f32⟩
  | .hbm, ⟨2, _⟩ => ⟨S2048x2304, .bf16⟩
  | .hbm, ⟨3, _⟩ => ⟨S2304x2048, .bf16⟩
  | .hbm, ⟨4, _⟩ => ⟨S1024x2048, .bf16⟩
  | .hbm, ⟨5, _⟩ => ⟨S1280x2048, .bf16⟩
  | .hbm, ⟨6, _⟩ => ⟨S2304x2048, .bf16⟩
  | .hbm, ⟨7, _⟩ => ⟨S4096x2048, .bf16⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2304 : Shape := ⟨2, ![4096, 2304]⟩
abbrev S2048x2304 : Shape := ⟨2, ![2048, 2304]⟩
abbrev S4096x1280 : Shape := ⟨2, ![4096, 1280]⟩
abbrev S4096x1024 : Shape := ⟨2, ![4096, 1024]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S2048x2304, .f32⟩
  | .hbm, ⟨2, _⟩ => ⟨S4096x1280, .bf16⟩
  | .hbm, ⟨3, _⟩ => ⟨S4096x1024, .bf16⟩
  | .hbm, ⟨4, _⟩ => ⟨S4096x2304, .bf16⟩
  | .hbm, ⟨5, _⟩ => ⟨S_, .f32⟩
  | .hbm, ⟨6, _⟩ => ⟨S4096x2048, .f32⟩
  | .hbm, ⟨7, _⟩ => ⟨S4096x2304, .f32⟩
  | .hbm, ⟨8, _⟩ => ⟨S4096x2304, .f32⟩
  | .hbm, ⟨9, _⟩ => ⟨S4096x2048, .f32⟩
  | .hbm, ⟨10, _⟩ => ⟨S4096x2048, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x2304 : Shape := ⟨2, ![2048, 2304]⟩
abbrev S2304x2048 : Shape := ⟨2, ![2304, 2048]⟩
abbrev S1024x2048 : Shape := ⟨2, ![1024, 2048]⟩
abbrev S1280x2048 : Shape := ⟨2, ![1280, 2048]⟩
abbrev S4096x2304 : Shape := ⟨2, ![4096, 2304]⟩
abbrev S1152x2048 : Shape := ⟨2, ![1152, 2048]⟩
abbrev S1024x1152 : Shape := ⟨2, ![1024, 1152]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2304, .f32⟩
  | .hbm, ⟨2, _⟩ => ⟨S2048x2304, .bf16⟩
  | .hbm, ⟨3, _⟩ => ⟨S2304x2048, .bf16⟩
  | .hbm, ⟨4, _⟩ => ⟨S1024x2048, .bf16⟩
  | .hbm, ⟨5, _⟩ => ⟨S1280x2048, .bf16⟩
  | .hbm, ⟨6, _⟩ => ⟨S2304x2048, .bf16⟩
  | .hbm, ⟨7, _⟩ => ⟨S4096x2304, .bf16⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .bf16⟩
  | .local _ .vmem, ⟨5, _⟩ => ⟨S1024x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2304 : Shape := ⟨2, ![2048, 2304]⟩
abbrev S4096x2304 : Shape := ⟨2, ![4096, 2304]⟩
abbrev S4096x1024 : Shape := ⟨2, ![4096, 1024]⟩
abbrev S4096x1280 : Shape := ⟨2, ![4096, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2304, .f32⟩
  | .hbm, ⟨2, _⟩ => ⟨S4096x2048, .f32⟩
  | .hbm, ⟨3, _⟩ => ⟨S4096x2304, .f32⟩
  | .hbm, ⟨4, _⟩ => ⟨S4096x1024, .f32⟩
  | .hbm, ⟨5, _⟩ => ⟨S4096x1280, .f32⟩
  | .hbm, ⟨6, _⟩ => ⟨S4096x2304, .f32⟩
  | .hbm, ⟨7, _⟩ => ⟨S4096x2304, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S1x4096x5632, .f32⟩
  | .hbm, ⟨7, _⟩ => ⟨S1x4096x5632, .f32⟩
  | .hbm, ⟨8, _⟩ => ⟨S2x4096x5632, .f32⟩
  | .hbm, ⟨9, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel16.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S5632x2048, .bf16⟩
  | .hbm, ⟨3, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x5632, .f32⟩
  | .hbm, ⟨3, _⟩ => ⟨S4096x2048, .f32⟩
  | .hbm, ⟨4, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x2304 : Shape := ⟨2, ![4096, 2304]⟩
abbrev S16 : Shape := ⟨1, ![16]⟩
abbrev S4096x1024 : Shape := ⟨2, ![4096, 1024]⟩
abbrev S4096x128 : Shape := ⟨2, ![4096, 128]⟩
abbrev S_ : Shape := ⟨0, ![]⟩
abbrev S128x128 : Shape := ⟨2, ![128, 128]⟩
abbrev S3968x128 : Shape := ⟨2, ![3968, 128]⟩
abbrev S32x128x2x8x64 : Shape := ⟨5, ![32, 128, 2, 8, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S4096x256 : Shape := ⟨2, ![4096, 256]⟩
abbrev S1x16 : Shape := ⟨2, ![1, 16]⟩
abbrev S128x1024 : Shape := ⟨2, ![128, 1024]⟩
abbrev S1024x256 : Shape := ⟨2, ![1024, 256]⟩
abbrev S128x64 : Shape := ⟨2, ![128, 64]⟩
abbrev S256x64 : Shape := ⟨2, ![256, 64]⟩
abbrev S1024x64 : Shape := ⟨2, ![1024, 64]⟩
abbrev S1 : Shape := ⟨1, ![1]⟩
abbrev S1024x1 : Shape := ⟨2, ![1024, 1]⟩
abbrev S1024 : Shape := ⟨1, ![1024]⟩
abbrev S1x128x1 : Shape := ⟨3, ![1, 128, 1]⟩
abbrev S1x1x1 : Shape := ⟨3, ![1, 1, 1]⟩

abbrev nBuf : Space → Nat
  | .hbm => 92
  | .vmem => 17
  | .smem => 1
  | _ => 0

abbrev bufTy : (tb : Table) → Fin (tcTables nBuf tb) → BufTy
  | .hbm, ⟨0, _⟩ => ⟨S4096x2304, .bf16⟩
  | .hbm, ⟨1, _⟩ => ⟨S16, .f32⟩
  | .hbm, ⟨2, _⟩ => ⟨S4096x1024, .bf16⟩
  | .hbm, ⟨3, _⟩ => ⟨S4096x2304, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S128x128, .f32⟩
  | .hbm, ⟨9, _⟩ => ⟨S3968x128, .f32⟩
  | .hbm, ⟨10, _⟩ => ⟨S4096x128, .f32⟩
  | .hbm, ⟨11, _⟩ => ⟨S_, .f32⟩
  | .hbm, ⟨12, _⟩ => ⟨S128x128, .f32⟩
  | .hbm, ⟨13, _⟩ => ⟨S3968x128, .f32⟩
  | .hbm, ⟨14, _⟩ => ⟨S4096x128, .f32⟩
  | .hbm, ⟨15, _⟩ => ⟨S32x128x2x8x64, .f32⟩
  | .hbm, ⟨16, _⟩ => ⟨S32x128x2x64, .f32⟩
  | .hbm, ⟨17, _⟩ => ⟨S32x128x2x64, .f32⟩
  | .hbm, ⟨18, _⟩ => ⟨S32x256x2x64, .f32⟩
  | .hbm, ⟨19, _⟩ => ⟨S32x128x2x64, .f32⟩
  | .hbm, ⟨20, _⟩ => ⟨S32x128x2x64, .f32⟩
  | .hbm, ⟨21, _⟩ => ⟨S32x256x2x64, .f32⟩
  | .hbm, ⟨22, _⟩ => ⟨S32x2x256x128x8, .f32⟩
  | .hbm, ⟨23, _⟩ => ⟨S32x2x8x128x256, .f32⟩
  | .hbm, ⟨24, _⟩ => ⟨S_, .f32⟩
  | .hbm, ⟨25, _⟩ => ⟨S32x2x8x128x256, .f32⟩
  | .hbm, ⟨26, _⟩ => ⟨S32x2x8x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S32, .i32⟩
  | .hbm, ⟨42, _⟩ => ⟨S32x1x1, .i32⟩
  | .hbm, ⟨43, _⟩ => ⟨S1x128x256, .i1⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S1x1x256, .i32⟩
  | .hbm, ⟨48, _⟩ => ⟨S32x1x256, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i32⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S32x1x1x128x256, .i1⟩
  | .hbm, ⟨61, _⟩ => ⟨S_, .f32⟩
  | .hbm, ⟨62, _⟩ => ⟨S_, .f32⟩
  | .hbm, ⟨63, _⟩ => ⟨S32x2x8x128x256, .i1⟩
  | .hbm, ⟨64, _⟩ => ⟨S32x2x8x128x256, .f32⟩
  | .hbm, ⟨65, _⟩ => ⟨S32x2x8x128x256, .f32⟩
  | .hbm, ⟨66, _⟩ => ⟨S1x2x8x1x1, .f32⟩
  | .hbm, ⟨67, _⟩ => ⟨S_, .f32⟩
  | .hbm, ⟨68, _⟩ => ⟨S32x2x8x128, .f32⟩
  | .hbm, ⟨69, _⟩ => ⟨S32x2x8x128x1, .f32⟩
  | .hbm, ⟨70, _⟩ => ⟨S32x2x8x128x1, .f32⟩
  | .hbm, ⟨71, _⟩ => ⟨S32x2x8x128x1, .f32⟩
  | .hbm, ⟨72, _⟩ => ⟨S32x2x8x128x256, .f32⟩
  | .hbm, ⟨73, _⟩ => ⟨S32x2x8x128x256, .f32⟩
  | .hbm, ⟨74, _⟩ => ⟨S32x2x8x128x256, .f32⟩
  | .hbm, ⟨75, _⟩ => ⟨S_, .f32⟩
  | .hbm, ⟨76, _⟩ => ⟨S32x2x8x128, .f32⟩
  | .hbm, ⟨77, _⟩ => ⟨S32x2x8x128x1, .f32⟩
  | .hbm, ⟨78, _⟩ => ⟨S32x2x8x128x1, .f32⟩
  | .hbm, ⟨79, _⟩ => ⟨S32x2x8x128x1, .f32⟩
  | .hbm, ⟨80, _⟩ => ⟨S32x2x8x128x1, .f32⟩
  | .hbm, ⟨81, _⟩ => ⟨S32x2x8x128x1, .f32⟩
  | .hbm, ⟨82, _⟩ => ⟨S32x2x8x128x256, .f32⟩
  | .hbm, ⟨83, _⟩ => ⟨S32x2x8x128x256, .f32⟩
  | .hbm, ⟨84, _⟩ => ⟨S32x2x64x8x128, .f32⟩
  | .hbm, ⟨85, _⟩ => ⟨S32x128x2x8x64, .f32⟩
  | .hbm, ⟨86, _⟩ => ⟨S4096x1024, .f32⟩
  | .hbm, ⟨87, _⟩ => ⟨S4096x1024, .bf16⟩
  | .hbm, ⟨88, _⟩ => ⟨S4096x1024, .bf16⟩
  | .hbm, ⟨89, _⟩ => ⟨S4096x256, .f32⟩
  | .hbm, ⟨90, _⟩ => ⟨S4096x256, .f32⟩
  | .hbm, ⟨91, _⟩ => ⟨S1x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S1x16, .f32⟩
  | .local _ .smem, ⟨0, _⟩ => ⟨S16, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72_0 : Ref sig .tc := ⟨.hbm, 88, rfl⟩
abbrev main_v72_1 : Ref sig .tc := ⟨.hbm, 89, rfl⟩
abbrev main_v72_2 : Ref sig .tc := ⟨.hbm, 90, rfl⟩
abbrev main_v72_3 : Ref sig .tc := ⟨.hbm, 91, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_211 : BitVec 32 := 0#32
  let v463 : BitVec 1 := Scalar.cmpi .eq arg0 c0_i32_211
  let v464 : BitVec 32 := Scalar.extui v463
  let c0_i32_212 : BitVec 32 := 0#32
  let v465 : BitVec 1 := Scalar.cmpi .ne v464 c0_i32_212
  v465

def k0_cond2 (i : grid0.Coords) : BitVec 1 :=
  let arg0 : BitVec 32 := BitVec.ofNat 32 (i 0).val
  let c0_i32_213 : BitVec 32 := 0#32
  let v466 : BitVec 1 := Scalar.cmpi .sgt arg0 c0_i32_213
  let v467 : BitVec 32 := Scalar.extui v466
  let c0_i32_214 : BitVec 32 := 0#32
  let v468 : BitVec 1 := Scalar.cmpi .ne v467 c0_i32_214
  v468

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel17Ideal.lean ====
variable {F : FTy → Type} [FloatOps F] [Named F]
def κ : String → Option EReal := fun
  | "mask" => some ⊥
  | _ => none
-- ==== Reference17Ideal.lean ====
abbrev S4096x2304 : Shape := ⟨2, ![4096, 2304]⟩
abbrev S16 : Shape := ⟨1, ![16]⟩
abbrev S4096x1024 : Shape := ⟨2, ![4096, 1024]⟩
abbrev S4096x128 : Shape := ⟨2, ![4096, 128]⟩
abbrev S_ : Shape := ⟨0, ![]⟩
abbrev S128x128 : Shape := ⟨2, ![128, 128]⟩
abbrev S3968x128 : Shape := ⟨2, ![3968, 128]⟩
abbrev S32x128x2x8x64 : Shape := ⟨5, ![32, 128, 2, 8, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x2x64x256 : Shape := ⟨4, ![32, 2, 64, 256]⟩
abbrev S2x8x1 : Shape := ⟨3, ![2, 8, 1]⟩
abbrev S32x2x128x8x64 : Shape := ⟨5, ![32, 2, 128, 8, 64]⟩
abbrev S32x2x256x64 : Shape := ⟨4, ![32, 2, 256, 64]⟩
abbrev S4096x256 : Shape := ⟨2, ![4096, 256]⟩
abbrev S1x16 : Shape := ⟨2, ![1, 16]⟩

abbrev nBuf : Space → Nat
  | .hbm => 190
  | .vmem => 0
  | .smem => 0
  | _ => 0

abbrev hbmTy0_0 (i : Nat) : BufTy := match i % 128 with
  | 0 => ⟨S4096x2304, .bf16⟩
  | 1 => ⟨S16, .f32⟩
  | 2 => ⟨S4096x1024, .bf16⟩
  | 3 => ⟨S4096x2304, .f32⟩
  | 4 => ⟨S4096x1024, .f32⟩
  | 5 => ⟨S4096x128, .f32⟩
  | 6 => ⟨S4096x128, .f32⟩
  | 7 => ⟨S_, .f32⟩
  | 8 => ⟨S128x128, .f32⟩
  | 9 => ⟨S3968x128, .f32⟩
  | 10 => ⟨S4096x128, .f32⟩
  | 11 => ⟨S_, .f32⟩
  | 12 => ⟨S128x128, .f32⟩
  | 13 => ⟨S3968x128, .f32⟩
  | 14 => ⟨S4096x128, .f32⟩
  | 15 => ⟨S32x128x2x8x64, .f32⟩
  | 16 => ⟨S32x128x2x64, .f32⟩
  | 17 => ⟨S32x128x2x64, .f32⟩
  | 18 => ⟨S32x256x2x64, .f32⟩
  | 19 => ⟨S32x128x2x64, .f32⟩
  | 20 => ⟨S32x128x2x64, .f32⟩
  | 21 => ⟨S32x256x2x64, .f32⟩
  | 22 => ⟨S32x2x256x128x8, .f32⟩
  | 23 => ⟨S32x2x8x128x256, .f32⟩
  | 24 => ⟨S_, .f32⟩
  | 25 => ⟨S32x2x8x128x256, .f32⟩
  | 26 => ⟨S32x2x8x128x256, .f32⟩
  | 27 => ⟨S128, .i32⟩
  | 28 => ⟨S128x1, .i32⟩
  | 29 => ⟨S256, .i32⟩
  | 30 => ⟨S1x256, .i32⟩
  | 31 => ⟨S128x256, .i32⟩
  | 32 => ⟨S128x256, .i32⟩
  | 33 => ⟨S128x256, .i1⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i1⟩
  | 40 => ⟨S128x256, .i1⟩
  | 41 => ⟨S32, .i32⟩
  | 42 => ⟨S32x1x1, .i32⟩
  | 43 => ⟨S1x128x256, .i1⟩
  | 44 => ⟨S_, .i32⟩
  | 45 => ⟨S32x1x1, .i32⟩
  | 46 => ⟨S32x1x1, .i32⟩
  | 47 => ⟨S1x1x256, .i32⟩
  | 48 => ⟨S32x1x256, .i32⟩
  | 49 => ⟨S32x1x256, .i32⟩
  | 50 => ⟨S32x1x256, .i32⟩
  | 51 => ⟨S_, .i32⟩
  | 52 => ⟨S32x1x256, .i32⟩
  | 53 => ⟨S32x1x256, .i32⟩
  | 54 => ⟨S_, .i32⟩
  | 55 => ⟨S32x1x256, .i32⟩
  | 56 => ⟨S32x1x256, .i1⟩
  | 57 => ⟨S32x128x256, .i1⟩
  | 58 => ⟨S32x128x256, .i1⟩
  | 59 => ⟨S32x128x256, .i1⟩
  | 60 => ⟨S32x1x1x128x256, .i1⟩
  | 61 => ⟨S_, .f32⟩
  | 62 => ⟨S_, .f32⟩
  | 63 => ⟨S32x2x8x128x256, .i1⟩
  | 64 => ⟨S32x2x8x128x256, .f32⟩
  | 65 => ⟨S32x2x8x128x256, .f32⟩
  | 66 => ⟨S_, .f32⟩
  | 67 => ⟨S32x2x8x128x256, .f32⟩
  | 68 => ⟨S1x2x8x1x1, .f32⟩
  | 69 => ⟨S_, .f32⟩
  | 70 => ⟨S32x2x8x128, .f32⟩
  | 71 => ⟨S32x2x8x128x1, .f32⟩
  | 72 => ⟨S32x2x8x128x256, .f32⟩
  | 73 => ⟨S32x2x8x128x256, .i1⟩
  | 74 => ⟨S32x2x8x128x256, .f32⟩
  | 75 => ⟨S_, .f32⟩
  | 76 => ⟨S32x2x8x128, .f32⟩
  | 77 => ⟨S32x2x8x128x1, .f32⟩
  | 78 => ⟨S32x2x8x128x1, .f32⟩
  | 79 => ⟨S32x2x8x128x1, .f32⟩
  | 80 => ⟨S32x2x8x128x1, .f32⟩
  | 81 => ⟨S32x2x8x128x1, .i1⟩
  | 82 => ⟨S32x2x8x128x1, .f32⟩
  | 83 => ⟨S32x2x8x128x1, .i1⟩
  | 84 => ⟨S_, .f32⟩
  | 85 => ⟨S32x2x8x128x1, .f32⟩
  | 86 => ⟨S_, .f32⟩
  | 87 => ⟨S32x2x8x128x1, .f32⟩
  | 88 => ⟨S_, .f32⟩
  | 89 => ⟨S32x2x8x128x1, .f32⟩
  | 90 => ⟨S32x2x8x128x1, .f32⟩
  | 91 => ⟨S32x2x8x128x1, .f32⟩
  | 92 => ⟨S32x2x8x128x1, .f32⟩
  | 93 => ⟨S32x2x8x128x1, .i1⟩
  | 94 => ⟨S32x2x8x128x1, .f32⟩
  | 95 => ⟨S32x2x8x128x1, .i1⟩
  | 96 => ⟨S_, .f32⟩
  | 97 => ⟨S32x2x8x128x1, .f32⟩
  | 98 => ⟨S_, .f32⟩
  | 99 => ⟨S32x2x8x128x1, .f32⟩
  | 100 => ⟨S_, .f32⟩
  | 101 => ⟨S32x2x8x128x1, .f32⟩
  | 102 => ⟨S32x2x8x128x1, .f32⟩
  | 103 => ⟨S32x2x8x128x1, .f32⟩
  | 104 => ⟨S32x2x8x128x256, .f32⟩
  | 105 => ⟨S32x2x8x128x256, .f32⟩
  | 106 => ⟨S32x2x8x128x256, .f32⟩
  | 107 => ⟨S_, .f32⟩
  | 108 => ⟨S32x2x8x128, .f32⟩
  | 109 => ⟨S32x2x8x128x1, .f32⟩
  | 110 => ⟨S32x2x8x128x1, .f32⟩
  | 111 => ⟨S32x2x8x128x1, .f32⟩
  | 112 => ⟨S32x2x8x128x1, .f32⟩
  | 113 => ⟨S32x2x8x128x1, .f32⟩
  | 114 => ⟨S32x2x8x128x256, .f32⟩
  | 115 => ⟨S32x2x8x128x256, .f32⟩
  | 116 => ⟨S32x2x8x128x1, .f32⟩
  | 117 => ⟨S_, .f32⟩
  | 118 => ⟨S32x2x8x128x1, .f32⟩
  | 119 => ⟨S32x2x8x128x1, .f32⟩
  | 120 => ⟨S32x2x64x8x128, .f32⟩
  | 121 => ⟨S32x128x2x8x64, .f32⟩
  | 122 => ⟨S4096x1024, .f32⟩
  | 123 => ⟨S4096x1024, .f32⟩
  | 124 => ⟨S32x128x2x8x64, .f32⟩
  | 125 => ⟨S32x2x64x8x128, .f32⟩
  | 126 => ⟨S32x2x8x128x256, .f32⟩
  | 127 => ⟨S32x2x64x256, .f32⟩
  | _ => ⟨S4096x2304, .bf16⟩

abbrev hbmTy0_1 (i : Nat) : BufTy := match i % 128 with
  | 0 => ⟨S32x256x2x64, .f32⟩
  | 1 => ⟨S32x2x8x128x256, .f32⟩
  | 2 => ⟨S32x2x8x128x256, .f32⟩
  | 3 => ⟨S32x2x8x128x256, .f32⟩
  | 4 => ⟨S_, .f32⟩
  | 5 => ⟨S32x2x8x128, .f32⟩
  | 6 => ⟨S32x2x8x128x1, .f32⟩
  | 7 => ⟨S32x2x8x128x1, .f32⟩
  | 8 => ⟨S32x2x8x128x256, .f32⟩
  | 9 => ⟨S32x2x8x128x256, .f32⟩
  | 10 => ⟨S32x2x8x128x1, .f32⟩
  | 11 => ⟨S_, .f32⟩
  | 12 => ⟨S2x8x1, .f32⟩
  | 13 => ⟨S1x2x8x1x1, .f32⟩
  | 14 => ⟨S32x2x8x128x1, .f32⟩
  | 15 => ⟨S_, .f32⟩
  | 16 => ⟨S32x2x8x128, .f32⟩
  | 17 => ⟨S32x2x8x128x256, .f32⟩
  | 18 => ⟨S32x2x8x128x256, .f32⟩
  | 19 => ⟨S32x2x8x128x256, .f32⟩
  | 20 => ⟨S32x2x8x128x256, .f32⟩
  | 21 => ⟨S_, .f32⟩
  | 22 => ⟨S32x2x8x128, .f32⟩
  | 23 => ⟨S32x2x8x128x1, .f32⟩
  | 24 => ⟨S32x2x8x128x1, .f32⟩
  | 25 => ⟨S32x2x8x128x1, .f32⟩
  | 26 => ⟨S_, .f32⟩
  | 27 => ⟨S2x8x1, .f32⟩
  | 28 => ⟨S1x2x8x1x1, .f32⟩
  | 29 => ⟨S1x2x8x1x1, .f32⟩
  | 30 => ⟨S32x2x8x128x1, .f32⟩
  | 31 => ⟨S_, .f32⟩
  | 32 => ⟨S32x2x8x128, .f32⟩
  | 33 => ⟨S32x2x8x128, .f32⟩
  | 34 => ⟨S32x2x8x128x256, .f32⟩
  | 35 => ⟨S32x2x8x128x256, .f32⟩
  | 36 => ⟨S32x2x8x128x256, .f32⟩
  | 37 => ⟨S16, .f32⟩
  | 38 => ⟨S_, .f32⟩
  | 39 => ⟨S32x2x8x128x256, .f32⟩
  | 40 => ⟨S32x2x8x128x256, .f32⟩
  | 41 => ⟨S_, .f32⟩
  | 42 => ⟨S32x2x8x128x256, .f32⟩
  | 43 => ⟨S32x2x8x128x256, .f32⟩
  | 44 => ⟨S32x2x256x128x8, .f32⟩
  | 45 => ⟨S32x2x128x8x64, .f32⟩
  | 46 => ⟨S32x128x2x8x64, .f32⟩
  | 47 => ⟨S32x2x256x64, .f32⟩
  | 48 => ⟨S32x256x2x64, .f32⟩
  | 49 => ⟨S32x128x2x64, .f32⟩
  | 50 => ⟨S32x128x2x64, .f32⟩
  | 51 => ⟨S4096x128, .f32⟩
  | 52 => ⟨S4096x128, .f32⟩
  | 53 => ⟨S32x128x2x64, .f32⟩
  | 54 => ⟨S32x128x2x64, .f32⟩
  | 55 => ⟨S4096x128, .f32⟩
  | 56 => ⟨S4096x128, .f32⟩
  | 57 => ⟨S4096x1024, .f32⟩
  | 58 => ⟨S4096x1024, .bf16⟩
  | 59 => ⟨S4096x256, .f32⟩
  | 60 => ⟨S4096x256, .f32⟩
  | 61 => ⟨S1x16, .f32⟩
  | _ => ⟨S4096x2304, .bf16⟩

abbrev hbmTy (i : Nat) : BufTy := match i / 128 with
  | 0 => hbmTy0_0 i
  | 1 => hbmTy0_1 i
  | _ => ⟨S4096x2304, .bf16⟩

abbrev bufTy : (tb : Table) → Fin (tcTables nBuf tb) → BufTy
  | .hbm, ⟨i, _⟩ => hbmTy i
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_call0_v0 : Ref sig .tc := ⟨.hbm, 62, rfl⟩
abbrev main_v51_1 : Ref sig .tc := ⟨.hbm, 63, rfl⟩
abbrev main_call0_v2 : Ref sig .tc := ⟨.hbm, 64, rfl⟩
abbrev main_v51_0 : Ref sig .tc := ⟨.hbm, 65, rfl⟩
abbrev main_call0_cst : Ref sig .tc := ⟨.hbm, 66, rfl⟩
abbrev main_v51_2 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_16 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_17 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_18 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_19 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_20 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_21 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_call1_cst : Ref sig .tc := ⟨.hbm, 166, rfl⟩
abbrev main_call1_v0 : Ref sig .tc := ⟨.hbm, 167, rfl⟩
abbrev main_v134 : Ref sig .tc := ⟨.hbm, 168, rfl⟩
abbrev main_cst_22 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩

abbrev nD : Nat := 1
abbrev τ : Topo := Topo.v7x

variable {F : FTy → Type} [FloatOps F]
-- ==== Kernel18.lean ====
abbrev S4096x2304 : Shape := ⟨2, ![4096, 2304]⟩
abbrev S16 : Shape := ⟨1, ![16]⟩
abbrev S4096x1024 : Shape := ⟨2, ![4096, 1024]⟩
abbrev S128x1024 : Shape := ⟨2, ![128, 1024]⟩
abbrev S128x256 : Shape := ⟨2, ![128, 256]⟩
abbrev S1024x256 : Shape := ⟨2, ![1024, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 8
  | .smem => 1
  | _ => 0

abbrev bufTy : (tb : Table) → Fin (tcTables nBuf tb) → BufTy
  | .hbm, ⟨0, _⟩ => ⟨S4096x2304, .bf16⟩
  | .hbm, ⟨1, _⟩ => ⟨S16, .f32⟩
  | .hbm, ⟨2, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .smem, ⟨0, _⟩ => ⟨S16, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel18Ideal.lean ====
variable {F : FTy → Type} [FloatOps F] [Named F]
def κ : String → Option EReal := fun
  | "mask" => some ⊥
  | _ => none
-- ==== Reference18Ideal.lean ====
abbrev S4096x2304 : Shape := ⟨2, ![4096, 2304]⟩
abbrev S16 : Shape := ⟨1, ![16]⟩
abbrev S4096x1024 : Shape := ⟨2, ![4096, 1024]⟩
abbrev S4096x128 : Shape := ⟨2, ![4096, 128]⟩
abbrev S_ : Shape := ⟨0, ![]⟩
abbrev S128x128 : Shape := ⟨2, ![128, 128]⟩
abbrev S3968x128 : Shape := ⟨2, ![3968, 128]⟩
abbrev S32x128x2x8x64 : Shape := ⟨5, ![32, 128, 2, 8, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S16, .f32⟩
  | .hbm, ⟨2, _⟩ => ⟨S4096x2304, .f32⟩
  | .hbm, ⟨3, _⟩ => ⟨S4096x1024, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S128x128, .f32⟩
  | .hbm, ⟨8, _⟩ => ⟨S3968x128, .f32⟩
  | .hbm, ⟨9, _⟩ => ⟨S4096x128, .f32⟩
  | .hbm, ⟨10, _⟩ => ⟨S_, .f32⟩
  | .hbm, ⟨11, _⟩ => ⟨S128x128, .f32⟩
  | .hbm, ⟨12, _⟩ => ⟨S3968x128, .f32⟩
  | .hbm, ⟨13, _⟩ => ⟨S4096x128, .f32⟩
  | .hbm, ⟨14, _⟩ => ⟨S32x128x2x8x64, .f32⟩
  | .hbm, ⟨15, _⟩ => ⟨S32x128x2x64, .f32⟩
  | .hbm, ⟨16, _⟩ => ⟨S32x128x2x64, .f32⟩
  | .hbm, ⟨17, _⟩ => ⟨S32x256x2x64, .f32⟩
  | .hbm, ⟨18, _⟩ => ⟨S32x128x2x64, .f32⟩
  | .hbm, ⟨19, _⟩ => ⟨S32x128x2x64, .f32⟩
  | .hbm, ⟨20, _⟩ => ⟨S32x256x2x64, .f32⟩
  | .hbm, ⟨21, _⟩ => ⟨S32x2x256x128x8, .f32⟩
  | .hbm, ⟨22, _⟩ => ⟨S32x2x8x128x256, .f32⟩
  | .hbm, ⟨23, _⟩ => ⟨S_, .f32⟩
  | .hbm, ⟨24, _⟩ => ⟨S32x2x8x128x256, .f32⟩
  | .hbm, ⟨25, _⟩ => ⟨S32x2x8x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S32, .i32⟩
  | .hbm, ⟨41, _⟩ => ⟨S32x1x1, .i32⟩
  | .hbm, ⟨42, _⟩ => ⟨S1x128x256, .i1⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S32x1x256, .i32⟩
  | .hbm, ⟨52, _⟩ => ⟨S32x1x256, .i32⟩
  | .hbm, ⟨53, _⟩ => ⟨S_, .i32⟩
  | .hbm, ⟨54, _⟩ => ⟨S32x1x256, .i32⟩
  | .hbm, ⟨55, _⟩ => ⟨S32x1x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S32x1x1x128x256, .i1⟩
  | .hbm, ⟨60, _⟩ => ⟨S_, .f32⟩
  | .hbm, ⟨61, _⟩ => ⟨S_, .f32⟩
  | .hbm, ⟨62, _⟩ => ⟨S32x2x8x128x256, .i1⟩
  | .hbm, ⟨63, _⟩ => ⟨S32x2x8x128x256, .f32⟩
  | .hbm, ⟨64, _⟩ => ⟨S32x2x8x128x256, .f32⟩
  | .hbm, ⟨65, _⟩ => ⟨S1x2x8x1x1, .f32⟩
  | .hbm, ⟨66, _⟩ => ⟨S_, .f32⟩
  | .hbm, ⟨67, _⟩ => ⟨S32x2x8x128, .f32⟩
  | .hbm, ⟨68, _⟩ => ⟨S32x2x8x128x1, .f32⟩
  | .hbm, ⟨69, _⟩ => ⟨S32x2x8x128x1, .f32⟩
  | .hbm, ⟨70, _⟩ => ⟨S32x2x8x128x1, .f32⟩
  | .hbm, ⟨71, _⟩ => ⟨S32x2x8x128x256, .f32⟩
  | .hbm, ⟨72, _⟩ => ⟨S32x2x8x128x256, .f32⟩
  | .hbm, ⟨73, _⟩ => ⟨S32x2x8x128x256, .f32⟩
  | .hbm, ⟨74, _⟩ => ⟨S_, .f32⟩
  | .hbm, ⟨75, _⟩ => ⟨S32x2x8x128, .f32⟩
  | .hbm, ⟨76, _⟩ => ⟨S32x2x8x128x1, .f32⟩
  | .hbm, ⟨77, _⟩ => ⟨S32x2x8x128x1, .f32⟩
  | .hbm, ⟨78, _⟩ => ⟨S32x2x8x128x1, .f32⟩
  | .hbm, ⟨79, _⟩ => ⟨S32x2x8x128x1, .f32⟩
  | .hbm, ⟨80, _⟩ => ⟨S32x2x8x128x1, .f32⟩
  | .hbm, ⟨81, _⟩ => ⟨S32x2x8x128x256, .f32⟩
  | .hbm, ⟨82, _⟩ => ⟨S32x2x8x128x256, .f32⟩
  | .hbm, ⟨83, _⟩ => ⟨S32x2x64x8x128, .f32⟩
  | .hbm, ⟨84, _⟩ => ⟨S32x128x2x8x64, .f32⟩
  | .hbm, ⟨85, _⟩ => ⟨S4096x1024, .f32⟩
  | .hbm, ⟨86, _⟩ => ⟨S4096x1024, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_3 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== Proof.Blocks.lean ====
module

public import Idealize.ShloMosaic.Lib.Pointwise
public import Idealize.ShloMosaic.Lib.Pipeline.Value

@[expose] public section

/-! Indices of blocks cut out of a rank-three array, and a select on a row number. -/

namespace Cert.Blocks

open Idealize.ShloMosaic

/-- An index of a block with one leading coordinate. -/
theorem exists_ix3_1 {m n : Nat} (x : (⟨3, ![1, m, n]⟩ : Shape).Idx) : ∃ (a : Fin m) (b : Fin n), x = ix3 (0 : Fin 1) a b := by
  refine ⟨x 1, x 2, (eq_ix3 x).trans ?_⟩
  have h : x 0 = (0 : Fin 1) := Subsingleton.elim (α := Fin 1) _ _
  rw [h]

/-- An index of a block with two leading unit axes. -/
theorem exists_ix3_11 {n : Nat} (x : (⟨3, ![1, 1, n]⟩ : Shape).Idx) : ∃ b : Fin n, x = ix3 (0 : Fin 1) (0 : Fin 1) b := by
  obtain ⟨a, b, rfl⟩ := exists_ix3_1 x
  exact ⟨b, by rw [Subsingleton.elim a 0]⟩

/-- Where a block at offset `(k, l, 0)` lies in the array it is cut from. -/
theorem emb_unit3 {P M N p m n : Nat} (k l : Nat)
    (inb : ∀ a, (![k, l, 0] : Fin 3 → Nat) a + (⟨3, ![p, m, n]⟩ : Shape).size a ≤ (⟨3, ![P, M, N]⟩ : Shape).size a)
    (x0 : Fin p) (x1 : Fin m) (x2 : Fin n) (h0 : k + x0.val < P) (h1 : l + x1.val < M) (h2 : x2.val < N) :
    (Rect.unit (s := ⟨3, ![P, M, N]⟩) ![k, l, 0] (⟨3, ![p, m, n]⟩ : Shape).size inb).emb (ix3 x0 x1 x2)
      = ix3 ⟨k + x0.val, h0⟩ ⟨l + x1.val, h1⟩ ⟨x2.val, h2⟩ := by
  funext d
  apply Fin.ext
  match d with
  | ⟨0, _⟩ => show k + 1 * x0.val = k + x0.val; omega
  | ⟨1, _⟩ => show l + 1 * x1.val = l + x1.val; omega
  | ⟨2, _⟩ => show 0 + 1 * x2.val = x2.val; omega

/-- A select on a row number is a case distinction. -/
theorem select_row {α : Type} (r k : Nat) (hr : r < 2 ^ 32) (hk : k < 2 ^ 32) (a b : α) :
    Scalar.select (IntOp.cmpi .eq (BitVec.ofNat 32 r) (BitVec.ofNat 32 k)) a b = if r = k then a else b := by
  have : IntOp.cmpi .eq (BitVec.ofNat 32 r) (BitVec.ofNat 32 k) = BitVec.ofBool (decide (r = k)) := by
    show BitVec.ofBool (BitVec.ofNat 32 r == BitVec.ofNat 32 k) = _
    congr 1
    rw [Bool.eq_iff_iff, beq_iff_eq, decide_eq_true_eq, ← BitVec.toNat_inj, BitVec.toNat_ofNat, BitVec.toNat_ofNat]
    omega
  rw [this]
  by_cases h : r = k <;> simp [h, Scalar.select]

end Cert.Blocks

end
-- ==== Proof.GateBlock.lean ====
module

public import proofs.«01_k».proof.Proof.Gen.KernelIdeal.Frame
public import proofs.«01_k».proof.Proof.Blocks
public import Idealize.ShloMosaic.Lib.Pipeline.ReadBack

@[expose] public section

noncomputable section

namespace Cert.KernelIdeal.Hand

open Idealize.ShloMosaic Idealize.SL.Sem Cert.KernelIdeal Cert.KernelIdeal.Gen Cert.Blocks

/-- Zero for the first row block, one for every other. -/
def firstFlag (i : Nat) : EReal := if 0 < i then 1 else 0

/-- The row `r - s` of a block of 256 rows, or, where there is none, the row `16 + r - s` of the sixteen rows before it. -/
def above (first : EReal) (x1 : S2x256x1408.Idx → EReal) (x2 : S2x16x1408.Idx → EReal) (s : Nat) (hs : s ≤ 2) (p : Fin 2) (r : Fin 256)
    (q : Fin 1408) : EReal :=
  if h : s ≤ r.val then x1 (ix3 p ⟨r.val - s, by have := r.isLt; omega⟩ q)
  else x2 (ix3 p ⟨16 + r.val - s, by omega⟩ q) * first

/-- The convolution at one place of a block. -/
def upAt (first : EReal) (x1 : S2x256x1408.Idx → EReal) (x2 : S2x16x1408.Idx → EReal) (x3 : S2x3x1408.Idx → EReal) (x4 : S2x1x1408.Idx → EReal)
    (p : Fin 2) (r : Fin 256) (q : Fin 1408) : EReal :=
  x4 (ix3 p 0 q) + above first x1 x2 2 (by decide) p r q * x3 (ix3 p 0 q) + above first x1 x2 1 (by decide) p r q * x3 (ix3 p 1 q)
    + x1 (ix3 p r q) * x3 (ix3 p 2 q)

/-- The coefficient of the gate's cubic term. -/
def cubicC : EReal := Named.named (F := Ideal) κ "cubic" (φ := .f32) 0x3D372713#32

/-- Three times that coefficient. -/
def cubic3C : EReal := Named.named (F := Ideal) κ "cubic3" (φ := .f32) 0x3E095D4F#32

/-- The factor in front of the argument of the hyperbolic tangent. -/
def scaleC : EReal := Ideal.ofBits .f32 0x3F4C422A#32

/-- One half. -/
def halfC : EReal := Ideal.ofBits .f32 0x3F000000#32

/-- The hyperbolic tangent inside the gate. -/
def gateTanh (x : EReal) : EReal := Ideal.tanh (scaleC * (x + cubicC * (x * x * x)))

/-- The gate's weight. -/
def gateHalf (x : EReal) : EReal := halfC * (1 + gateTanh x)

/-- The gate. -/
def gate (x : EReal) : EReal := x * gateHalf x

/-- The gate's derivative, as the body computes it. -/
def gateGrad (x : EReal) : EReal :=
  gateHalf x + halfC * x * (1 - gateTanh x * gateTanh x) * scaleC * (1 + cubic3C * (x * x))

/-- The gradient of the convolution's output at one place of a block: of the values in the first half, of the gate in the second. -/
def doutAt (first : EReal) (x0 : S256x1408.Idx → EReal) (x1 : S2x256x1408.Idx → EReal) (x2 : S2x16x1408.Idx → EReal)
    (x3 : S2x3x1408.Idx → EReal) (x4 : S2x1x1408.Idx → EReal) (p : Fin 2) (r : Fin 256) (q : Fin 1408) : EReal :=
  if p = 0 then x0 (ix2 r q) * gate (upAt first x1 x2 x3 x4 1 r q)
  else x0 (ix2 r q) * upAt first x1 x2 x3 x4 0 r q * gateGrad (upAt first x1 x2 x3 x4 1 r q)

theorem first_eq (i : grid0.Coords) : k0_pay3 (F := Ideal) i = firstFlag (i 1).val := by
  unfold k0_pay3 firstFlag
  have hi : (i 1).val < 16 := (i 1).isLt
  generalize (i 1).val = n at hi
  dsimp only
  interval_cases n <;> pointwise <;> rfl

/-- The block turned down by one row, its first row replaced, is the row before. -/
theorem above_one (l : EReal) (x1 : S2x256x1408.Idx → EReal) (x2 : S2x16x1408.Idx → EReal) (p : Fin 2) (r : Fin 256) (q : Fin 1408)
    (h : (r.val + 256 - 1) % 256 < 256) :
    Scalar.select (IntOp.cmpi .eq (BitVec.ofNat 32 r.val) 0#32) (x2 (ix3 p 15 q) * l) (x1 (ix3 p ⟨(r.val + 256 - 1) % 256, h⟩ q))
      = above l x1 x2 1 (by decide) p r q := by
  rw [select_row _ 0 (r.isLt.trans (by decide)) (by decide)]
  have hr := r.isLt
  unfold above
  by_cases h1 : r.val = 0
  · rw [if_pos h1, dif_neg (by omega)]
    congr 4; simp [h1]
  · rw [if_neg h1, dif_pos (by omega)]
    congr 3
    omega

/-- The block turned down by two rows, its first two rows replaced, is the row before the one before. -/
theorem above_two (l : EReal) (x1 : S2x256x1408.Idx → EReal) (x2 : S2x16x1408.Idx → EReal) (p : Fin 2) (r : Fin 256) (q : Fin 1408)
    (h : (r.val + 256 - 2) % 256 < 256) :
    Scalar.select (IntOp.cmpi .eq (BitVec.ofNat 32 r.val) 0#32) (x2 (ix3 p 14 q) * l)
      (Scalar.select (IntOp.cmpi .eq (BitVec.ofNat 32 r.val) 1#32) (x2 (ix3 p 15 q) * l) (x1 (ix3 p ⟨(r.val + 256 - 2) % 256, h⟩ q)))
      = above l x1 x2 2 (by decide) p r q := by
  rw [select_row _ 0 (r.isLt.trans (by decide)) (by decide), select_row _ 1 (r.isLt.trans (by decide)) (by decide)]
  have hr := r.isLt
  unfold above
  by_cases h1 : r.val = 0
  · rw [if_pos h1, dif_neg (by omega)]
    congr 4; simp [h1]
  · rw [if_neg h1]
    by_cases h3 : r.val = 1
    · rw [if_pos h3, dif_neg (by omega)]
      congr 4; simp [h3]
    · rw [if_neg h3, dif_pos (by omega)]
      congr 3
      omega

/-- The first half's gradient at one place, from the convolution's output there. -/
theorem val_grad (a b c d e f g h) (r : Fin 256) (q : Fin 1408) :
    k0_pay31 (F := Ideal) a b c d e f g h (ix2 r q) = h (ix2 r q) * gate (k0_pay27 (F := Ideal) a b c d e f g (ix2 r q)) := by
  unfold gate gateHalf gateTanh halfC scaleC cubicC
  pointwise [k0_pay31, k0_pay30, k0_pay29, k0_pay28]

/-- The second half's gradient at one place, from the convolution's output there. -/
theorem gate_grad (z a b c d e f g h) (r : Fin 256) (q : Fin 1408) :
    k0_pay32 (F := Ideal) z a b c d e f g h (ix2 r q) = h (ix2 r q) * z (ix2 r q) * gateGrad (k0_pay27 (F := Ideal) a b c d e f g (ix2 r q)) := by
  unfold gateGrad gateHalf gateTanh halfC scaleC cubicC cubic3C
  pointwise [k0_pay32, k0_pay30, k0_pay29, k0_pay28]

section terms

variable (i : grid0.Coords) (x0 : Vec Ideal S256x1408 .f32) (x1 : Vec Ideal S2x256x1408 .bf16) (x2 : Vec Ideal S2x16x1408 .bf16)
  (x3 : Vec Ideal S2x3x1408 .f32) (x4 : Vec Ideal S2x1x1408 .f32)

/-- The body's convolution of the first half of the block. -/
def upTerm0 : FVec Ideal S256x1408 .f32 :=
  k0_pay16 (k0_pay6 (View.ld x1 (Rect.unit ![0, 0, 0] ![1, 256, 1408] inb_S2x256x1408_S1x256x1408_0_0_0)))
    (k0_pay8 (View.ld x3 (Rect.unit ![0, 0, 0] ![1, 3, 1408] inb_S2x3x1408_S1x3x1408_0_0_0)))
    (k0_pay9 (View.ld x4 (Rect.unit ![0, 0, 0] ![1, 1, 1408] inb_S2x1x1408_S1x1x1408_0_0_0)))
    (k0_pay11 i (View.ld x1 (Rect.unit ![0, 0, 0] ![1, 256, 1408] inb_S2x256x1408_S1x256x1408_0_0_0))
      (View.ld x2 (Rect.unit ![0, 0, 0] ![1, 16, 1408] inb_S2x16x1408_S1x16x1408_0_0_0)))
    k0_pay12
    (k0_pay13 i (View.ld x1 (Rect.unit ![0, 0, 0] ![1, 256, 1408] inb_S2x256x1408_S1x256x1408_0_0_0))
      (View.ld x2 (Rect.unit ![0, 0, 0] ![1, 16, 1408] inb_S2x16x1408_S1x16x1408_0_0_0)))
    (k0_pay14 i (View.ld x2 (Rect.unit ![0, 0, 0] ![1, 16, 1408] inb_S2x16x1408_S1x16x1408_0_0_0)))

/-- The body's convolution of the second half of the block. -/
def upTerm1 : FVec Ideal S256x1408 .f32 :=
  k0_pay27 (k0_pay17 (View.ld x1 (Rect.unit ![1, 0, 0] ![1, 256, 1408] inb_S2x256x1408_S1x256x1408_1_0_0)))
    (k0_pay19 (View.ld x3 (Rect.unit ![1, 0, 0] ![1, 3, 1408] inb_S2x3x1408_S1x3x1408_1_0_0)))
    (k0_pay20 (View.ld x4 (Rect.unit ![1, 0, 0] ![1, 1, 1408] inb_S2x1x1408_S1x1x1408_1_0_0)))
    (k0_pay21 (k0_pay3 i) (View.ld x2 (Rect.unit ![1, 0, 0] ![1, 16, 1408] inb_S2x16x1408_S1x16x1408_1_0_0)))
    (k0_pay23 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (k0_pay24 (iota Kind.tc S256x1408 32 [0] iota_S256x1408_d0_w32))
    (k0_pay25 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))

theorem upTerm0_apply (r : Fin 256) (q : Fin 1408) : upTerm0 i x1 x2 x3 x4 (ix2 r q) = upAt (firstFlag (i 1).val) x1 x2 x3 x4 0 r q := by
  rw [← first_eq]
  unfold upAt upTerm0
  rw [← above_one _ _ _ _ _ _ (Nat.mod_lt _ (by decide)), ← above_two _ _ _ _ _ _ (Nat.mod_lt _ (by decide))]
  pointwise [k0_pay16, k0_pay15, k0_pay14, k0_pay13, k0_pay12, k0_pay11, k0_pay10, k0_pay9, k0_pay8, k0_pay7, k0_pay6]

theorem upTerm1_apply (r : Fin 256) (q : Fin 1408) : upTerm1 i x1 x2 x3 x4 (ix2 r q) = upAt (firstFlag (i 1).val) x1 x2 x3 x4 1 r q := by
  rw [← first_eq]
  unfold upAt upTerm1
  rw [← above_one _ _ _ _ _ _ (Nat.mod_lt _ (by decide)), ← above_two _ _ _ _ _ _ (Nat.mod_lt _ (by decide))]
  pointwise [k0_pay27, k0_pay26, k0_pay25, k0_pay24, k0_pay23, k0_pay22, k0_pay21, k0_pay20, k0_pay19, k0_pay18, k0_pay17]

/-- The body's gradient for the first half of the block. -/
def valTerm : FVec Ideal S256x1408 .f32 :=
  k0_pay31 (k0_pay17 (View.ld x1 (Rect.unit ![1, 0, 0] ![1, 256, 1408] inb_S2x256x1408_S1x256x1408_1_0_0)))
    (k0_pay19 (View.ld x3 (Rect.unit ![1, 0, 0] ![1, 3, 1408] inb_S2x3x1408_S1x3x1408_1_0_0)))
    (k0_pay20 (View.ld x4 (Rect.unit ![1, 0, 0] ![1, 1, 1408] inb_S2x1x1408_S1x1x1408_1_0_0)))
    (k0_pay21 (k0_pay3 i) (View.ld x2 (Rect.unit ![1, 0, 0] ![1, 16, 1408] inb_S2x16x1408_S1x16x1408_1_0_0)))
    (k0_pay23 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (k0_pay24 (iota Kind.tc S256x1408 32 [0] iota_S256x1408_d0_w32))
    (k0_pay25 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (View.ld x0 (Rect.unit ![0, 0] ![256, 1408] inb_S256x1408_S256x1408_0_0))

/-- The body's gradient for the second half of the block. -/
def gateTerm : FVec Ideal S256x1408 .f32 :=
  k0_pay32 (upTerm0 i x1 x2 x3 x4) (k0_pay17 (View.ld x1 (Rect.unit ![1, 0, 0] ![1, 256, 1408] inb_S2x256x1408_S1x256x1408_1_0_0)))
    (k0_pay19 (View.ld x3 (Rect.unit ![1, 0, 0] ![1, 3, 1408] inb_S2x3x1408_S1x3x1408_1_0_0)))
    (k0_pay20 (View.ld x4 (Rect.unit ![1, 0, 0] ![1, 1, 1408] inb_S2x1x1408_S1x1x1408_1_0_0)))
    (k0_pay21 (k0_pay3 i) (View.ld x2 (Rect.unit ![1, 0, 0] ![1, 16, 1408] inb_S2x16x1408_S1x16x1408_1_0_0)))
    (k0_pay23 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (k0_pay24 (iota Kind.tc S256x1408 32 [0] iota_S256x1408_d0_w32))
    (k0_pay25 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (View.ld x0 (Rect.unit ![0, 0] ![256, 1408] inb_S256x1408_S256x1408_0_0))

theorem valTerm_apply (r : Fin 256) (q : Fin 1408) :
    valTerm i x0 x1 x2 x3 x4 (ix2 r q) = doutAt (firstFlag (i 1).val) x0 x1 x2 x3 x4 0 r q := by
  unfold valTerm
  rw [val_grad]
  change _ * gate (upTerm1 i x1 x2 x3 x4 (ix2 r q)) = _
  rw [upTerm1_apply]
  unfold doutAt
  rw [if_pos rfl]
  pointwise

theorem gateTerm_apply (r : Fin 256) (q : Fin 1408) :
    gateTerm i x0 x1 x2 x3 x4 (ix2 r q) = doutAt (firstFlag (i 1).val) x0 x1 x2 x3 x4 1 r q := by
  unfold gateTerm
  rw [gate_grad]
  change _ * _ * gateGrad (upTerm1 i x1 x2 x3 x4 (ix2 r q)) = _
  rw [upTerm1_apply, upTerm0_apply]
  unfold doutAt
  rw [if_neg (by decide)]
  pointwise

/-- What a block adds to the gradient of the convolution's weights, on top of `Z`. -/
def weightAt (first : EReal) (Z : S2x3x1408.Idx → EReal) (p : Fin 2) (k : Fin 3) (q : Fin 1408) : EReal :=
  Z (ix3 p k q) + ∑ r : Fin 256, doutAt first x0 x1 x2 x3 x4 p r q * above first x1 x2 (2 - k.val) (by omega) p r q

/-- What a block adds to the gradient of the convolution's bias, on top of `Z`. -/
def biasAt (first : EReal) (Z : S2x1x1408.Idx → EReal) (p : Fin 2) (q : Fin 1408) : EReal :=
  Z (ix3 p 0 q) + ∑ r : Fin 256, doutAt first x0 x1 x2 x3 x4 p r q

theorem above_zero (l : EReal) (p : Fin 2) (r : Fin 256) (q : Fin 1408) : above l x1 x2 0 (by decide) p r q = x1 (ix3 p r q) := by
  unfold above
  rw [dif_pos (Nat.zero_le _)]
  rfl

/-- The row of taps of the first half at shift two, times the gradient. -/
theorem row00 (Z : Vec Ideal S1x1x1408 .f32) (q : Fin 1408) :
    k0_pay36 (k0_pay15 k0_pay12 (k0_pay13 i (View.ld x1 (Rect.unit ![0, 0, 0] ![1, 256, 1408] inb_S2x256x1408_S1x256x1408_0_0_0))
      (View.ld x2 (Rect.unit ![0, 0, 0] ![1, 16, 1408] inb_S2x16x1408_S1x16x1408_0_0_0)))
      (k0_pay14 i (View.ld x2 (Rect.unit ![0, 0, 0] ![1, 16, 1408] inb_S2x16x1408_S1x16x1408_0_0_0)))) (valTerm i x0 x1 x2 x3 x4) Z (ix3 0 0 q)
      = Z (ix3 0 0 q) + ∑ r : Fin 256, doutAt (firstFlag (i 1).val) x0 x1 x2 x3 x4 0 r q * above (firstFlag (i 1).val) x1 x2 2 (by decide) 0 r q := by
  simp only [← valTerm_apply]
  rw [← first_eq]
  simp only [← above_two _ _ _ _ _ _ (Nat.mod_lt _ (by decide))]
  pointwise [k0_pay36, k0_pay15, k0_pay14, k0_pay13, k0_pay12, k0_pay10, k0_pay7, k0_pay6]

/-- The row of taps of the first half at shift one, times the gradient. -/
theorem row01 (Z : Vec Ideal S1x1x1408 .f32) (q : Fin 1408) :
    k0_pay37 (k0_pay11 i (View.ld x1 (Rect.unit ![0, 0, 0] ![1, 256, 1408] inb_S2x256x1408_S1x256x1408_0_0_0))
      (View.ld x2 (Rect.unit ![0, 0, 0] ![1, 16, 1408] inb_S2x16x1408_S1x16x1408_0_0_0))) (valTerm i x0 x1 x2 x3 x4) Z (ix3 0 0 q)
      = Z (ix3 0 0 q) + ∑ r : Fin 256, doutAt (firstFlag (i 1).val) x0 x1 x2 x3 x4 0 r q * above (firstFlag (i 1).val) x1 x2 1 (by decide) 0 r q := by
  simp only [← valTerm_apply]
  rw [← first_eq]
  simp only [← above_one _ _ _ _ _ _ (Nat.mod_lt _ (by decide))]
  pointwise [k0_pay37, k0_pay11, k0_pay10, k0_pay7, k0_pay6]

/-- The block of the first half itself, times the gradient. -/
theorem row02 (Z : Vec Ideal S1x1x1408 .f32) (q : Fin 1408) :
    k0_pay38 (k0_pay6 (View.ld x1 (Rect.unit ![0, 0, 0] ![1, 256, 1408] inb_S2x256x1408_S1x256x1408_0_0_0))) (valTerm i x0 x1 x2 x3 x4) Z (ix3 0 0 q)
      = Z (ix3 0 0 q) + ∑ r : Fin 256, doutAt (firstFlag (i 1).val) x0 x1 x2 x3 x4 0 r q * above (firstFlag (i 1).val) x1 x2 0 (by decide) 0 r q := by
  simp only [← valTerm_apply]
  simp only [above_zero]
  pointwise [k0_pay38, k0_pay6]

/-- The row of taps of the second half at shift two, times the gradient. -/
theorem row10 (Z : Vec Ideal S1x1x1408 .f32) (q : Fin 1408) :
    k0_pay41 (k0_pay26 (k0_pay21 (k0_pay3 i) (View.ld x2 (Rect.unit ![1, 0, 0] ![1, 16, 1408] inb_S2x16x1408_S1x16x1408_1_0_0)))
      (k0_pay24 (iota Kind.tc S256x1408 32 [0] iota_S256x1408_d0_w32))
      (k0_pay25 (k0_pay3 i) (iota Kind.tc S256x1408 32 [0] iota_S256x1408_d0_w32) (View.ld x1 (Rect.unit ![1, 0, 0] ![1, 256, 1408] inb_S2x256x1408_S1x256x1408_1_0_0))
        (View.ld x2 (Rect.unit ![1, 0, 0] ![1, 16, 1408] inb_S2x16x1408_S1x16x1408_1_0_0)))) (gateTerm i x0 x1 x2 x3 x4) Z (ix3 0 0 q)
      = Z (ix3 0 0 q) + ∑ r : Fin 256, doutAt (firstFlag (i 1).val) x0 x1 x2 x3 x4 1 r q * above (firstFlag (i 1).val) x1 x2 2 (by decide) 1 r q := by
  simp only [← gateTerm_apply]
  rw [← first_eq]
  simp only [← above_two _ _ _ _ _ _ (Nat.mod_lt _ (by decide))]
  pointwise [k0_pay41, k0_pay26, k0_pay25, k0_pay24, k0_pay22, k0_pay21, k0_pay18, k0_pay17]

/-- The row of taps of the second half at shift one, times the gradient. -/
theorem row11 (Z : Vec Ideal S1x1x1408 .f32) (q : Fin 1408) :
    k0_pay1 (k0_pay42 Z) (k0_pay43 (k0_pay23 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0))) (gateTerm i x0 x1 x2 x3 x4)) (ix3 0 0 q)
      = Z (ix3 0 0 q) + ∑ r : Fin 256, doutAt (firstFlag (i 1).val) x0 x1 x2 x3 x4 1 r q * above (firstFlag (i 1).val) x1 x2 1 (by decide) 1 r q := by
  simp only [← gateTerm_apply]
  rw [← first_eq]
  simp only [← above_one _ _ _ _ _ _ (Nat.mod_lt _ (by decide))]
  pointwise [k0_pay1, k0_pay42, k0_pay43, k0_pay23, k0_pay22, k0_pay18, k0_pay17]

/-- The block of the second half itself, times the gradient. -/
theorem row12 (Z : Vec Ideal S1x1x1408 .f32) (q : Fin 1408) :
    k0_pay2 (k0_pay17 (View.ld x1 (Rect.unit ![1, 0, 0] ![1, 256, 1408] inb_S2x256x1408_S1x256x1408_1_0_0))) (gateTerm i x0 x1 x2 x3 x4) Z (ix3 0 0 q)
      = Z (ix3 0 0 q) + ∑ r : Fin 256, doutAt (firstFlag (i 1).val) x0 x1 x2 x3 x4 1 r q * above (firstFlag (i 1).val) x1 x2 0 (by decide) 1 r q := by
  simp only [← gateTerm_apply]
  simp only [above_zero]
  pointwise [k0_pay2, k0_pay17]

/-- The sum of the first half's gradient. -/
theorem bias0 (Z : Vec Ideal S1x1x1408 .f32) (q : Fin 1408) :
    k0_pay35 (valTerm i x0 x1 x2 x3 x4) Z (ix3 0 0 q)
      = Z (ix3 0 0 q) + ∑ r : Fin 256, doutAt (firstFlag (i 1).val) x0 x1 x2 x3 x4 0 r q := by
  simp only [← valTerm_apply]
  pointwise [k0_pay35]

/-- The sum of the second half's gradient. -/
theorem bias1 (Z : Vec Ideal S1x1x1408 .f32) (q : Fin 1408) :
    k0_pay40 (gateTerm i x0 x1 x2 x3 x4) Z (ix3 0 0 q)
      = Z (ix3 0 0 q) + ∑ r : Fin 256, doutAt (firstFlag (i 1).val) x0 x1 x2 x3 x4 1 r q := by
  simp only [← gateTerm_apply]
  pointwise [k0_pay40]

theorem half0 (r : Fin 256) (q : Fin 1408) : k0_pay34 (k0_pay33 (k0_pay17 (View.ld x1 (Rect.unit ![1, 0, 0] ![1, 256, 1408] inb_S2x256x1408_S1x256x1408_1_0_0)))
    (k0_pay19 (View.ld x3 (Rect.unit ![1, 0, 0] ![1, 3, 1408] inb_S2x3x1408_S1x3x1408_1_0_0)))
    (k0_pay20 (View.ld x4 (Rect.unit ![1, 0, 0] ![1, 1, 1408] inb_S2x1x1408_S1x1x1408_1_0_0)))
    (k0_pay21 (k0_pay3 i) (View.ld x2 (Rect.unit ![1, 0, 0] ![1, 16, 1408] inb_S2x16x1408_S1x16x1408_1_0_0)))
    (k0_pay23 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (k0_pay24 (iota Kind.tc S256x1408 32 [0] iota_S256x1408_d0_w32))
    (k0_pay25 (k0_pay3 i) (iota Kind.tc S256x1408 32 [0] iota_S256x1408_d0_w32)
      (View.ld x1 (Rect.unit ![1, 0, 0] ![1, 256, 1408] inb_S2x256x1408_S1x256x1408_1_0_0))
      (View.ld x2 (Rect.unit ![1, 0, 0] ![1, 16, 1408] inb_S2x16x1408_S1x16x1408_1_0_0)))
    (View.ld x0 (Rect.unit ![0, 0] ![256, 1408] inb_S256x1408_S256x1408_0_0))) (ix3 0 r q) = doutAt (firstFlag (i 1).val) x0 x1 x2 x3 x4 0 r q := by
  rw [← valTerm_apply]
  pointwise [k0_pay34, k0_pay33]
  rfl

theorem half1 (r : Fin 256) (q : Fin 1408) : k0_pay39 (gateTerm i x0 x1 x2 x3 x4) (ix3 0 r q) = doutAt (firstFlag (i 1).val) x0 x1 x2 x3 x4 1 r q := by
  rw [← gateTerm_apply]
  pointwise [k0_pay39]

end terms

end Cert.KernelIdeal.Hand

end
-- ==== Proof.GateOut.lean ====
module

public import proofs.«01_k».proof.Proof.GateBlock

@[expose] public section

noncomputable section

namespace Cert.KernelIdeal.Hand

open Idealize.ShloMosaic Idealize.SL.Sem Cert.KernelIdeal Cert.KernelIdeal.Gen Cert.Blocks

variable (c : Dev nD) (i : grid0.Coords) (arg2 : Memref sig .tc .vmem S256x1408 .f32) (harg2 : arg2.IsWhole)
  (arg3 : Memref sig .tc .vmem S2x256x1408 .bf16) (harg3 : arg3.IsWhole) (arg4 : Memref sig .tc .vmem S2x16x1408 .bf16) (harg4 : arg4.IsWhole)
  (arg5 : Memref sig .tc .vmem S2x3x1408 .f32) (harg5 : arg5.IsWhole) (arg6 : Memref sig .tc .vmem S2x1x1408 .f32) (harg6 : arg6.IsWhole)
  (arg7 : Memref sig .tc .vmem S2x256x1408 .bf16) (harg7 : arg7.IsWhole) (arg8 : Memref sig .tc .vmem S2x3x1408 .f32) (harg8 : arg8.IsWhole)
  (arg9 : Memref sig .tc .vmem S2x1x1408 .f32) (harg9 : arg9.IsWhole)
  (x0 : Vec Ideal S256x1408 .f32) (x1 : Vec Ideal S2x256x1408 .bf16) (x2 : Vec Ideal S2x16x1408 .bf16)
  (x3 : Vec Ideal S2x3x1408 .f32) (x4 : Vec Ideal S2x1x1408 .f32) (xo6 : Vec Ideal S2x3x1408 .f32) (xo7 : Vec Ideal S2x1x1408 .f32)

/-- The stores of the six rows of the weights' gradient, each on top of `Z`'s row. -/
def rowPieces (Z : Vec Ideal S2x3x1408 .f32) : List (View.Piece (Elt Ideal) S2x3x1408 .f32) :=
  [⟨Rect.unit ![1, 2, 0] ![1, 1, 1408] inb_S2x3x1408_S1x1x1408_1_2_0,
      k0_pay2 (k0_pay17 (View.ld x1 (Rect.unit ![1, 0, 0] ![1, 256, 1408] inb_S2x256x1408_S1x256x1408_1_0_0)))
        (gateTerm i x0 x1 x2 x3 x4) (View.ld Z (Rect.unit ![1, 2, 0] ![1, 1, 1408] inb_S2x3x1408_S1x1x1408_1_2_0))⟩,
    ⟨Rect.unit ![1, 1, 0] ![1, 1, 1408] inb_S2x3x1408_S1x1x1408_1_1_0,
      k0_pay1 (k0_pay42 (View.ld Z (Rect.unit ![1, 1, 0] ![1, 1, 1408] inb_S2x3x1408_S1x1x1408_1_1_0)))
        (k0_pay43 (k0_pay23 (k0_pay3 i) (iota Kind.tc S256x1408 32 [0] iota_S256x1408_d0_w32)
          (View.ld x1 (Rect.unit ![1, 0, 0] ![1, 256, 1408] inb_S2x256x1408_S1x256x1408_1_0_0))
          (View.ld x2 (Rect.unit ![1, 0, 0] ![1, 16, 1408] inb_S2x16x1408_S1x16x1408_1_0_0))) (gateTerm i x0 x1 x2 x3 x4))⟩,
    ⟨Rect.unit ![1, 0, 0] ![1, 1, 1408] inb_S2x3x1408_S1x1x1408_1_0_0,
      k0_pay41 (k0_pay26 (k0_pay21 (k0_pay3 i) (View.ld x2 (Rect.unit ![1, 0, 0] ![1, 16, 1408] inb_S2x16x1408_S1x16x1408_1_0_0)))
        (k0_pay24 (iota Kind.tc S256x1408 32 [0] iota_S256x1408_d0_w32))
        (k0_pay25 (k0_pay3 i) (iota Kind.tc S256x1408 32 [0] iota_S256x1408_d0_w32) (View.ld x1 (Rect.unit ![1, 0, 0] ![1, 256, 1408] inb_S2x256x1408_S1x256x1408_1_0_0))
          (View.ld x2 (Rect.unit ![1, 0, 0] ![1, 16, 1408] inb_S2x16x1408_S1x16x1408_1_0_0)))) (gateTerm i x0 x1 x2 x3 x4) (View.ld Z (Rect.unit ![1, 0, 0] ![1, 1, 1408] inb_S2x3x1408_S1x1x1408_1_0_0))⟩,
    ⟨Rect.unit ![0, 2, 0] ![1, 1, 1408] inb_S2x3x1408_S1x1x1408_0_2_0,
      k0_pay38 (k0_pay6 (View.ld x1 (Rect.unit ![0, 0, 0] ![1, 256, 1408] inb_S2x256x1408_S1x256x1408_0_0_0))) (valTerm i x0 x1 x2 x3 x4)
        (View.ld Z (Rect.unit ![0, 2, 0] ![1, 1, 1408] inb_S2x3x1408_S1x1x1408_0_2_0))⟩,
    ⟨Rect.unit ![0, 1, 0] ![1, 1, 1408] inb_S2x3x1408_S1x1x1408_0_1_0,
      k0_pay37 (k0_pay11 i (View.ld x1 (Rect.unit ![0, 0, 0] ![1, 256, 1408] inb_S2x256x1408_S1x256x1408_0_0_0))
        (View.ld x2 (Rect.unit ![0, 0, 0] ![1, 16, 1408] inb_S2x16x1408_S1x16x1408_0_0_0))) (valTerm i x0 x1 x2 x3 x4) (View.ld Z (Rect.unit ![0, 1, 0] ![1, 1, 1408] inb_S2x3x1408_S1x1x1408_0_1_0))⟩,
    ⟨Rect.unit ![0, 0, 0] ![1, 1, 1408] inb_S2x3x1408_S1x1x1408_0_0_0,
      k0_pay36 (k0_pay15 k0_pay12 (k0_pay13 i (View.ld x1 (Rect.unit ![0, 0, 0] ![1, 256, 1408] inb_S2x256x1408_S1x256x1408_0_0_0))
        (View.ld x2 (Rect.unit ![0, 0, 0] ![1, 16, 1408] inb_S2x16x1408_S1x16x1408_0_0_0)))
        (k0_pay14 i (View.ld x2 (Rect.unit ![0, 0, 0] ![1, 16, 1408] inb_S2x16x1408_S1x16x1408_0_0_0)))) (valTerm i x0 x1 x2 x3 x4) (View.ld Z (Rect.unit ![0, 0, 0] ![1, 1, 1408] inb_S2x3x1408_S1x1x1408_0_0_0))⟩]

theorem rowPieces_of (Z : Vec Ideal S2x3x1408 .f32) :
    View.PiecesOf (fun y : S2x3x1408.Idx => weightAt x0 x1 x2 x3 x4 (firstFlag (i 1).val) Z (y 0) (y 1) (y 2)) (rowPieces i x0 x1 x2 x3 x4 Z) := by
  unfold rowPieces
  refine ⟨?_, ?_, ?_, ?_, ?_, ?_, trivial⟩
  · intro x
    obtain ⟨b, rfl⟩ := exists_ix3_11 x
    refine (row12 i x0 x1 x2 x3 x4 _ b).trans ?_
    rw [show (Rect.unit ![1, 2, 0] ![1, 1, 1408] _).emb (ix3 (0 : Fin 1) (0 : Fin 1) b) = ix3 (1 : Fin 2) (2 : Fin 3) b from
      (emb_unit3 1 2 _ 0 0 b (by decide) (by decide) b.isLt).trans (by simp)]
    rw [View.ld, show (Rect.unit ![1, 2, 0] ![1, 1, 1408] _).idx (ix3 (0 : Fin 1) (0 : Fin 1) b) = ix3 (1 : Fin 2) (2 : Fin 3) b from
      (emb_unit3 1 2 _ 0 0 b (by decide) (by decide) b.isLt).trans (by simp)]
    rfl
  · intro x
    obtain ⟨b, rfl⟩ := exists_ix3_11 x
    refine (row11 i x0 x1 x2 x3 x4 _ b).trans ?_
    rw [show (Rect.unit ![1, 1, 0] ![1, 1, 1408] _).emb (ix3 (0 : Fin 1) (0 : Fin 1) b) = ix3 (1 : Fin 2) (1 : Fin 3) b from
      (emb_unit3 1 1 _ 0 0 b (by decide) (by decide) b.isLt).trans (by simp)]
    rw [View.ld, show (Rect.unit ![1, 1, 0] ![1, 1, 1408] _).idx (ix3 (0 : Fin 1) (0 : Fin 1) b) = ix3 (1 : Fin 2) (1 : Fin 3) b from
      (emb_unit3 1 1 _ 0 0 b (by decide) (by decide) b.isLt).trans (by simp)]
    rfl
  · intro x
    obtain ⟨b, rfl⟩ := exists_ix3_11 x
    refine (row10 i x0 x1 x2 x3 x4 _ b).trans ?_
    rw [show (Rect.unit ![1, 0, 0] ![1, 1, 1408] _).emb (ix3 (0 : Fin 1) (0 : Fin 1) b) = ix3 (1 : Fin 2) (0 : Fin 3) b from
      (emb_unit3 1 0 _ 0 0 b (by decide) (by decide) b.isLt).trans (by simp)]
    rw [View.ld, show (Rect.unit ![1, 0, 0] ![1, 1, 1408] _).idx (ix3 (0 : Fin 1) (0 : Fin 1) b) = ix3 (1 : Fin 2) (0 : Fin 3) b from
      (emb_unit3 1 0 _ 0 0 b (by decide) (by decide) b.isLt).trans (by simp)]
    rfl
  · intro x
    obtain ⟨b, rfl⟩ := exists_ix3_11 x
    refine (row02 i x0 x1 x2 x3 x4 _ b).trans ?_
    rw [show (Rect.unit ![0, 2, 0] ![1, 1, 1408] _).emb (ix3 (0 : Fin 1) (0 : Fin 1) b) = ix3 (0 : Fin 2) (2 : Fin 3) b from
      (emb_unit3 0 2 _ 0 0 b (by decide) (by decide) b.isLt).trans (by simp)]
    rw [View.ld, show (Rect.unit ![0, 2, 0] ![1, 1, 1408] _).idx (ix3 (0 : Fin 1) (0 : Fin 1) b) = ix3 (0 : Fin 2) (2 : Fin 3) b from
      (emb_unit3 0 2 _ 0 0 b (by decide) (by decide) b.isLt).trans (by simp)]
    rfl
  · intro x
    obtain ⟨b, rfl⟩ := exists_ix3_11 x
    refine (row01 i x0 x1 x2 x3 x4 _ b).trans ?_
    rw [show (Rect.unit ![0, 1, 0] ![1, 1, 1408] _).emb (ix3 (0 : Fin 1) (0 : Fin 1) b) = ix3 (0 : Fin 2) (1 : Fin 3) b from
      (emb_unit3 0 1 _ 0 0 b (by decide) (by decide) b.isLt).trans (by simp)]
    rw [View.ld, show (Rect.unit ![0, 1, 0] ![1, 1, 1408] _).idx (ix3 (0 : Fin 1) (0 : Fin 1) b) = ix3 (0 : Fin 2) (1 : Fin 3) b from
      (emb_unit3 0 1 _ 0 0 b (by decide) (by decide) b.isLt).trans (by simp)]
    rfl
  · intro x
    obtain ⟨b, rfl⟩ := exists_ix3_11 x
    refine (row00 i x0 x1 x2 x3 x4 _ b).trans ?_
    rw [show (Rect.unit ![0, 0, 0] ![1, 1, 1408] _).emb (ix3 (0 : Fin 1) (0 : Fin 1) b) = ix3 (0 : Fin 2) (0 : Fin 3) b from
      (emb_unit3 0 0 _ 0 0 b (by decide) (by decide) b.isLt).trans (by simp)]
    rw [View.ld, show (Rect.unit ![0, 0, 0] ![1, 1, 1408] _).idx (ix3 (0 : Fin 1) (0 : Fin 1) b) = ix3 (0 : Fin 2) (0 : Fin 3) b from
      (emb_unit3 0 0 _ 0 0 b (by decide) (by decide) b.isLt).trans (by simp)]
    rfl

theorem rowPieces_cover (Z : Vec Ideal S2x3x1408 .f32) (y : S2x3x1408.Idx) : ∃ pc ∈ rowPieces i x0 x1 x2 x3 x4 Z, y ∈ pc.1.set :=
  View.cover_of_tiledL (rowPieces i x0 x1 x2 x3 x4 Z) S1x1x1408.size (by sl_kernel_rfl) y

/-- The stores of the two rows of the bias's gradient, each on top of `Z`'s row. -/
def biasPieces (Z : Vec Ideal S2x1x1408 .f32) : List (View.Piece (Elt Ideal) S2x1x1408 .f32) :=
  [⟨Rect.unit ![1, 0, 0] ![1, 1, 1408] inb_S2x1x1408_S1x1x1408_1_0_0,
      k0_pay40 (gateTerm i x0 x1 x2 x3 x4) (View.ld Z (Rect.unit ![1, 0, 0] ![1, 1, 1408] inb_S2x1x1408_S1x1x1408_1_0_0))⟩,
    ⟨Rect.unit ![0, 0, 0] ![1, 1, 1408] inb_S2x1x1408_S1x1x1408_0_0_0,
      k0_pay35 (valTerm i x0 x1 x2 x3 x4) (View.ld Z (Rect.unit ![0, 0, 0] ![1, 1, 1408] inb_S2x1x1408_S1x1x1408_0_0_0))⟩]

theorem biasPieces_of (Z : Vec Ideal S2x1x1408 .f32) :
    View.PiecesOf (fun y : S2x1x1408.Idx => biasAt x0 x1 x2 x3 x4 (firstFlag (i 1).val) Z (y 0) (y 2)) (biasPieces i x0 x1 x2 x3 x4 Z) := by
  unfold biasPieces
  refine ⟨?_, ?_, trivial⟩
  · intro x
    obtain ⟨b, rfl⟩ := exists_ix3_11 x
    refine (bias1 i x0 x1 x2 x3 x4 _ b).trans ?_
    rw [show (Rect.unit ![1, 0, 0] ![1, 1, 1408] _).emb (ix3 (0 : Fin 1) (0 : Fin 1) b) = ix3 (1 : Fin 2) (0 : Fin 1) b from
      (emb_unit3 1 0 _ 0 0 b (by decide) (by decide) b.isLt).trans (by simp)]
    rw [View.ld, show (Rect.unit ![1, 0, 0] ![1, 1, 1408] _).idx (ix3 (0 : Fin 1) (0 : Fin 1) b) = ix3 (1 : Fin 2) (0 : Fin 1) b from
      (emb_unit3 1 0 _ 0 0 b (by decide) (by decide) b.isLt).trans (by simp)]
    rfl
  · intro x
    obtain ⟨b, rfl⟩ := exists_ix3_11 x
    refine (bias0 i x0 x1 x2 x3 x4 _ b).trans ?_
    rw [show (Rect.unit ![0, 0, 0] ![1, 1, 1408] _).emb (ix3 (0 : Fin 1) (0 : Fin 1) b) = ix3 (0 : Fin 2) (0 : Fin 1) b from
      (emb_unit3 0 0 _ 0 0 b (by decide) (by decide) b.isLt).trans (by simp)]
    rw [View.ld, show (Rect.unit ![0, 0, 0] ![1, 1, 1408] _).idx (ix3 (0 : Fin 1) (0 : Fin 1) b) = ix3 (0 : Fin 2) (0 : Fin 1) b from
      (emb_unit3 0 0 _ 0 0 b (by decide) (by decide) b.isLt).trans (by simp)]
    rfl

theorem biasPieces_cover (Z : Vec Ideal S2x1x1408 .f32) (y : S2x1x1408.Idx) : ∃ pc ∈ biasPieces i x0 x1 x2 x3 x4 Z, y ∈ pc.1.set :=
  View.cover_of_tiledL (biasPieces i x0 x1 x2 x3 x4 Z) S1x1x1408.size (by sl_kernel_rfl) y

/-- The stores of the two halves of the convolution output's gradient. -/
def halfPieces : List (View.Piece (Elt Ideal) S2x256x1408 .bf16) :=
  [⟨Rect.unit ![1, 0, 0] ![1, 256, 1408] inb_S2x256x1408_S1x256x1408_1_0_0, k0_pay39 (gateTerm i x0 x1 x2 x3 x4)⟩,
    ⟨Rect.unit ![0, 0, 0] ![1, 256, 1408] inb_S2x256x1408_S1x256x1408_0_0_0,
      k0_pay34 (k0_pay33 (k0_pay17 (View.ld x1 (Rect.unit ![1, 0, 0] ![1, 256, 1408] inb_S2x256x1408_S1x256x1408_1_0_0)))
          (k0_pay19 (View.ld x3 (Rect.unit ![1, 0, 0] ![1, 3, 1408] inb_S2x3x1408_S1x3x1408_1_0_0)))
          (k0_pay20 (View.ld x4 (Rect.unit ![1, 0, 0] ![1, 1, 1408] inb_S2x1x1408_S1x1x1408_1_0_0)))
          (k0_pay21 (k0_pay3 i) (View.ld x2 (Rect.unit ![1, 0, 0] ![1, 16, 1408] inb_S2x16x1408_S1x16x1408_1_0_0)))
          (k0_pay23 (k0_pay3 i) (iota Kind.tc S256x1408 32 [0] iota_S256x1408_d0_w32)
            (View.ld x1 (Rect.unit ![1, 0, 0] ![1, 256, 1408] inb_S2x256x1408_S1x256x1408_1_0_0))
            (View.ld x2 (Rect.unit ![1, 0, 0] ![1, 16, 1408] inb_S2x16x1408_S1x16x1408_1_0_0)))
          (k0_pay24 (iota Kind.tc S256x1408 32 [0] iota_S256x1408_d0_w32))
          (k0_pay25 (k0_pay3 i) (iota Kind.tc S256x1408 32 [0] iota_S256x1408_d0_w32)
            (View.ld x1 (Rect.unit ![1, 0, 0] ![1, 256, 1408] inb_S2x256x1408_S1x256x1408_1_0_0))
            (View.ld x2 (Rect.unit ![1, 0, 0] ![1, 16, 1408] inb_S2x16x1408_S1x16x1408_1_0_0)))
          (View.ld x0 (Rect.unit ![0, 0] ![256, 1408] inb_S256x1408_S256x1408_0_0)))⟩]

theorem halfPieces_of :
    View.PiecesOf (Val := Elt Ideal) (fun y : S2x256x1408.Idx => doutAt (firstFlag (i 1).val) x0 x1 x2 x3 x4 (y 0) (y 1) (y 2)) (halfPieces i x0 x1 x2 x3 x4) := by
  unfold halfPieces
  refine ⟨?_, ?_, trivial⟩
  · intro x
    obtain ⟨a, b, rfl⟩ := exists_ix3_1 x
    refine (half1 i x0 x1 x2 x3 x4 a b).trans ?_
    rw [show (Rect.unit ![1, 0, 0] ![1, 256, 1408] _).emb (ix3 (0 : Fin 1) a b) = ix3 (1 : Fin 2) a b from
      (emb_unit3 1 0 _ 0 a b (by decide) (by omega) b.isLt).trans (by simp)]
    rfl
  · intro x
    obtain ⟨a, b, rfl⟩ := exists_ix3_1 x
    refine (half0 i x0 x1 x2 x3 x4 a b).trans ?_
    rw [show (Rect.unit ![0, 0, 0] ![1, 256, 1408] _).emb (ix3 (0 : Fin 1) a b) = ix3 (0 : Fin 2) a b from
      (emb_unit3 0 0 _ 0 a b (by decide) (by omega) b.isLt).trans (by simp)]
    rfl

theorem halfPieces_cover (y : S2x256x1408.Idx) : ∃ pc ∈ halfPieces i x0 x1 x2 x3 x4, y ∈ pc.1.set :=
  View.cover_of_tiledL (halfPieces i x0 x1 x2 x3 x4) S1x256x1408.size (by sl_kernel_rfl) y

/-- What the body leaves of the convolution output's gradient (the first row block). -/
theorem out0_A_5_apply (hc0 : cond0_0 i) (p : Fin 2) (r : Fin 256) (q : Fin 1408) :
    out0_A_5 c i arg2 harg2 arg3 harg3 arg4 harg4 arg5 harg5 arg6 harg6 arg7 harg7 arg8 harg8 arg9 harg9 hc0 x0 x1 x2 x3 x4 (ix3 p r q)
      = doutAt (firstFlag (i 1).val) x0 x1 x2 x3 x4 p r q := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  simp (disch := decide) only [View.readAt_eq_ld, harg2.read_unread, harg3.read_unread, harg4.read_unread, harg5.read_unread, harg6.read_unread]
  exact View.canon_append_of_piecesOf _ [] (halfPieces i x0 x1 x2 x3 x4) (halfPieces_of i x0 x1 x2 x3 x4) (ix3 p r q)
    (halfPieces_cover i x0 x1 x2 x3 x4 (ix3 p r q))

/-- What the body leaves of the weights' gradient (the first row block). -/
theorem out0_A_6_apply (hc0 : cond0_0 i) (p : Fin 2) (k : Fin 3) (q : Fin 1408) :
    out0_A_6 c i arg2 harg2 arg3 harg3 arg4 harg4 arg5 harg5 arg6 harg6 arg7 harg7 arg8 harg8 arg9 harg9 hc0 x0 x1 x2 x3 x4 (ix3 p k q)
      = weightAt x0 x1 x2 x3 x4 (firstFlag (i 1).val) (k0_pay4 (F := Ideal)) p k q := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  simp (disch := decide) only [View.readAt_eq_ld, harg2.read_unread, harg3.read_unread, harg4.read_unread, harg5.read_unread, harg6.read_unread, ↓View.readCov_skip]
  simp (disch := decide) only [View.readCov_fill]
  have h := View.canon_append_of_piecesOf _ [⟨Rect.unit ![0, 0, 0] ![2, 3, 1408] inb_S2x3x1408_S2x3x1408_0_0_0, (k0_pay4 (F := Ideal))⟩] (rowPieces i x0 x1 x2 x3 x4 (k0_pay4 (F := Ideal))) (rowPieces_of i x0 x1 x2 x3 x4 (k0_pay4 (F := Ideal))) (ix3 p k q)
    (rowPieces_cover i x0 x1 x2 x3 x4 (k0_pay4 (F := Ideal)) (ix3 p k q))
  simp only [rowPieces, List.cons_append, List.nil_append] at h
  exact h

/-- What the body leaves of the bias's gradient (the first row block). -/
theorem out0_A_7_apply (hc0 : cond0_0 i) (p : Fin 2) (q : Fin 1408) :
    out0_A_7 c i arg2 harg2 arg3 harg3 arg4 harg4 arg5 harg5 arg6 harg6 arg7 harg7 arg8 harg8 arg9 harg9 hc0 x0 x1 x2 x3 x4 (ix3 p 0 q)
      = biasAt x0 x1 x2 x3 x4 (firstFlag (i 1).val) (k0_pay5 (F := Ideal)) p q := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  simp (disch := decide) only [View.readAt_eq_ld, harg2.read_unread, harg3.read_unread, harg4.read_unread, harg5.read_unread, harg6.read_unread, ↓View.readCov_skip]
  simp (disch := decide) only [View.readCov_fill]
  have h := View.canon_append_of_piecesOf _ [⟨Rect.unit ![0, 0, 0] ![2, 1, 1408] inb_S2x1x1408_S2x1x1408_0_0_0, (k0_pay5 (F := Ideal))⟩] (biasPieces i x0 x1 x2 x3 x4 (k0_pay5 (F := Ideal))) (biasPieces_of i x0 x1 x2 x3 x4 (k0_pay5 (F := Ideal))) (ix3 p 0 q)
    (biasPieces_cover i x0 x1 x2 x3 x4 (k0_pay5 (F := Ideal)) (ix3 p 0 q))
  simp only [biasPieces, List.cons_append, List.nil_append] at h
  exact h

/-- What the body leaves of the convolution output's gradient. -/
theorem out0_B_5_apply (hc0 : ¬cond0_0 i) (p : Fin 2) (r : Fin 256) (q : Fin 1408) :
    out0_B_5 c i arg2 harg2 arg3 harg3 arg4 harg4 arg5 harg5 arg6 harg6 arg7 harg7 arg8 harg8 arg9 harg9 hc0 x0 x1 x2 x3 x4 xo6 xo7 (ix3 p r q)
      = doutAt (firstFlag (i 1).val) x0 x1 x2 x3 x4 p r q := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  simp (disch := decide) only [View.readAt_eq_ld, harg2.read_unread, harg3.read_unread, harg4.read_unread, harg5.read_unread, harg6.read_unread]
  exact View.canon_append_of_piecesOf _ [] (halfPieces i x0 x1 x2 x3 x4) (halfPieces_of i x0 x1 x2 x3 x4) (ix3 p r q)
    (halfPieces_cover i x0 x1 x2 x3 x4 (ix3 p r q))

/-- What the body leaves of the weights' gradient. -/
theorem out0_B_6_apply (hc0 : ¬cond0_0 i) (p : Fin 2) (k : Fin 3) (q : Fin 1408) :
    out0_B_6 c i arg2 harg2 arg3 harg3 arg4 harg4 arg5 harg5 arg6 harg6 arg7 harg7 arg8 harg8 arg9 harg9 hc0 x0 x1 x2 x3 x4 xo6 xo7 (ix3 p k q)
      = weightAt x0 x1 x2 x3 x4 (firstFlag (i 1).val) xo6 p k q := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  simp (disch := decide) only [View.readAt_eq_ld, harg2.read_unread, harg3.read_unread, harg4.read_unread, harg5.read_unread, harg6.read_unread, ↓View.readCov_skip, harg8.read_unread, harg9.read_unread]
  exact View.canon_append_of_piecesOf _ [] (rowPieces i x0 x1 x2 x3 x4 xo6) (rowPieces_of i x0 x1 x2 x3 x4 xo6) (ix3 p k q)
    (rowPieces_cover i x0 x1 x2 x3 x4 xo6 (ix3 p k q))

/-- What the body leaves of the bias's gradient. -/
theorem out0_B_7_apply (hc0 : ¬cond0_0 i) (p : Fin 2) (q : Fin 1408) :
    out0_B_7 c i arg2 harg2 arg3 harg3 arg4 harg4 arg5 harg5 arg6 harg6 arg7 harg7 arg8 harg8 arg9 harg9 hc0 x0 x1 x2 x3 x4 xo6 xo7 (ix3 p 0 q)
      = biasAt x0 x1 x2 x3 x4 (firstFlag (i 1).val) xo7 p q := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  simp (disch := decide) only [View.readAt_eq_ld, harg2.read_unread, harg3.read_unread, harg4.read_unread, harg5.read_unread, harg6.read_unread, ↓View.readCov_skip, harg8.read_unread, harg9.read_unread]
  exact View.canon_append_of_piecesOf _ [] (biasPieces i x0 x1 x2 x3 x4 xo7) (biasPieces_of i x0 x1 x2 x3 x4 xo7) (ix3 p 0 q)
    (biasPieces_cover i x0 x1 x2 x3 x4 xo7 (ix3 p 0 q))

end Cert.KernelIdeal.Hand

end
-- ==== Proof.ConvBlock.lean ====
module

public import proofs.«01_k».proof.Proof.Gen.KernelIdeal.Frame
public import proofs.«01_k».proof.Proof.Blocks

@[expose] public section

noncomputable section

namespace Cert.KernelIdeal.Hand

open Idealize.ShloMosaic Idealize.SL.Sem Cert.KernelIdeal Cert.KernelIdeal.Gen Cert.Blocks

/-- One for every row block but the last, zero there. -/
def lastFlag (i : Nat) : EReal := if i < 15 then 1 else 0

/-- The row `r + s` of a block of 256 rows, or row `r + s - 256` of the rows that follow it. -/
def below (last : EReal) (x0 : S2x256x1408.Idx → EReal) (x1 : S2x16x1408.Idx → EReal) (s : Nat) (hs : s ≤ 2) (p : Fin 2) (r : Fin 256)
    (q : Fin 1408) : EReal :=
  if h : r.val + s < 256 then x0 (ix3 p ⟨r.val + s, h⟩ q)
  else x1 (ix3 p ⟨r.val + s - 256, by have := r.isLt; omega⟩ q) * last

/-- What the transposed convolution writes at one place of a block. -/
def convAt (last : EReal) (x0 : S2x256x1408.Idx → EReal) (x1 : S2x16x1408.Idx → EReal) (x2 : S2x3x1408.Idx → EReal)
    (p : Fin 2) (r : Fin 256) (q : Fin 1408) : EReal :=
  x0 (ix3 p r q) * x2 (ix3 p 2 q) + below last x0 x1 1 (by decide) p r q * x2 (ix3 p 1 q) + below last x0 x1 2 (by decide) p r q * x2 (ix3 p 0 q)

theorem flag_eq (i : grid1.Coords) : k1_pay2 (F := Ideal) i = lastFlag (i 0).val := by
  unfold k1_pay2 lastFlag
  have hi : (i 0).val < 16 := (i 0).isLt
  generalize (i 0).val = n at hi
  dsimp only
  interval_cases n <;> pointwise <;> rfl

/-- The block turned up by one row, its last row replaced, is the next row. -/
theorem below_one (l : EReal) (x0 : S2x256x1408.Idx → EReal) (x1 : S2x16x1408.Idx → EReal) (p : Fin 2) (r : Fin 256) (q : Fin 1408)
    (h : (r.val + 256 - 255) % 256 < 256) :
    Scalar.select (IntOp.cmpi .eq (BitVec.ofNat 32 r.val) 255#32) (x1 (ix3 p 0 q) * l) (x0 (ix3 p ⟨(r.val + 256 - 255) % 256, h⟩ q))
      = below l x0 x1 1 (by decide) p r q := by
  rw [select_row _ 255 (r.isLt.trans (by decide)) (by decide)]
  have hr := r.isLt
  unfold below
  by_cases h1 : r.val = 255
  · rw [if_pos h1, dif_neg (by simp [h1])]
    congr 4; simp [h1]
  · have h2 : r.val + 1 < 256 := by omega
    rw [if_neg h1, dif_pos h2]
    congr 3
    rw [show r.val + 256 - 255 = r.val + 1 by omega, Nat.mod_eq_of_lt h2]

/-- The block turned up by two rows, its last two rows replaced, is the row after the next. -/
theorem below_two (l : EReal) (x0 : S2x256x1408.Idx → EReal) (x1 : S2x16x1408.Idx → EReal) (p : Fin 2) (r : Fin 256) (q : Fin 1408)
    (h : (r.val + 256 - 254) % 256 < 256) :
    Scalar.select (IntOp.cmpi .eq (BitVec.ofNat 32 r.val) 255#32) (x1 (ix3 p 1 q) * l)
      (Scalar.select (IntOp.cmpi .eq (BitVec.ofNat 32 r.val) 254#32) (x1 (ix3 p 0 q) * l) (x0 (ix3 p ⟨(r.val + 256 - 254) % 256, h⟩ q)))
      = below l x0 x1 2 (by decide) p r q := by
  rw [select_row _ 255 (r.isLt.trans (by decide)) (by decide), select_row _ 254 (r.isLt.trans (by decide)) (by decide)]
  have hr := r.isLt
  unfold below
  by_cases h1 : r.val = 255
  · rw [if_pos h1, dif_neg (by simp [h1])]
    congr 4; simp [h1]
  · rw [if_neg h1]
    by_cases h3 : r.val = 254
    · rw [if_pos h3, dif_neg (by simp [h3])]
      congr 4; simp [h3]
    · have h2 : r.val + 2 < 256 := by omega
      rw [if_neg h3, dif_pos h2]
      congr 3
      rw [show r.val + 256 - 254 = r.val + 2 by omega, Nat.mod_eq_of_lt h2]

/-- What the body stores in the first half of its output block. -/
theorem pay0 (i : grid1.Coords) (x0 : Vec Ideal S2x256x1408 .bf16) (x1 : Vec Ideal S2x16x1408 .bf16)
    (x2 : Vec Ideal S2x3x1408 .f32) (r : Fin 256) (q : Fin 1408) :
    k1_pay9 (k1_pay5 i (View.ld x0 r1_0) (View.ld x1 r1_1)) (k1_pay7 i (View.ld x0 r1_0) (View.ld x1 r1_1) (View.ld x2 r1_2))
      (k1_pay8 (View.ld x2 r1_2)) (ix3 0 r q) = convAt (lastFlag (i 0).val) x0 x1 x2 0 r q := by
  rw [← flag_eq]
  unfold convAt
  rw [← below_one _ _ _ _ _ _ (Nat.mod_lt _ (by decide)), ← below_two _ _ _ _ _ _ (Nat.mod_lt _ (by decide))]
  pointwise [k1_pay9, k1_pay5, k1_pay7, k1_pay8, k1_pay3, k1_pay4, k1_pay6]

/-- What the body stores in the second half of its output block. -/
theorem pay1 (i : grid1.Coords) (x0 : Vec Ideal S2x256x1408 .bf16) (x1 : Vec Ideal S2x16x1408 .bf16)
    (x2 : Vec Ideal S2x3x1408 .f32) (r : Fin 256) (q : Fin 1408) :
    k1_pay1 (k1_pay12 (k1_pay2 (F := Ideal) i) (k1_pay17 i x0 x1 x2) (View.ld x0 r1_3) (View.ld x1 r1_4)) (k1_pay13 (k1_pay2 (F := Ideal) i) (k1_pay17 i x0 x1 x2) (View.ld x0 r1_3) (View.ld x1 r1_4)) (k1_pay14 (View.ld x2 r1_5)) (k1_pay15 (View.ld x0 r1_3) (View.ld x2 r1_5)) (k1_pay16 (View.ld x2 r1_5))
      (ix3 0 r q) = convAt (lastFlag (i 0).val) x0 x1 x2 1 r q := by
  rw [← flag_eq]
  unfold convAt
  rw [← below_one _ _ _ _ _ _ (Nat.mod_lt _ (by decide)), ← below_two _ _ _ _ _ _ (Nat.mod_lt _ (by decide))]
  pointwise [k1_pay1, k1_pay10, k1_pay11, k1_pay12, k1_pay13, k1_pay14, k1_pay15, k1_pay16, k1_pay17]

/-- What the body leaves in its output block. -/
theorem out1_apply (i : grid1.Coords) (x0 : Vec Ideal S2x256x1408 .bf16) (x1 : Vec Ideal S2x16x1408 .bf16)
    (x2 : Vec Ideal S2x3x1408 .f32) (p : Fin 2) (r : Fin 256) (q : Fin 1408) :
    out1_3 i x0 x1 x2 (ix3 p r q) = convAt (lastFlag (i 0).val) x0 x1 x2 p r q := by
  unfold out1_3
  refine View.canon_apply_of_pieces (Val := Elt Ideal) (e := .bf16) (fun y : S2x256x1408.Idx => convAt (lastFlag (i 0).val) x0 x1 x2 (y 0) (y 1) (y 2)) _ ?_ _
    (cover1_3 _ _ _)
  intro pc hpc x
  simp only [List.mem_cons, List.mem_singleton, List.not_mem_nil, or_false] at hpc
  rcases hpc with rfl | rfl
  · obtain ⟨a, b, rfl⟩ := exists_ix3_1 x
    refine (pay1 i x0 x1 x2 a b).trans ?_
    rw [show r1_3.emb (ix3 (0 : Fin 1) a b) = ix3 (1 : Fin 2) a b from
      (emb_unit3 1 0 _ 0 a b (by decide) (by omega) b.isLt).trans (by simp)]
    rfl
  · obtain ⟨a, b, rfl⟩ := exists_ix3_1 x
    refine (pay0 i x0 x1 x2 a b).trans ?_
    rw [show r1_0.emb (ix3 (0 : Fin 1) a b) = ix3 (0 : Fin 2) a b from
      (emb_unit3 0 0 _ 0 a b (by decide) (by omega) b.isLt).trans (by simp)]
    rfl

end Cert.KernelIdeal.Hand

end
-- ==== Proof.Spec.lean ====
module

public import proofs.«01_k».proof.Proof.GateBlock
public import proofs.«01_k».proof.Proof.ConvBlock

@[expose] public section

noncomputable section

namespace Cert.KernelIdeal.Hand

open Idealize.ShloMosaic Idealize.SL.Sem Cert.KernelIdeal Cert.Blocks

/-! The arrays as functions of the whole sequence. -/

/-- The row `n - s` of the sequence, zero before its beginning. -/
def tap (U : S2x4096x5632.Idx → EReal) (s : Nat) (p : Fin 2) (n : Fin 4096) (j : Fin 5632) : EReal :=
  if s ≤ n.val then U (ix3 p ⟨n.val - s, by omega⟩ j) else 0

/-- The causal convolution. -/
def up (U : S2x4096x5632.Idx → EReal) (cw : S2x3x5632.Idx → EReal) (cb : S2x1x5632.Idx → EReal) (p : Fin 2) (n : Fin 4096) (j : Fin 5632) : EReal :=
  cb (ix3 p 0 j) + tap U 2 p n j * cw (ix3 p 0 j) + tap U 1 p n j * cw (ix3 p 1 j) + tap U 0 p n j * cw (ix3 p 2 j)

/-- The gradient of the convolution's output: of the values in the first half, of the gate in the second. -/
def dout (da : S4096x5632.Idx → EReal) (U : S2x4096x5632.Idx → EReal) (cw : S2x3x5632.Idx → EReal) (cb : S2x1x5632.Idx → EReal)
    (p : Fin 2) (n : Fin 4096) (j : Fin 5632) : EReal :=
  if p = 0 then da (ix2 n j) * gate (up U cw cb 1 n j) else da (ix2 n j) * up U cw cb 0 n j * gateGrad (up U cw cb 1 n j)

/-- The gradient of the convolution's weights. -/
def dw (da : S4096x5632.Idx → EReal) (U : S2x4096x5632.Idx → EReal) (cw : S2x3x5632.Idx → EReal) (cb : S2x1x5632.Idx → EReal)
    (p : Fin 2) (k : Fin 3) (j : Fin 5632) : EReal :=
  ∑ n : Fin 4096, dout da U cw cb p n j * tap U (2 - k.val) p n j

/-- The gradient of the convolution's bias. -/
def db (da : S4096x5632.Idx → EReal) (U : S2x4096x5632.Idx → EReal) (cw : S2x3x5632.Idx → EReal) (cb : S2x1x5632.Idx → EReal)
    (p : Fin 2) (j : Fin 5632) : EReal :=
  ∑ n : Fin 4096, dout da U cw cb p n j

/-- The row `n + s` of the sequence, zero after its end. -/
def ahead (D : S2x4096x5632.Idx → EReal) (s : Nat) (p : Fin 2) (n : Fin 4096) (j : Fin 5632) : EReal :=
  if h : n.val + s < 4096 then D (ix3 p ⟨n.val + s, h⟩ j) else 0

/-- The transposed convolution. -/
def back (D : S2x4096x5632.Idx → EReal) (cw : S2x3x5632.Idx → EReal) (p : Fin 2) (n : Fin 4096) (j : Fin 5632) : EReal :=
  D (ix3 p n j) * cw (ix3 p 2 j) + ahead D 1 p n j * cw (ix3 p 1 j) + ahead D 2 p n j * cw (ix3 p 0 j)

/-! Where the blocks of a grid of sixteen by four points lie. -/

/-- The row of the sequence that row `r` of row block `i` is. -/
def rowOf (i : Nat) (r : Fin 256) : Fin 4096 := ⟨i % 16 * 256 + r.val, by omega⟩

/-- The row of the sequence that row `r` of the sixteen rows before row block `i` is. -/
def beforeRow (i : Nat) (r : Fin 16) : Fin 4096 := ⟨i % 16 * 256 - 16 + r.val, by omega⟩

/-- The row of the sequence that row `r` of the sixteen rows after row block `i` is. -/
def afterRow (i : Nat) (r : Fin 16) : Fin 4096 := ⟨i % 15 * 256 + 256 + r.val, by omega⟩

/-- The column of the sequence that column `q` of column block `j` is. -/
def colOf (j : Nat) (q : Fin 1408) : Fin 5632 := ⟨j % 4 * 1408 + q.val, by omega⟩

/-- A sum over the rows of the sequence, taken block by block. -/
theorem sum_rows (f : Fin 4096 → EReal) : ∑ i ∈ Finset.range 16, ∑ r : Fin 256, f (rowOf i r) = ∑ n : Fin 4096, f n := by
  rw [Finset.sum_range, ← Fintype.sum_prod_type' (f := fun (i : Fin 16) (r : Fin 256) => f (rowOf i.val r))]
  refine Fintype.sum_equiv (finProdFinEquiv (m := 16) (n := 256)) _ _ fun x => ?_
  congr 1
  apply Fin.ext
  have := x.1.isLt
  simp only [rowOf, finProdFinEquiv_apply_val]
  omega

section blocks

variable (i j : Nat) (hi : i < 16) (da : S4096x5632.Idx → EReal) (U : S2x4096x5632.Idx → EReal) (cw : S2x3x5632.Idx → EReal)
  (cb : S2x1x5632.Idx → EReal) (x0 : S256x1408.Idx → EReal) (x1 : S2x256x1408.Idx → EReal) (x2 : S2x16x1408.Idx → EReal)
  (x3 : S2x3x1408.Idx → EReal) (x4 : S2x1x1408.Idx → EReal)
  (h0 : ∀ r q, x0 (ix2 r q) = da (ix2 (rowOf i r) (colOf j q)))
  (h1 : ∀ p r q, x1 (ix3 p r q) = U (ix3 p (rowOf i r) (colOf j q)))
  (h2 : 0 < i → ∀ p (r : Fin 16) q, x2 (ix3 p r q) = U (ix3 p (beforeRow i r) (colOf j q)))
  (h3 : ∀ p k q, x3 (ix3 p k q) = cw (ix3 p k (colOf j q)))
  (h4 : ∀ p q, x4 (ix3 p 0 q) = cb (ix3 p 0 (colOf j q)))

include hi h1 h2

/-- A row of taps of a block is that row of the sequence. -/
theorem above_eq (s : Nat) (hs : s ≤ 2) (p : Fin 2) (r : Fin 256) (q : Fin 1408) :
    above (firstFlag i) x1 x2 s hs p r q = tap U s p (rowOf i r) (colOf j q) := by
  have hr := r.isLt
  have hm : i % 16 = i := Nat.mod_eq_of_lt hi
  unfold above tap
  by_cases h : s ≤ r.val
  · rw [dif_pos h, if_pos (by simp only [rowOf]; omega), h1]
    congr 2
    apply Fin.ext
    simp only [rowOf]
    omega
  · rw [dif_neg h]
    by_cases hp : 0 < i
    · rw [if_pos (by simp only [rowOf]; omega), firstFlag, if_pos hp, mul_one, h2 hp]
      congr 2
      apply Fin.ext
      simp only [rowOf, beforeRow]
      omega
    · rw [if_neg (by simp only [rowOf]; omega), firstFlag, if_neg hp, mul_zero]

include h3 h4

theorem up_eq (p : Fin 2) (r : Fin 256) (q : Fin 1408) :
    upAt (firstFlag i) x1 x2 x3 x4 p r q = up U cw cb p (rowOf i r) (colOf j q) := by
  unfold upAt up
  rw [above_eq i j hi U x1 x2 h1 h2, above_eq i j hi U x1 x2 h1 h2, ← above_eq i j hi U x1 x2 h1 h2 0 (by decide), above_zero, h3, h3, h3, h4]

include h0

theorem dout_eq (p : Fin 2) (r : Fin 256) (q : Fin 1408) :
    doutAt (firstFlag i) x0 x1 x2 x3 x4 p r q = dout da U cw cb p (rowOf i r) (colOf j q) := by
  unfold doutAt dout
  rw [up_eq i j hi U cw cb x1 x2 x3 x4 h1 h2 h3 h4, up_eq i j hi U cw cb x1 x2 x3 x4 h1 h2 h3 h4, h0]

theorem weight_eq (Z : S2x3x1408.Idx → EReal) (p : Fin 2) (k : Fin 3) (q : Fin 1408) :
    weightAt x0 x1 x2 x3 x4 (firstFlag i) Z p k q
      = Z (ix3 p k q) + ∑ r : Fin 256, dout da U cw cb p (rowOf i r) (colOf j q) * tap U (2 - k.val) p (rowOf i r) (colOf j q) := by
  unfold weightAt
  simp only [dout_eq i j hi da U cw cb x0 x1 x2 x3 x4 h0 h1 h2 h3 h4, above_eq i j hi U x1 x2 h1 h2]

theorem bias_eq (Z : S2x1x1408.Idx → EReal) (p : Fin 2) (q : Fin 1408) :
    biasAt x0 x1 x2 x3 x4 (firstFlag i) Z p q = Z (ix3 p 0 q) + ∑ r : Fin 256, dout da U cw cb p (rowOf i r) (colOf j q) := by
  unfold biasAt
  simp only [dout_eq i j hi da U cw cb x0 x1 x2 x3 x4 h0 h1 h2 h3 h4]

end blocks

section backward

variable (i j : Nat) (hi : i < 16) (D : S2x4096x5632.Idx → EReal) (cw : S2x3x5632.Idx → EReal) (x0 : S2x256x1408.Idx → EReal)
  (x1 : S2x16x1408.Idx → EReal) (x2 : S2x3x1408.Idx → EReal)
  (h0 : ∀ p r q, x0 (ix3 p r q) = D (ix3 p (rowOf i r) (colOf j q)))
  (h1 : i < 15 → ∀ p (r : Fin 16) q, x1 (ix3 p r q) = D (ix3 p (afterRow i r) (colOf j q)))
  (h2 : ∀ p k q, x2 (ix3 p k q) = cw (ix3 p k (colOf j q)))

include hi h0 h1

theorem below_eq (s : Nat) (hs : s ≤ 2) (p : Fin 2) (r : Fin 256) (q : Fin 1408) :
    below (lastFlag i) x0 x1 s hs p r q = ahead D s p (rowOf i r) (colOf j q) := by
  have hr := r.isLt
  have hm : i % 16 = i := Nat.mod_eq_of_lt hi
  unfold below ahead
  by_cases h : r.val + s < 256
  · rw [dif_pos h, dif_pos (by simp only [rowOf]; omega), h0]
    congr 2
    apply Fin.ext
    simp only [rowOf]
    omega
  · rw [dif_neg h]
    by_cases hp : i < 15
    · rw [dif_pos (by simp only [rowOf]; omega), lastFlag, if_pos hp, mul_one, h1 hp]
      congr 2
      apply Fin.ext
      simp only [rowOf, afterRow]
      omega
    · rw [dif_neg (by simp only [rowOf]; omega), lastFlag, if_neg hp, mul_zero]

include h2

theorem back_eq (p : Fin 2) (r : Fin 256) (q : Fin 1408) :
    convAt (lastFlag i) x0 x1 x2 p r q = back D cw p (rowOf i r) (colOf j q) := by
  unfold convAt back
  rw [below_eq i j hi D x0 x1 h0 h1, below_eq i j hi D x0 x1 h0 h1, h0, h2, h2, h2]

end backward

end Cert.KernelIdeal.Hand

end
-- ==== Proof.Arrays0.lean ====
module

public import proofs.«01_k».proof.Proof.GateOut
public import proofs.«01_k».proof.Proof.Spec
public import Idealize.ShloMosaic.Lib.Pipeline.ValueKit

@[expose] public section

noncomputable section

namespace Cert.KernelIdeal.Hand

open Idealize.ShloMosaic Idealize.ShloMosaic.TcCoe Idealize.SL.Sem Cert.KernelIdeal Cert.KernelIdeal.Gen Cert.Blocks
open Idealize.ShloMosaic.Pipeline (Dat)

/-- The grid's two coordinates at a point: the column block, then the row block. -/
theorem coords0 (t : Fin cfg0.N) : (grid0.coords t 0).val = t.val / 16 % 4 ∧ (grid0.coords t 1).val = t.val % 16 := by
  have e1 : (grid0.coords t 1).val = t.val / 1 % 16 := Pipeline.Grid.coords_val t 1 (by decide) rfl
  refine ⟨Pipeline.Grid.coords_val t 0 (by decide) rfl, by rw [e1]; omega⟩

/-- Where each window's block lies at a point. -/
theorem idx0 : ∀ t : Fin cfg0.N, win0_0.index t = ![t.val % 16, t.val / 16 % 4] ∧ win0_1.index t = ![0, t.val % 16, t.val / 16 % 4]
    ∧ win0_2.index t = ![0, t.val % 16 * 16 - 1, t.val / 16 % 4] ∧ win0_3.index t = ![0, 0, t.val / 16 % 4]
    ∧ win0_4.index t = ![0, 0, t.val / 16 % 4] ∧ win0_5.index t = ![0, t.val % 16, t.val / 16 % 4]
    ∧ win0_6.index t = ![0, 0, t.val / 16 % 4] ∧ win0_7.index t = ![0, 0, t.val / 16 % 4] := by
  decide +kernel

variable (V : (c : Dev nD) → (b : Ref sig .tc) → Buf (Elt Ideal) ((c : Thread nD τ).loc b)) (c : Dev nD)

theorem blk0_0 (t : Fin cfg0.N) (r : Fin 256) (q : Fin 1408) :
    iblk0 V c 0 t (ix2 r q) = V c main_arg0 (ix2 (rowOf (t.val % 16) r) (colOf (t.val / 16) q)) := by
  blk_ext [iblk0, idx0 t, rowOf, colOf]

theorem blk0_1 (t : Fin cfg0.N) (p : Fin 2) (r : Fin 256) (q : Fin 1408) :
    iblk0 V c 1 t (ix3 p r q) = V c main_arg1 (ix3 p (rowOf (t.val % 16) r) (colOf (t.val / 16) q)) := by
  blk_ext [iblk0, idx0 t, rowOf, colOf]

theorem blk0_2 (t : Fin cfg0.N) (h : 0 < t.val % 16) (p : Fin 2) (r : Fin 16) (q : Fin 1408) :
    iblk0 V c 2 t (ix3 p r q) = V c main_arg1 (ix3 p (beforeRow (t.val % 16) r) (colOf (t.val / 16) q)) := by
  blk_ext [iblk0, idx0 t, beforeRow, colOf]

theorem blk0_3 (t : Fin cfg0.N) (p : Fin 2) (k : Fin 3) (q : Fin 1408) :
    iblk0 V c 3 t (ix3 p k q) = V c main_v1 (ix3 p k (colOf (t.val / 16) q)) := by
  blk_ext [iblk0, idx0 t, colOf]

theorem blk0_4 (t : Fin cfg0.N) (p : Fin 2) (q : Fin 1408) :
    iblk0 V c 4 t (ix3 p 0 q) = V c main_v2 (ix3 p 0 (colOf (t.val / 16) q)) := by
  blk_ext [iblk0, idx0 t, colOf]

/-- The gradient of the convolution's output, from the arrays at the region's entry. -/
abbrev dout0 (p : Fin 2) (n : Fin 4096) (j : Fin 5632) : EReal := dout (V c main_arg0) (V c main_arg1) (V c main_v1) (V c main_v2) p n j

/-- What one block of rows adds to the gradient of the weights, at a point. -/
def addW (p : Fin 2) (k : Fin 3) (q : Fin 1408) (n : Nat) : EReal :=
  ∑ r : Fin 256, dout0 V c p (rowOf n r) (colOf (n / 16) q) * tap (V c main_arg1) (2 - k.val) p (rowOf n r) (colOf (n / 16) q)

/-- What one block of rows adds to the gradient of the bias, at a point. -/
def addB (p : Fin 2) (q : Fin 1408) (n : Nat) : EReal := ∑ r : Fin 256, dout0 V c p (rowOf n r) (colOf (n / 16) q)

theorem rowOf_mod (n : Nat) (r : Fin 256) : rowOf (n % 16) r = rowOf n r := by
  unfold rowOf
  congr 1
  omega

/-- After point `t` the output's block holds the gradient of its rows. -/
theorem outs5 (t : Fin cfg0.N) (p : Fin 2) (r : Fin 256) (q : Fin 1408) :
    (outsAt0 V c t.val t.isLt).1 (ix3 p r q) = dout0 V c p (rowOf t.val r) (colOf (t.val / 16) q) := by
  have e := (coords0 t).2
  have hd := dout_eq (t.val % 16) (t.val / 16) (Nat.mod_lt _ (by decide)) (V c main_arg0) (V c main_arg1) (V c main_v1) (V c main_v2)
    (iblk0 V c 0 t) (iblk0 V c 1 t) (iblk0 V c 2 t) (iblk0 V c 3 t) (iblk0 V c 4 t) (blk0_0 V c t) (blk0_1 V c t) (fun h => blk0_2 V c t h)
    (blk0_3 V c t) (blk0_4 V c t) p r q
  rw [rowOf_mod] at hd
  by_cases h0 : t.val % 16 = 0
  · rw [outsAt0_A V c t h0]
    dsimp only
    rw [out0_A_5_apply, e]
    exact hd
  · rw [outsAt0_B V c t h0]
    dsimp only
    rw [out0_B_5_apply, e]
    exact hd

/-- After point `t` the weights' gradient holds the sums over the row blocks so far. -/
theorem outs6 (p : Fin 2) (k : Fin 3) (q : Fin 1408) : ∀ (n : Nat) (hn : n < cfg0.N),
    (outsAt0 V c n hn).2.1 (ix3 p k q) = ∑ i ∈ Finset.range (n % 16 + 1), addW V c p k q (n / 16 * 16 + i) := by
  intro n
  induction n using Nat.strong_induction_on with
  | _ n ih =>
    intro hn
    have e := (coords0 ⟨n, hn⟩).2
    have hd := fun Z => weight_eq (n % 16) (n / 16) (Nat.mod_lt _ (by decide)) (V c main_arg0) (V c main_arg1) (V c main_v1) (V c main_v2)
      (iblk0 V c 0 ⟨n, hn⟩) (iblk0 V c 1 ⟨n, hn⟩) (iblk0 V c 2 ⟨n, hn⟩) (iblk0 V c 3 ⟨n, hn⟩) (iblk0 V c 4 ⟨n, hn⟩) (blk0_0 V c ⟨n, hn⟩)
      (blk0_1 V c ⟨n, hn⟩) (fun h => blk0_2 V c ⟨n, hn⟩ h) (blk0_3 V c ⟨n, hn⟩) (blk0_4 V c ⟨n, hn⟩) Z p k q
    simp only [rowOf_mod] at hd
    have hN : n / 16 * 16 + n % 16 = n := by omega
    by_cases h0 : n % 16 = 0
    · rw [outsAt0_A V c ⟨n, hn⟩ h0]
      dsimp only
      rw [out0_A_6_apply, e]
      refine (hd _).trans ?_
      rw [Finset.sum_range_succ, hN, h0, Finset.sum_range_zero]
      congr 1
      pointwise [k0_pay4]
    · rw [outsAt0_B V c ⟨n, hn⟩ h0]
      dsimp only
      rw [out0_B_6_apply, e]
      refine (hd _).trans ?_
      rw [Finset.sum_range_succ, hN, ih (n - 1) (by omega) _]
      rw [show (n - 1) % 16 + 1 = n % 16 by omega, show (n - 1) / 16 = n / 16 by omega]
      rfl

/-- After point `t` the bias's gradient holds the sums over the row blocks so far. -/
theorem outs7 (p : Fin 2) (q : Fin 1408) : ∀ (n : Nat) (hn : n < cfg0.N),
    (outsAt0 V c n hn).2.2 (ix3 p 0 q) = ∑ i ∈ Finset.range (n % 16 + 1), addB V c p q (n / 16 * 16 + i) := by
  intro n
  induction n using Nat.strong_induction_on with
  | _ n ih =>
    intro hn
    have e := (coords0 ⟨n, hn⟩).2
    have hd := fun Z => bias_eq (n % 16) (n / 16) (Nat.mod_lt _ (by decide)) (V c main_arg0) (V c main_arg1) (V c main_v1) (V c main_v2)
      (iblk0 V c 0 ⟨n, hn⟩) (iblk0 V c 1 ⟨n, hn⟩) (iblk0 V c 2 ⟨n, hn⟩) (iblk0 V c 3 ⟨n, hn⟩) (iblk0 V c 4 ⟨n, hn⟩) (blk0_0 V c ⟨n, hn⟩)
      (blk0_1 V c ⟨n, hn⟩) (fun h => blk0_2 V c ⟨n, hn⟩ h) (blk0_3 V c ⟨n, hn⟩) (blk0_4 V c ⟨n, hn⟩) Z p q
    simp only [rowOf_mod] at hd
    have hN : n / 16 * 16 + n % 16 = n := by omega
    by_cases h0 : n % 16 = 0
    · rw [outsAt0_A V c ⟨n, hn⟩ h0]
      dsimp only
      rw [out0_A_7_apply, e]
      refine (hd _).trans ?_
      rw [Finset.sum_range_succ, hN, h0, Finset.sum_range_zero]
      congr 1
      pointwise [k0_pay5]
    · rw [outsAt0_B V c ⟨n, hn⟩ h0]
      dsimp only
      rw [out0_B_7_apply, e]
      refine (hd _).trans ?_
      rw [Finset.sum_range_succ, hN, ih (n - 1) (by omega) _]
      rw [show (n - 1) % 16 + 1 = n % 16 by omega, show (n - 1) / 16 = n / 16 by omega]
      rfl

/-- A column block's sixteen row blocks together are all rows. -/
theorem addW_all (p : Fin 2) (k : Fin 3) (q : Fin 1408) (j : Nat) :
    ∑ i ∈ Finset.range 16, addW V c p k q (j * 16 + i) = dw (V c main_arg0) (V c main_arg1) (V c main_v1) (V c main_v2) p k (colOf j q) := by
  unfold dw
  rw [← sum_rows]
  refine Finset.sum_congr rfl fun i hi => ?_
  have := Finset.mem_range.mp hi
  unfold addW
  refine Finset.sum_congr rfl fun r _ => ?_
  rw [show (j * 16 + i) / 16 = j by omega, show rowOf (j * 16 + i) r = rowOf i r by rw [← rowOf_mod, show (j * 16 + i) % 16 = i by omega]]

theorem addB_all (p : Fin 2) (q : Fin 1408) (j : Nat) :
    ∑ i ∈ Finset.range 16, addB V c p q (j * 16 + i) = db (V c main_arg0) (V c main_arg1) (V c main_v1) (V c main_v2) p (colOf j q) := by
  unfold db
  rw [← sum_rows]
  refine Finset.sum_congr rfl fun i hi => ?_
  have := Finset.mem_range.mp hi
  unfold addB
  refine Finset.sum_congr rfl fun r _ => ?_
  rw [show (j * 16 + i) / 16 = j by omega, show rowOf (j * 16 + i) r = rowOf i r by rw [← rowOf_mod, show (j * 16 + i) % 16 = i by omega]]

theorem at3 {α : Sort*} {a b d : Nat} (f : Fin a → Fin b → Fin d → α) {i i' : Fin a} {j j' : Fin b} {k k' : Fin d} (h0 : i.val = i'.val)
    (h1 : j.val = j'.val) (h2 : k.val = k'.val) : f i j k = f i' j' k' := by
  rw [Fin.ext h0, Fin.ext h1, Fin.ext h2]

/-- The gradient of the convolution's output, as the region leaves it. -/
theorem arr5 : (dat0 V c).arrAt 5 cfg0.N = fun y : S2x4096x5632.Idx => dout0 V c (y 0) (y 1) (y 2) := by
  refine (dat0 V c).arrAt_eq_of_covers 5 _ (by decide +kernel) fun t hf y => ?_
  blk_simp
  rw [after0_5]
  obtain ⟨p, r, q, rfl⟩ : ∃ (p : Fin 2) (r : Fin 256) (q : Fin 1408), y = ix3 p r q := ⟨y 0, y 1, y 2, eq_ix3 y⟩
  rw [outs5 V c t p r q]
  refine at3 (dout0 V c) ?_ ?_ ?_ <;> blk_ext [idx0 t, rowOf, colOf]

/-- The gradient of the weights, as the region leaves it. -/
theorem arr6 : (dat0 V c).arrAt 6 cfg0.N
    = fun y : S2x3x5632.Idx => dw (V c main_arg0) (V c main_arg1) (V c main_v1) (V c main_v2) (y 0) (y 1) (y 2) := by
  refine (dat0 V c).arrAt_eq_of_covers 6 _ (by decide +kernel) fun t hf y => ?_
  blk_simp
  rw [after0_6]
  obtain ⟨p, k, q, rfl⟩ : ∃ (p : Fin 2) (k : Fin 3) (q : Fin 1408), y = ix3 p k q := ⟨y 0, y 1, y 2, eq_ix3 y⟩
  rw [outs6 V c p k q t.val t.isLt, (flush0_6 t).mp hf, addW_all]
  refine at3 (dw (V c main_arg0) (V c main_arg1) (V c main_v1) (V c main_v2)) ?_ ?_ ?_ <;> blk_ext [idx0 t, colOf]

/-- The gradient of the bias, as the region leaves it. -/
theorem arr7 : (dat0 V c).arrAt 7 cfg0.N
    = fun y : S2x1x5632.Idx => db (V c main_arg0) (V c main_arg1) (V c main_v1) (V c main_v2) (y 0) (y 2) := by
  refine (dat0 V c).arrAt_eq_of_covers 7 _ (by decide +kernel) fun t hf y => ?_
  blk_simp
  rw [after0_7]
  obtain ⟨p, z, q, rfl⟩ : ∃ (p : Fin 2) (z : Fin 1) (q : Fin 1408), y = ix3 p z q := ⟨y 0, y 1, y 2, eq_ix3 y⟩
  obtain rfl : z = 0 := Subsingleton.elim _ _
  rw [outs7 V c p q t.val t.isLt, (flush0_7 t).mp hf, addB_all]
  refine at3 (fun p (_ : Fin 1) j => db (V c main_arg0) (V c main_arg1) (V c main_v1) (V c main_v2) p j) (j := 0) (j' := 0) ?_ rfl ?_
    <;> blk_ext [idx0 t, colOf]

end Cert.KernelIdeal.Hand

end
-- ==== Proof.Arrays1.lean ====
module

public import proofs.«01_k».proof.Proof.Arrays0

@[expose] public section

noncomputable section

namespace Cert.KernelIdeal.Hand

open Idealize.ShloMosaic Idealize.ShloMosaic.TcCoe Idealize.SL.Sem Cert.KernelIdeal Cert.KernelIdeal.Gen Cert.Blocks
open Idealize.ShloMosaic.Pipeline (Dat)

theorem coords1 (t : Fin cfg1.N) : (grid1.coords t 0).val = t.val / 4 % 16 := Pipeline.Grid.coords_val t 0 (by decide) rfl

/-- Where each window's block lies at a point. -/
theorem idx1 : ∀ t : Fin cfg1.N, win1_0.index t = ![0, t.val / 4 % 16, t.val % 4]
    ∧ win1_1.index t = ![0, min (t.val / 4 % 16 * 16 + 16) 255, t.val % 4] ∧ win1_2.index t = ![0, 0, t.val % 4]
    ∧ win1_3.index t = ![0, t.val / 4 % 16, t.val % 4] := by
  decide +kernel

variable (V : (c : Dev nD) → (b : Ref sig .tc) → Buf (Elt Ideal) ((c : Thread nD τ).loc b)) (c : Dev nD)

theorem blk1_0 (t : Fin cfg1.N) (p : Fin 2) (r : Fin 256) (q : Fin 1408) :
    iblk1 V c 0 t (ix3 p r q) = V c main_v3_0 (ix3 p (rowOf (t.val / 4 % 16) r) (colOf (t.val % 4) q)) := by
  blk_ext [iblk1, idx1 t, rowOf, colOf]

theorem blk1_1 (t : Fin cfg1.N) (h : t.val / 4 % 16 < 15) (p : Fin 2) (r : Fin 16) (q : Fin 1408) :
    iblk1 V c 1 t (ix3 p r q) = V c main_v3_0 (ix3 p (afterRow (t.val / 4 % 16) r) (colOf (t.val % 4) q)) := by
  blk_ext [iblk1, idx1 t, afterRow, colOf]

theorem blk1_2 (t : Fin cfg1.N) (p : Fin 2) (k : Fin 3) (q : Fin 1408) :
    iblk1 V c 2 t (ix3 p k q) = V c main_v1 (ix3 p k (colOf (t.val % 4) q)) := by
  blk_ext [iblk1, idx1 t, colOf]

/-- The gradient of the convolution's input, as the region leaves it. -/
theorem arr3 : (dat1 V c).arrAt 3 cfg1.N = fun y : S2x4096x5632.Idx => back (V c main_v3_0) (V c main_v1) (y 0) (y 1) (y 2) := by
  refine (dat1 V c).arrAt_eq_of_covers 3 _ (by decide +kernel) fun t hf y => ?_
  blk_simp
  rw [after1_3]
  obtain ⟨p, r, q, rfl⟩ : ∃ (p : Fin 2) (r : Fin 256) (q : Fin 1408), y = ix3 p r q := ⟨y 0, y 1, y 2, eq_ix3 y⟩
  refine (out1_apply (grid1.coords t) (iblk1 V c 0 t) (iblk1 V c 1 t) (iblk1 V c 2 t) p r q).trans ?_
  rw [coords1, back_eq (t.val / 4 % 16) (t.val % 4) (Nat.mod_lt _ (by decide)) (V c main_v3_0) (V c main_v1) (iblk1 V c 0 t) (iblk1 V c 1 t)
    (iblk1 V c 2 t) (blk1_0 V c t) (fun h => blk1_1 V c t h) (blk1_2 V c t)]
  rw [rowOf_mod, show colOf (t.val % 4) q = colOf t.val q by unfold colOf; congr 1; omega]
  refine at3 (back (V c main_v3_0) (V c main_v1)) ?_ ?_ ?_ <;> blk_ext [idx1 t, rowOf, colOf]

end Cert.KernelIdeal.Hand

end
-- ==== Proof.Run.lean ====
module

public import proofs.«01_k».proof.Proof.Arrays1
public import Idealize.ShloMosaic.Lib.Claim
public import Idealize.ShloMosaic.Lib.Pointwise
public import Idealize.ShloMosaic.Lib.Tactic.CleanTypes

@[expose] public section

noncomputable section

namespace Cert.KernelIdeal.Hand

open Idealize.ShloMosaic Idealize.ShloMosaic.TcCoe Idealize.SL Idealize.SL.Sem Cert.KernelIdeal Cert.KernelIdeal.Gen Cert.Blocks
open Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The weights as the kernel lays them out, by half, by place in the window. -/
def cwOf (w : S3x11264.Idx → EReal) : S2x3x5632.Idx → EReal := fun y => w (ix2 (y 1) ⟨(y 0).val * 5632 + (y 2).val, by
  have h0 : (y 0).val < 2 := (y 0).isLt
  have h2 : (y 2).val < 5632 := (y 2).isLt
  omega⟩)

/-- The bias as the kernel lays it out, by half. -/
def cbOf (b : S11264.Idx → EReal) : S2x1x5632.Idx → EReal := fun y => b (ix1 ⟨(y 0).val * 5632 + (y 2).val, by
  have h0 : (y 0).val < 2 := (y 0).isLt
  have h2 : (y 2).val < 5632 := (y 2).isLt
  omega⟩)

/-- The first launch finds the weights laid out by half. -/
theorem V1_v1 (c : Dev nD) : V1 m ρ c main_v1 = cwOf (m ((c : Thread nD τ).loc main_arg2)) := by
  funext y
  obtain ⟨p, k, q, rfl⟩ : ∃ (p : Fin 2) (k : Fin 3) (q : Fin 5632), y = ix3 p k q := ⟨y 0, y 1, y 2, eq_ix3 y⟩
  unfold_abbrev_sides
  after_results
  clean_types
  pointwise
  rfl

/-- The first launch finds the bias laid out by half. -/
theorem V1_v2 (c : Dev nD) : V1 m ρ c main_v2 = cbOf (m ((c : Thread nD τ).loc main_arg3)) := by
  funext y
  obtain ⟨p, k, q, rfl⟩ : ∃ (p : Fin 2) (k : Fin 1) (q : Fin 5632), y = ix3 p k q := ⟨y 0, y 1, y 2, eq_ix3 y⟩
  unfold_abbrev_sides
  after_results
  clean_types
  pointwise
  rfl

/-- The half a column of the joined arrays lies in, and its column there. -/
def halfOf (j : Fin 11264) : Fin 2 := ⟨j.val / 5632, by omega⟩

@[inherit_doc halfOf] def within (j : Fin 11264) : Fin 5632 := ⟨j.val % 5632, by omega⟩

/-- The gradient of the weights is what the first launch left, the two halves joined. -/
theorem W4_v5 (c : Dev nD) (k : Fin 3) (j : Fin 11264) : W4 m ρ c (Proc.devRef .tc main_v5) (ix2 k j)
    = W2 m ρ c (Proc.devRef .tc main_v3_1) (ix3 (halfOf j) k (within j)) := by
  rw [W4_of m ρ c main_v5 (by decide)]
  unfold_abbrev_sides
  after_results
  clean_types
  pointwise
  rfl

/-- The gradient of the bias is what the first launch left, the two halves joined. -/
theorem W4_v6 (c : Dev nD) (j : Fin 11264) : W4 m ρ c (Proc.devRef .tc main_v6) (ix1 j)
    = W2 m ρ c (Proc.devRef .tc main_v3_2) (ix3 (halfOf j) (0 : Fin 1) (within j)) := by
  rw [W4_of m ρ c main_v6 (by decide)]
  unfold_abbrev_sides
  after_results
  clean_types
  pointwise
  rfl

/-- The arguments the launches take as they are. -/
theorem V1_arg0 (c : Dev nD) : V1 m ρ c main_arg0 = m ((c : Thread nD τ).loc main_arg0) := W1_of m ρ c main_arg0 (by decide)

@[inherit_doc V1_arg0] theorem V1_arg1 (c : Dev nD) : V1 m ρ c main_arg1 = m ((c : Thread nD τ).loc main_arg1) :=
  W1_of m ρ c main_arg1 (by decide)

/-- The second launch finds the gradient of the convolution's result that the first one left. -/
theorem V3_v3_0 (c : Dev nD) : V3 m ρ c main_v3_0 = (dat0 (V1 m ρ) c).arrAt 5 cfg0.N :=
  (W3_of m ρ c main_v3_0 (by decide)).trans (W2_arr m ρ c 5)

/-- The second launch finds the weights the first one found. -/
theorem V3_v1 (c : Dev nD) : V3 m ρ c main_v1 = V1 m ρ c main_v1 :=
  (W3_of m ρ c main_v1 (by decide)).trans (W2_of m ρ c main_v1 (by decide))

/-- The kernel's first result, over the arguments. -/
def res0 (da : S4096x5632.Idx → EReal) (U : S2x4096x5632.Idx → EReal) (w : S3x11264.Idx → EReal) (b : S11264.Idx → EReal) :
    S2x4096x5632.Idx → EReal := fun y =>
  back (fun z => dout da U (cwOf w) (cbOf b) (z 0) (z 1) (z 2)) (cwOf w) (y 0) (y 1) (y 2)

/-- The kernel's second result, over the arguments. -/
def res1 (da : S4096x5632.Idx → EReal) (U : S2x4096x5632.Idx → EReal) (w : S3x11264.Idx → EReal) (b : S11264.Idx → EReal) :
    S3x11264.Idx → EReal := fun y => dw da U (cwOf w) (cbOf b) (halfOf (y 1)) (y 0) (within (y 1))

/-- The kernel's third result, over the arguments. -/
def res2 (da : S4096x5632.Idx → EReal) (U : S2x4096x5632.Idx → EReal) (w : S3x11264.Idx → EReal) (b : S11264.Idx → EReal) :
    S11264.Idx → EReal := fun y => db da U (cwOf w) (cbOf b) (halfOf (y 0)) (within (y 0))

/-- The run ends with the first result as `res0` gives it. -/
theorem W4_res0 (c : Dev nD) : W4 m ρ c (Proc.devRef .tc main_v7) = res0 (m ((c : Thread nD τ).loc main_arg0))
    (m ((c : Thread nD τ).loc main_arg1)) (m ((c : Thread nD τ).loc main_arg2)) (m ((c : Thread nD τ).loc main_arg3)) := by
  refine (W4_arr m ρ c 3).trans ((arr3 (V3 m ρ) c).trans ?_)
  rw [V3_v3_0, V3_v1, V1_v1, arr5]
  unfold dout0
  rw [V1_v1, V1_v2, V1_arg0, V1_arg1]
  rfl

/-- The run ends with the second result as `res1` gives it. -/
theorem W4_res1 (c : Dev nD) : W4 m ρ c (Proc.devRef .tc main_v5) = res1 (m ((c : Thread nD τ).loc main_arg0))
    (m ((c : Thread nD τ).loc main_arg1)) (m ((c : Thread nD τ).loc main_arg2)) (m ((c : Thread nD τ).loc main_arg3)) := by
  funext y
  obtain ⟨k, j, rfl⟩ : ∃ (k : Fin 3) (j : Fin 11264), y = ix2 k j := ⟨y 0, y 1, eq_ix2 y⟩
  rw [W4_v5, show W2 m ρ c (Proc.devRef .tc main_v3_1) = _ from (W2_arr m ρ c 6).trans (arr6 (V1 m ρ) c),
    V1_v1, V1_v2, V1_arg0, V1_arg1]
  rfl

/-- The run ends with the third result as `res2` gives it. -/
theorem W4_res2 (c : Dev nD) : W4 m ρ c (Proc.devRef .tc main_v6) = res2 (m ((c : Thread nD τ).loc main_arg0))
    (m ((c : Thread nD τ).loc main_arg1)) (m ((c : Thread nD τ).loc main_arg2)) (m ((c : Thread nD τ).loc main_arg3)) := by
  funext y
  obtain ⟨j, rfl⟩ : ∃ (j : Fin 11264), y = ix1 j := ⟨y 0, eq_ix1 y⟩
  rw [W4_v6, show W2 m ρ c (Proc.devRef .tc main_v3_2) = _ from (W2_arr m ρ c 7).trans (arr7 (V1 m ρ) c),
    V1_v1, V1_v2, V1_arg0, V1_arg1]
  rfl

-- the launch's implicit arguments are found by unifying its conclusion with this one
set_option backward.isDefEq.respectTransparency.types false in
/-- Every run ends with the three results as `res0`, `res1` and `res2` give them, and the arguments as they were. -/
theorem run : θ_run (defs (F := Ideal)) (onTc (τ := τ) (main (F := Ideal))) ⟨m, fun _ => 0, ρ⟩ (fun r => ∀ c : Dev nD,
      r.2.mem ((c.tc : Thread nD τ).loc main_v7) = res0 (m ((c : Thread nD τ).loc main_arg0))
        (m ((c : Thread nD τ).loc main_arg1)) (m ((c : Thread nD τ).loc main_arg2)) (m ((c : Thread nD τ).loc main_arg3))
      ∧ r.2.mem ((c.tc : Thread nD τ).loc main_v5) = res1 (m ((c : Thread nD τ).loc main_arg0))
        (m ((c : Thread nD τ).loc main_arg1)) (m ((c : Thread nD τ).loc main_arg2)) (m ((c : Thread nD τ).loc main_arg3))
      ∧ r.2.mem ((c.tc : Thread nD τ).loc main_v6) = res2 (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (W4_res0 m ρ c),
       (h c _ (mem_uc main_v5 (by decide))).trans (W4_res1 m ρ c),
       (h c _ (mem_uc main_v6 (by decide))).trans (W4_res2 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.GateAlgebra.lean ====
module

public import proofs.«01_k».proof.Proof.Spec
public import Idealize.ShloMosaic.PureOps.IdealRules

@[expose] public section

noncomputable section

namespace Cert.KernelIdeal.Hand

open Idealize.ShloMosaic Cert.KernelIdeal

/-- The quotient the plain gelu takes for its cubic coefficient. -/
def quotC : EReal := Ideal.div (Ideal.ofBits .f32 0x472EAB00#32) (Ideal.ofBits .f32 0x49742400#32)

theorem quotC_eq : quotC = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  unfold quotC
  rw [h1, h2, Ideal.div_coe (by norm_num), ← EReal.coe_mul]
  norm_num

theorem cubicC_eq : cubicC = ((8943 / 200000 : ℝ) : EReal) := IdealRules.named_const.ideal_named_scalar _ _ _ _ rfl

theorem cubic3C_eq : cubic3C = ((26829 / 200000 : ℝ) : EReal) := IdealRules.named_const.ideal_named_scalar _ _ _ _ rfl

theorem threeC_eq : Ideal.ofBits .f32 0x40400000#32 = ((3 : ℝ) : EReal) := by
  simp [Ideal.ofBits, Ideal.ieee, -EReal.coe_mul]; norm_num

theorem halfC_eq : halfC = ((1 / 2 : ℝ) : EReal) := by
  unfold halfC
  simp [Ideal.ofBits, Ideal.ieee, -EReal.coe_mul]; norm_num

theorem scaleC_real : ∃ r : ℝ, scaleC = r := by
  refine ⟨13386282 / 2 ^ 24, ?_⟩
  unfold scaleC
  simp [Ideal.ofBits, Ideal.ieee, -EReal.coe_mul]; norm_num

/-- The plain gelu's hyperbolic tangent. -/
def plainTanh (v : EReal) : EReal := Ideal.tanh (scaleC * (v + quotC * (v * v * v)))

theorem plainTanh_eq (v : EReal) : plainTanh v = gateTanh v := by
  unfold plainTanh gateTanh; rw [quotC_eq, cubicC_eq]

/-- The gradient of the plain gelu's argument as the chain rule spells it: the cotangent `a` times the other factor `u`
    carried back through the product, the tangent's square and the cube. -/
def plainGrad (a u v : EReal) : EReal :=
  a * u * (halfC * (1 + plainTanh v)) + scaleC * (halfC * (v * (a * u)) * ((1 + plainTanh v) * (1 - plainTanh v)))
    + quotC * (scaleC * (halfC * (v * (a * u)) * ((1 + plainTanh v) * (1 - plainTanh v)))) * (Ideal.ofBits .f32 0x40400000#32 * (v * v))

/-- Of real numbers the chain rule's spelling is the closed form. -/
theorem plainGrad_eq (a u v : ℝ) : plainGrad a u v = (a : EReal) * u * gateGrad v := by
  obtain ⟨s, hs⟩ := scaleC_real
  obtain ⟨t, ht⟩ : ∃ t : ℝ, gateTanh v = t := by
    refine ⟨Real.tanh (s * (v + (8943 / 200000 : ℝ) * (v * v * v))), ?_⟩
    unfold gateTanh
    rw [hs, cubicC_eq]
    simp only [← EReal.coe_mul, ← EReal.coe_add, Ideal.tanh_coe]
  unfold plainGrad gateGrad gateHalf
  rw [plainTanh_eq, ht, hs, quotC_eq, cubic3C_eq, threeC_eq, halfC_eq, ← EReal.coe_one]
  simp only [← EReal.coe_mul, ← EReal.coe_add, ← EReal.coe_sub]
  rw [EReal.coe_eq_coe_iff]
  ring

/-- The plain gelu is the kernel's. -/
theorem plainGate_eq (v : EReal) : v * (halfC * (1 + plainTanh v)) = gate v := by
  unfold gate gateHalf; rw [plainTanh_eq]

/-- A number that is neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem tap_real (U : S2x4096x5632.Idx → EReal) (hU : ∀ i, IsReal (U i)) (s : Nat) (p : Fin 2) (n : Fin 4096) (j : Fin 5632) :
    IsReal (tap U s p n j) := by
  unfold tap
  split
  · exact hU _
  · exact ⟨0, rfl⟩

theorem up_real (U : S2x4096x5632.Idx → EReal) (cw : S2x3x5632.Idx → EReal) (cb : S2x1x5632.Idx → EReal) (hU : ∀ i, IsReal (U i))
    (hw : ∀ i, IsReal (cw i)) (hb : ∀ i, IsReal (cb i)) (p : Fin 2) (n : Fin 4096) (j : Fin 5632) : IsReal (up U cw cb p n j) :=
  (((hb _).add ((tap_real U hU 2 p n j).mul (hw _))).add ((tap_real U hU 1 p n j).mul (hw _))).add ((tap_real U hU 0 p n j).mul (hw _))

end Cert.KernelIdeal.Hand

end
-- ==== Proof.RefTaps.lean ====
module

public import proofs.«01_k».proof.Proof.Run
public import proofs.«01_k».proof.Proof.GateAlgebra
public import proofs.«01_k».proof.Proof.Gen.ReferenceIdeal.Read

@[expose] public section

noncomputable section

namespace Cert.ReferenceIdeal.Hand

open Idealize.ShloMosaic Cert.ReferenceIdeal Cert.ReferenceIdeal.Read Cert.KernelIdeal.Hand

variable (x0 : S4096x5632.Idx → EReal) (x1 : S2x4096x5632.Idx → EReal) (x2 : S3x11264.Idx → EReal) (x3 : S11264.Idx → EReal)

/-- A stacked array at two spellings of one place. -/
theorem same {i i' : Fin 2} {n n' : Fin 4096} {j j' : Fin 5632} (hi : i.val = i'.val) (hn : n.val = n'.val) (hj : j.val = j'.val) :
    x1 (ix3 i n j) = x1 (ix3 i' n' j') :=
  at3 (fun i n j => x1 (ix3 i n j)) hi hn hj

/-- An entry of the halves laid side by side is the entry of the stacked halves at the column's half and place. -/
theorem joined (n : Fin 4096) (j : Fin 11264) : (if h : j.val < 5632 then x1 (ix3 (0 : Fin 2) n ⟨j.val, h⟩)
    else x1 (ix3 (1 : Fin 2) n ⟨j.val - 5632, by omega⟩)) = x1 (ix3 (halfOf j) n (within j)) := by
  have hj := j.isLt
  split <;> rename_i h
  · exact same x1 (by show _ = j.val / 5632; first | (show 0 = _; omega) | (show 1 = _; omega)) rfl (by show _ = j.val % 5632; simp only; omega)
  · exact same x1 (by show _ = j.val / 5632; first | (show 0 = _; omega) | (show 1 = _; omega)) rfl (by show _ = j.val % 5632; simp only; omega)

/-- The rows with two rows of zeros before them. -/
theorem v7_apply (n : Fin 4098) (j : Fin 11264) : val_main_v7 (F := Ideal) x1 (ix2 n j)
    = if h : n.val < 2 then 0 else x1 (ix3 (halfOf j) ⟨n.val - 2, by omega⟩ (within j)) := by
  unfold val_main_v7 val_main_v5
  pointwise [val_main_v6, val_main_cst, val_main_v2, val_main_v4, val_main_v1, val_main_v3, val_main_v0]
  split
  · rfl
  · exact joined x1 ⟨n.val - 2, by omega⟩ j

/-- The rows two earlier. -/
theorem v9_apply (n : Fin 4096) (j : Fin 11264) : val_main_v9 (F := Ideal) x1 (ix2 n j) = tap x1 2 (halfOf j) n (within j) := by
  unfold val_main_v9
  pointwise
  rw [v7_apply]
  unfold tap
  split <;> split <;> rename_i h h' <;> simp only at h h' <;> first | rfl | omega | (exact same x1 rfl (by simp only; omega) rfl)

/-- The rows one earlier. -/
theorem v18_apply (n : Fin 4096) (j : Fin 11264) : val_main_v18 (F := Ideal) x1 (ix2 n j) = tap x1 1 (halfOf j) n (within j) := by
  unfold val_main_v18
  pointwise
  rw [v7_apply]
  unfold tap
  split <;> split <;> rename_i h h' <;> simp only at h h' <;> first | rfl | omega | (exact same x1 rfl (by simp only; omega) rfl)

/-- The rows themselves. -/
theorem v25_apply (n : Fin 4096) (j : Fin 11264) : val_main_v25 (F := Ideal) x1 (ix2 n j) = tap x1 0 (halfOf j) n (within j) := by
  unfold val_main_v25
  pointwise
  rw [v7_apply]
  unfold tap
  split <;> split <;> rename_i h h' <;> simp only at h h' <;> first | rfl | omega | (exact same x1 rfl (by simp only; omega) rfl)

/-- The weights at a column of the joined array are those of the column's half and place. -/
theorem cwOf_at (k : Fin 3) (j : Fin 11264) : x2 (ix2 k j) = cwOf x2 (ix3 (halfOf j) k (within j)) := by
  refine congrArg x2 (congrArg (ix2 k) (Fin.ext ?_))
  show j.val = j.val / 5632 * 5632 + j.val % 5632
  omega

@[inherit_doc cwOf_at] theorem cbOf_at (j : Fin 11264) : x3 (ix1 j) = cbOf x3 (ix3 (halfOf j) 0 (within j)) := by
  refine congrArg x3 (congrArg ix1 (Fin.ext ?_))
  show j.val = j.val / 5632 * 5632 + j.val % 5632
  omega

/-- The convolution. -/
theorem v31_apply (n : Fin 4096) (j : Fin 11264) : val_main_v31 (F := Ideal) x1 x2 x3 (ix2 n j)
    = up x1 (cwOf x2) (cbOf x3) (halfOf j) n (within j) := by
  unfold val_main_v31
  pointwise [val_main_v24, val_main_v30, val_main_v17, val_main_v23, val_main_v16, val_main_v14, val_main_v13, val_main_v22, val_main_v29,
    val_main_v15, val_main_v12, val_main_v21, val_main_v28, val_main_v11, val_main_v20, val_main_v27, val_main_v10, val_main_v19, val_main_v26]
  rw [v9_apply, v18_apply, v25_apply]
  simp only [cwOf_at x2, cbOf_at x3]
  rfl

/-- A column of the values among the columns of the joined array. -/
def valCol (j : Fin 5632) : Fin 11264 := ⟨j.val, by omega⟩

/-- A column of the gate among the columns of the joined array. -/
def gateCol (j : Fin 5632) : Fin 11264 := ⟨5632 + j.val, by omega⟩

theorem v31_val (n : Fin 4096) (j : Fin 5632) : val_main_v31 (F := Ideal) x1 x2 x3 (ix2 n (valCol j)) = up x1 (cwOf x2) (cbOf x3) 0 n j := by
  rw [v31_apply, show halfOf (valCol j) = 0 from Fin.ext (by simp only [halfOf, valCol, Fin.val_zero]; omega),
    show within (valCol j) = j from Fin.ext (by simp only [within, valCol]; omega)]

theorem v31_gate (n : Fin 4096) (j : Fin 5632) : val_main_v31 (F := Ideal) x1 x2 x3 (ix2 n (gateCol j)) = up x1 (cwOf x2) (cbOf x3) 1 n j := by
  rw [v31_apply, show halfOf (gateCol j) = 1 from Fin.ext (by simp only [halfOf, gateCol, Fin.val_one]; omega),
    show within (gateCol j) = j from Fin.ext (by simp only [within, gateCol]; omega)]

/-- The cotangent of the values. -/
theorem v57_apply (n : Fin 4096) (j : Fin 5632) : val_main_v57 (F := Ideal) x0 x1 x2 x3 (ix2 n j)
    = gate (up x1 (cwOf x2) (cbOf x3) 1 n j) * x0 (ix2 n j) := by
  rw [← plainGate_eq, ← v31_gate]
  unfold val_main_v57
  pointwise [val_main_v55, val_main_v54, val_main_cst_8, val_main_v53, val_main_cst_7, val_main_v51, val_main_v52, val_main_cst_4,
    val_main_v45, val_main_v44, val_main_v43, val_main_v42, val_main_v41, val_main_v40, val_main_v36, val_main_v35, val_main_v34,
    val_main_cst_1, val_main_cst_2, val_main_v33]
  rfl

/-- The cotangent of the gate. -/
theorem v70_apply (n : Fin 4096) (j : Fin 5632) : val_main_v70 (F := Ideal) x0 x1 x2 x3 (ix2 n j)
    = plainGrad (x0 (ix2 n j)) (up x1 (cwOf x2) (cbOf x3) 0 n j) (up x1 (cwOf x2) (cbOf x3) 1 n j) := by
  rw [← v31_gate, ← v31_val]
  unfold val_main_v70
  pointwise [val_main_v69, val_main_v68, val_main_v67, val_main_v66, val_main_v65, val_main_v64, val_main_cst_10, val_main_v63,
    val_main_v62, val_main_v61, val_main_cst_9, val_main_v60, val_main_v59, val_main_v58, val_main_v50, val_main_v49, val_main_v48,
    val_main_cst_6, val_main_v47, val_main_v46, val_main_cst_5, val_main_v39, val_main_v38, val_main_cst_3, val_main_v37, val_main_v32,
    val_main_v54, val_main_cst_8, val_main_v53, val_main_cst_7, val_main_v51, val_main_v52, val_main_cst_4, val_main_v45,
    val_main_v44, val_main_v43, val_main_v42, val_main_v41, val_main_v40, val_main_v36, val_main_v35, val_main_v34, val_main_cst_1,
    val_main_cst_2, val_main_v33]
  rfl

/-- The arguments hold real numbers. -/
structure Reals : Prop where
  da : ∀ i, IsReal (x0 i)
  up0 : ∀ i, IsReal (x1 i)
  w : ∀ i, IsReal (x2 i)
  b : ∀ i, IsReal (x3 i)

/-- The cotangent of the convolution's result. -/
theorem v73_apply (h : Reals x0 x1 x2 x3) (n : Fin 4096) (j : Fin 11264) : val_main_v73 (F := Ideal) x0 x1 x2 x3 (ix2 n j)
    = dout x0 x1 (cwOf x2) (cbOf x3) (halfOf j) n (within j) := by
  have hj := j.isLt
  unfold val_main_v73 val_main_v71 val_main_v72
  pointwise [val_main_cst_11, val_main_cst_12]
  unfold dout
  by_cases hv : j.val < 5632
  · rw [dif_neg (by omega), dif_pos hv, if_pos (Fin.ext (by simp only [halfOf, Fin.val_zero]; omega)), v57_apply, zero_add, mul_comm,
      show within j = ⟨j.val, hv⟩ from Fin.ext (by simp only [within]; omega)]
  · rw [dif_pos (by omega), dif_neg hv, if_neg (fun e => by have := congrArg Fin.val e; simp only [halfOf, Fin.val_zero] at this; omega),
      v70_apply, add_zero, show within j = ⟨j.val - 5632, by omega⟩ from Fin.ext (by simp only [within]; omega)]
    have hup := fun p => up_real x1 (cwOf x2) (cbOf x3) h.up0 (fun _ => h.w _) (fun _ => h.b _) p n ⟨j.val - 5632, by omega⟩
    obtain ⟨a, ha⟩ := h.da (ix2 n ⟨j.val - 5632, by omega⟩)
    obtain ⟨u, hu⟩ := hup 0
    obtain ⟨v, hv⟩ := hup 1
    rw [ha, hu, hv, plainGrad_eq]

/-- The gradient of the bias. -/
theorem v96_apply (h : Reals x0 x1 x2 x3) (j : Fin 11264) : val_main_v96 (F := Ideal) x0 x1 x2 x3 (ix1 j)
    = db x0 x1 (cwOf x2) (cbOf x3) (halfOf j) (within j) := by
  unfold val_main_v96 val_main_v95 val_main_v94
  pointwise [val_main_cst_21, val_main_cst_22]
  simp only [Finset.univ_unique, Finset.sum_singleton, v73_apply x0 x1 x2 x3 h]
  rfl

/-- The gradient of the weights. -/
theorem v105_apply (h : Reals x0 x1 x2 x3) (k : Fin 3) (j : Fin 11264) : val_main_v105 (F := Ideal) x0 x1 x2 x3 (ix2 k j)
    = dw x0 x1 (cwOf x2) (cbOf x3) (halfOf j) k (within j) := by
  unfold val_main_v105 val_main_v91 val_main_v104 val_main_v81 val_main_v90 val_main_v80 val_main_v89 val_main_v103 val_main_v79
    val_main_v88 val_main_v102 val_main_v76 val_main_v85 val_main_v99 val_main_v75 val_main_v84 val_main_v98
  pointwise [val_main_v74, val_main_v83, val_main_v97, val_main_cst_13, val_main_cst_14, val_main_cst_15, val_main_cst_17, val_main_cst_18, val_main_cst_19,
    val_main_cst_23, val_main_cst_24, val_main_cst_25]
  simp only [Finset.univ_unique, Finset.sum_singleton, v73_apply x0 x1 x2 x3 h, v9_apply, v18_apply, v25_apply, mul_comm (tap _ _ _ _ _)]
  unfold dw
  fin_cases k <;> simp

/-- The cotangent of the padded rows. -/
theorem v109_apply (h : Reals x0 x1 x2 x3) (n : Fin 4096) (j : Fin 11264) : val_main_v109 (F := Ideal) x0 x1 x2 x3 (ix2 n j)
    = back (fun z => dout x0 x1 (cwOf x2) (cbOf x3) (z 0) (z 1) (z 2)) (cwOf x2) (halfOf j) n (within j) := by
  unfold val_main_v109 val_main_v107 val_main_v93 val_main_v106 val_main_v82 val_main_v92
  pointwise [val_main_v78, val_main_v87, val_main_v101, val_main_v77, val_main_v86, val_main_v100, val_main_cst_16, val_main_cst_20,
    val_main_cst_26, val_main_v12, val_main_v21, val_main_v28, val_main_v11, val_main_v20, val_main_v27, val_main_v10, val_main_v19,
    val_main_v26]
  simp only [v73_apply x0 x1 x2 x3 h, cwOf_at x2]
  unfold back ahead
  refine congrArg₂ (· + ·) (congrArg₂ (· + ·) rfl ?_) ?_
  · split <;> rename_i h1
    · rw [dif_pos (show n.val + 1 < 4096 by omega)]
      exact congrArg (· * _) (congrArg (dout x0 x1 (cwOf x2) (cbOf x3) (halfOf j) · (within j)) (Fin.ext (by show 2 + n.val - 1 = n.val + 1; omega)))
    · rw [dif_neg (show ¬ n.val + 1 < 4096 by omega), zero_mul]
  · split <;> rename_i h1
    · rw [dif_pos (show n.val + 2 < 4096 by omega)]
      exact congrArg (· * _) (congrArg (dout x0 x1 (cwOf x2) (cbOf x3) (halfOf j) · (within j)) (Fin.ext (by show 2 + n.val = n.val + 2; omega)))
    · rw [dif_neg (show ¬ n.val + 2 < 4096 by omega), zero_mul]

theorem v117_apply (h : Reals x0 x1 x2 x3) (p : Fin 2) (n : Fin 4096) (j : Fin 5632) : val_main_v117 (F := Ideal) x0 x1 x2 x3 (ix3 p n j)
    = back (fun z => dout x0 x1 (cwOf x2) (cbOf x3) (z 0) (z 1) (z 2)) (cwOf x2) p n j := by
  unfold val_main_v117 val_main_v116 val_main_v113 val_main_v115
  pointwise [val_main_v112, val_main_cst_27, val_main_cst_28, val_main_v114, val_main_v110, val_main_v111]
  fin_cases p
  · have e1 : halfOf (valCol j) = 0 := Fin.ext (by show j.val / 5632 = 0; omega)
    have e2 : within (valCol j) = j := Fin.ext (by show j.val % 5632 = j.val; omega)
    have e := v109_apply x0 x1 x2 x3 h n (valCol j)
    rw [e1, e2] at e
    rw [dif_neg (by simp), dif_pos (by simp), zero_add]
    exact e
  · have e1 : halfOf (gateCol j) = 1 := Fin.ext (by show (5632 + j.val) / 5632 = 1; omega)
    have e2 : within (gateCol j) = j := Fin.ext (by show (5632 + j.val) % 5632 = j.val; omega)
    have e := v109_apply x0 x1 x2 x3 h n (gateCol j)
    rw [e1, e2] at e
    rw [dif_pos (by simp), dif_neg (by simp), add_zero]
    exact e

end Cert.ReferenceIdeal.Hand

end
-- ==== Proof.GateClaims.lean ====
module

public import proofs.«01_k».proof.Defs
public import proofs.«01_k».proof.Proof.RefTaps
public import proofs.«01_k».proof.Proof.Gen.Kernel
public import proofs.«01_k».proof.Proof.Gen.Kernel.Frame
public import proofs.«01_k».proof.Proof.Gen.ReferenceIdeal

@[expose] public section

noncomputable section

namespace Cert.GateClaims

open Idealize.ShloMosaic Idealize.SL.Sem Cert.KernelIdeal.Hand Cert.ReferenceIdeal.Hand

/-- The shapes the precondition's operations take fit. -/
theorem preFacts : Cert.Pre_finite.Facts where
  bcast_S_S4096x5632 := by decide
  bitsLt_bf16_f32 := by decide
  bcast_S_S2x4096x5632 := by decide
  bcast_S_S3x11264 := by decide
  bcast_S_S11264 := by decide

/-- What the precondition tests of one entry: an entry that passes is a real number. -/
theorem real_of_test (x : EReal) (h : FloatOps.cmpf (F := Ideal) (φ := .f32) .olt
    (FloatOps.hostAbsf (F := Ideal) (φ := .f32) x) (Ideal.ofBits .f32 0x7F800000#32) = 1#1) : IsReal x := by
  have hinf : Ideal.ofBits .f32 0x7F800000#32 = ⊤ := by simp [Ideal.ofBits, Ideal.ieee]
  rw [hinf] at h
  have h : Ideal.cmp .olt (max x (-x)) ⊤ = 1#1 := h
  induction x with
  | bot => simp [Ideal.cmp] at h
  | top => simp [Ideal.cmp] at h
  | coe r => exact ⟨r, rfl⟩

attribute [local instance] preFacts

/-- The precondition says that the arguments hold real numbers. -/
theorem reals (x0 : Cert.Pre_finite.S4096x5632.Idx → EReal) (x1 : Cert.Pre_finite.S2x4096x5632.Idx → EReal)
    (x2 : Cert.Pre_finite.S3x11264.Idx → EReal) (x3 : Cert.Pre_finite.S11264.Idx → EReal)
    (h0 : (Cert.Pre_finite.fn (F := Ideal) x0 x1 x2 x3).1 = fun _ => 1#1)
    (h1 : (Cert.Pre_finite.fn (F := Ideal) x0 x1 x2 x3).2.1 = fun _ => 1#1)
    (h2 : (Cert.Pre_finite.fn (F := Ideal) x0 x1 x2 x3).2.2.1 = fun _ => 1#1)
    (h3 : (Cert.Pre_finite.fn (F := Ideal) x0 x1 x2 x3).2.2.2 = fun _ => 1#1) : Reals x0 x1 x2 x3 where
  da i := real_of_test _ (congrFun h0 i)
  up0 i := real_of_test _ (congrFun h1 i)
  w i := real_of_test _ (congrFun h2 i)
  b i := real_of_test _ (congrFun h3 i)

/-- The two named constants are the literals they stand for. -/
theorem preserves : Cert.preserves_Kernel_KernelIdeal :=
  ⟨IdealRules.named_const.statement Cert.KernelIdeal.κ "cubic" .f32 0x3D372713#32 ((8943 / 200000 : ℝ) : EReal) rfl,
   IdealRules.named_const.statement Cert.KernelIdeal.κ "cubic3" .f32 0x3E095D4F#32 ((26829 / 200000 : ℝ) : EReal) rfl⟩

/-- The reference runs, leaves its arguments as they were and every counter at zero. -/
theorem reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun _ h => ⟨fun c => (h c).2.2.2, sem_eq_zero_of_no_sems (by decide) _⟩) (Cert.ReferenceIdeal.Value.run m ρ)

/-- The two backward launches compute the gradients the plain reference defines, of arguments that are real numbers. -/
theorem algebraic [hPre : Cert.Pre_finite.Facts] : Cert.algebraic_KernelIdeal_ReferenceIdeal_pre_finite := by
  intro m ρ m' ρ' hpre hagree
  refine ⟨_, _, _, Cert.KernelIdeal.Hand.run m ρ, (θ_run _ _ _).mono (fun _ h c => ?_) (Cert.ReferenceIdeal.Value.run m' ρ')⟩
  obtain ⟨e0, e1, e2, hargs⟩ := h c
  obtain ⟨a0, a1, a2, a3⟩ := hagree c
  have b0 := (StableHlo.launchContents_devRef m' c Cert.ReferenceIdeal.main_arg0).trans a0
  have b1 := (StableHlo.launchContents_devRef m' c Cert.ReferenceIdeal.main_arg1).trans a1
  have b2 := (StableHlo.launchContents_devRef m' c Cert.ReferenceIdeal.main_arg2).trans a2
  have b3 := (StableHlo.launchContents_devRef m' c Cert.ReferenceIdeal.main_arg3).trans a3
  obtain ⟨p0, p1, p2, p3⟩ := hpre c
  have hr := reals _ _ _ _ p0 p1 p2 p3
  refine ⟨e0.trans ?_, e1.trans ?_, e2.trans ?_, hargs⟩
  · refine (Cert.ReferenceIdeal.Read.val_main_v117_eq (StableHlo.launchContents m' c)).trans ?_
    rw [b0, b1, b2, b3]
    funext y
    obtain ⟨p, n, j, rfl⟩ : ∃ (p : Fin 2) (n : Fin 4096) (j : Fin 5632), y = ix3 p n j := ⟨y 0, y 1, y 2, eq_ix3 y⟩
    exact v117_apply _ _ _ _ hr p n j
  · refine (Cert.ReferenceIdeal.Read.val_main_v105_eq (StableHlo.launchContents m' c)).trans ?_
    rw [b0, b1, b2, b3]
    funext y
    obtain ⟨k, j, rfl⟩ : ∃ (k : Fin 3) (j : Fin 11264), y = ix2 k j := ⟨y 0, y 1, eq_ix2 y⟩
    exact v105_apply _ _ _ _ hr k j
  · refine (Cert.ReferenceIdeal.Read.val_main_v96_eq (StableHlo.launchContents m' c)).trans ?_
    rw [b0, b1, b2, b3]
    funext y
    obtain ⟨j, rfl⟩ : ∃ (j : Fin 11264), y = ix1 j := ⟨y 0, eq_ix1 y⟩
    exact v96_apply _ _ _ _ hr j

end Cert.GateClaims

end
-- ==== Proof.Products.lean ====
module

public import Idealize.ShloMosaic.Lib.Pointwise

@[expose] public section

noncomputable section

/-! Products of matrices of extended reals, by entries: what the programs' launches and references are read as. -/

namespace Cert.Products

open Idealize.ShloMosaic

/-- A matrix of extended reals. -/
abbrev Mat (m n : Nat) : Type := (⟨2, ![m, n]⟩ : Shape).Idx → EReal

/-- The rows of `A` with the columns of `B`. -/
def mulNN {m k n : Nat} (A : Mat m k) (B : Mat k n) : Mat m n := fun y => ∑ l : Fin k, A (ix2 (y 0) l) * B (ix2 l (y 1))

/-- The rows of `A` with the rows of `B`. -/
def mulNT {m k n : Nat} (A : Mat m k) (B : Mat n k) : Mat m n := fun y => ∑ l : Fin k, A (ix2 (y 0) l) * B (ix2 (y 1) l)

/-- The columns of `A` with the columns of `B`. -/
def mulTN {m k n : Nat} (A : Mat k m) (B : Mat k n) : Mat m n := fun y => ∑ l : Fin k, A (ix2 l (y 0)) * B (ix2 l (y 1))

/-- Sums of products agree when their factors do. -/
theorem dot_congr {n : Nat} {a b a' b' : Fin n → EReal} (ha : ∀ k, a k = a' k) (hb : ∀ k, b k = b' k) :
    ∑ k, a k * b k = ∑ k, a' k * b' k := Finset.sum_congr rfl fun k _ => congrArg₂ (· * ·) (ha k) (hb k)

end Cert.Products

end
-- ==== Proof.DownDw.lean ====
module

public import proofs.«01_k».proof.Defs
public import proofs.«01_k».proof.Proof.Gen.Kernel2Ideal.Value
public import proofs.«01_k».proof.Proof.Gen.Reference2Ideal.Run
public import proofs.«01_k».proof.Proof.Products
public import Idealize.ShloMosaic.Lib.Pipeline.ValueKit

@[expose] public section

noncomputable section

/-! The gradient of the feed-forward half's second weight, as the launch leaves it. -/

namespace Cert.Kernel2Ideal.Hand

open Idealize.ShloMosaic Idealize.ShloMosaic.TcCoe Idealize.SL.Sem Cert.Kernel2Ideal Cert.Kernel2Ideal.Gen Cert.Products
open Idealize.ShloMosaic.Pipeline (Dat)

variable (m : (ℓ : Loc nD τ sig) → Buf (Elt Ideal) ℓ) (c : Dev nD)

/-- Where each window's block lies at a point. -/
theorem idx : ∀ t : Fin cfg0.N, win0_0.index t = ![t.val % 2, t.val / 4] ∧ win0_1.index t = ![t.val % 2, t.val / 2 % 2]
    ∧ win0_2.index t = ![t.val / 4, t.val / 2 % 2] := by
  decide +kernel

/-- A point's product of blocks at an entry. -/
theorem pay1 (x : Vec Ideal S2048x1408 .bf16) (w : Vec Ideal S2048x1024 .bf16) (y : S1408x1024.Idx) :
    k0_pay1 x w y = ∑ k : Fin 2048, x (ix2 k (y 0)) * w (ix2 k (y 1)) := by
  pointwise [k0_pay1]

/-- The accumulator after the last point of a block. -/
theorem scratch (t : Fin cfg0.N) (hr : t.val % 2 = 1) (y : S1408x1024.Idx) :
    (outsAt0 m c t.val t.isLt).2 y
      = ∑ s : Fin 2, k0_pay1 (iblk m c 0 ⟨2 * (t.val / 2) + s, by omega⟩) (iblk m c 1 ⟨2 * (t.val / 2) + s, by omega⟩) y := by
  rw [Pipeline.eq_sum_fin_of_reset_step_apply_of_flush (fun n h => (outsAt0 m c n h).2) 2 (fun _ => 0)
    (fun t y => k0_pay1 (iblk m c 0 t) (iblk m c 1 t) y)
    (fun t h y => by rw [outsAt0_A m c t h (by omega) (by omega)]; frame_out; pointwise [k0_pay2])
    (fun t h y => by rw [outsAt0_B m c t h (by omega) (by omega)]; frame_out; pointwise [k0_pay3]; exact congrArg (· + _) (congrFun ((Memref.isWhole_whole cc0_scratch0).read_unread (Val := Elt Ideal) (outsAt0 m c (t.val - 1) _).2) y)) t hr y]
  rw [zero_add]

/-- What a block's last point leaves for the result is the accumulator. -/
theorem left (t : Fin cfg0.N) (hr : t.val % 2 = 1) (y : S1408x1024.Idx) :
    (outsAt0 m c t.val t.isLt).1 y = (outsAt0 m c t.val t.isLt).2 y := by
  rw [outsAt0_B m c t (by omega) hr hr]; frame_out; pointwise [k0_pay4]

/-- The first factor's block at a point. -/
theorem blk0 (t : Fin cfg0.N) (p : Fin 2048) (q : Fin 1408) (P : Fin 4096) (Q : Fin 5632) (hP : P.val = t.val % 2 * 2048 + p.val)
    (hQ : Q.val = t.val / 4 * 1408 + q.val) : iblk m c 0 t (ix2 p q) = m ((c : Thread nD τ).loc main_arg0) (ix2 P Q) := by
  blk_ext [iblk, V, idx t, hP, hQ]

/-- The second factor's block at a point. -/
theorem blk1 (t : Fin cfg0.N) (p : Fin 2048) (q : Fin 1024) (P : Fin 4096) (Q : Fin 2048) (hP : P.val = t.val % 2 * 2048 + p.val)
    (hQ : Q.val = t.val / 2 % 2 * 1024 + q.val) : iblk m c 1 t (ix2 p q) = m ((c : Thread nD τ).loc main_arg1) (ix2 P Q) := by
  blk_ext [iblk, V, idx t, hP, hQ]

/-- The result: the product's entries. -/
theorem arr : (dats m 0 c).arrAt 2 cfg0.N = (mulTN (m ((c : Thread nD τ).loc main_arg0) : Mat 4096 5632)
    (m ((c : Thread nD τ).loc main_arg1) : Mat 4096 2048) : Mat 5632 2048) := by
  refine (dats m 0 c).arrAt_eq_of_covers 2 _ (by decide +kernel) fun t hf y => ?_
  blk_simp
  have hr : t.val % 2 = 1 := (flush0_2 t).mp hf
  rw [after0_2, left m c t hr, scratch m c t hr]
  simp only [pay1]
  refine Fin.sum_mul_add_congr fun s k hl => ?_
  have hs : (2 * (t.val / 2) + s.val) % 2 = s.val := by omega
  have e : (2 * (t.val / 2) + s.val) / 2 = t.val / 2 := by omega
  refine congrArg₂ (· * ·) (blk0 m c _ k (y 0) _ _ ?_ ?_) (blk1 m c _ k (y 1) _ _ ?_ ?_)
  all_goals (try blk_simp [idx t]); dsimp only; omega

/-- The reference runs, leaves its arguments as they were and every counter at zero. -/
theorem reference : Cert.quiescent_Reference2Ideal := fun m ρ _ =>
  (θ_run _ _ _).mono (fun _ h => ⟨fun c => (h c).2, sem_eq_zero_of_no_sems (by decide) _⟩) (Cert.Reference2Ideal.Value.run m ρ)

/-- The launch leaves what the reference computes. -/
theorem algebraic : Cert.algebraic_Kernel2Ideal_Reference2Ideal := by
  intro m ρ m' ρ' _ hagree
  refine ⟨_, Cert.Kernel2Ideal.Value.run_blocks m ρ, (θ_run _ _ _).mono (fun _ h c => ?_) (Cert.Reference2Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulTN]
  exact Finset.sum_congr rfl fun k _ => mul_comm _ _

end Cert.Kernel2Ideal.Hand

end
-- ==== Proof.DownDx.lean ====
module

public import proofs.«01_k».proof.Defs
public import proofs.«01_k».proof.Proof.Gen.Kernel3Ideal.Value
public import proofs.«01_k».proof.Proof.Gen.Reference3Ideal.Run
public import proofs.«01_k».proof.Proof.Products
public import Idealize.ShloMosaic.Lib.Pipeline.ValueKit

@[expose] public section

noncomputable section

/-! The gradient of the second product's input, as the launch leaves it. -/

namespace Cert.Kernel3Ideal.Hand

open Idealize.ShloMosaic Idealize.ShloMosaic.TcCoe Idealize.SL.Sem Cert.Kernel3Ideal Cert.Kernel3Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 4, 0] ∧ win0_1.index t = ![t.val % 4, 0]
    ∧ win0_2.index t = ![t.val / 4, t.val % 4] := by decide +kernel

/-- The block a point writes is the product of its two blocks. -/
theorem pay1 (x : Vec Ideal S1024x2048 .bf16) (w : Vec Ideal S1408x2048 .bf16) (y : S1024x1408.Idx) :
    out0_2 x w y = ∑ k : Fin 2048, x (ix2 (y 0) k) * w (ix2 (y 1) k) := by
  frame_out
  pointwise [k0_pay1]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 2048) (P : Fin 4096) (hP : P.val = t.val / 4 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 1408) (q : Fin 2048) (P : Fin 5632) (hP : P.val = t.val % 4 * 1408 + p.val) :
    iblk m c 1 t (ix2 p q) = m ((c : Thread nD τ).loc main_arg1) (ix2 P q) := by
  rw [← weight m c]
  blk_ext [iblk, idx t, hP]

/-- The array after the launch. -/
theorem arr : (dats m 0 c).arrAt 2 cfg0.N = (mulNT (m ((c : Thread nD τ).loc main_arg0) : Mat 4096 2048)
    (m ((c : Thread nD τ).loc main_arg1) : Mat 5632 2048) : Mat 4096 5632) := by
  refine (dats m 0 c).arrAt_eq_of_covers 2 _ (by decide +kernel) fun t hf y => ?_
  blk_simp
  rw [after0_2, pay1]
  refine dot_congr (fun k => blk0 m c _ (y 0) k _ ?_) (fun k => blk1 m c _ (y 1) k _ ?_)
  all_goals blk_simp [idx t]

/-- The reference runs, leaves its arguments as they were and every counter at zero. -/
theorem reference : Cert.quiescent_Reference3Ideal := fun m ρ _ =>
  (θ_run _ _ _).mono (fun _ h => ⟨fun c => (h c).2, sem_eq_zero_of_no_sems (by decide) _⟩) (Cert.Reference3Ideal.Value.run m ρ)

/-- The launch leaves what the reference computes. -/
theorem algebraic : Cert.algebraic_Kernel3Ideal_Reference3Ideal := by
  intro m ρ m' ρ' _ hagree
  refine ⟨_, Cert.Kernel3Ideal.Value.run_blocks m ρ, (θ_run _ _ _).mono (fun _ h c => ?_) (Cert.Reference3Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNT]

end Cert.Kernel3Ideal.Hand

end
-- ==== Proof.UpLayout.lean ====
module

public import proofs.«01_k».proof.Proof.Products

@[expose] public section

noncomputable section

/-! How the arrays of the feed-forward half's first product are stored: the weight's columns as four shards, the product's
columns as two halves. -/

namespace Cert.Products

open Idealize.ShloMosaic

/-- A stack of matrices of extended reals. -/
abbrev Stack (a m n : Nat) : Type := (⟨3, ![a, m, n]⟩ : Shape).Idx → EReal

/-- The column that entry `q` of shard `s` is. -/
def shardCol (s : Fin 4) (q : Fin 2816) : Fin 11264 := ⟨s.val * 2816 + q.val, by omega⟩

/-- The column that entry `q` of half `p` is. -/
def halfCol (p : Fin 2) (q : Fin 5632) : Fin 11264 := ⟨p.val * 5632 + q.val, by omega⟩

/-- The weight's shards. -/
def shards (w : Mat 2048 11264) : Stack 4 2048 2816 := fun y => w (ix2 (y 1) (shardCol (y 0) (y 2)))

/-- The two halves side by side. -/
def joined (d : Stack 2 4096 5632) : Mat 4096 11264 := fun y =>
  if h : (y 1).val < 5632 then d (ix3 0 (y 0) ⟨(y 1).val, h⟩)
  else d (ix3 1 (y 0) ⟨(y 1).val - 5632, by have h1 : (y 1).val < 11264 := (y 1).isLt; omega⟩)

/-- The halves side by side, at a column of half `p`. -/
theorem joined_apply (d : Stack 2 4096 5632) (k : Fin 4096) (r : Fin 11264) (p : Fin 2) (q : Fin 5632) (hr : r.val = p.val * 5632 + q.val) :
    joined d (ix2 k r) = d (ix3 p k q) := by
  have hr' : (ix2 (n0 := 4096) (n1 := 11264) k r 1).val = p.val * 5632 + q.val := hr
  obtain rfl | rfl : p = 0 ∨ p = 1 := by omega
  · refine (dif_pos (by simp only [hr']; omega)).trans (congrArg (fun j => d (ix3 0 k j)) (Fin.ext ?_))
    simpa using hr'
  · refine (dif_neg (by simp only [hr']; omega)).trans (congrArg (fun j => d (ix3 1 k j)) (Fin.ext ?_))
    simp only [hr']; omega

/-- A sum over the columns, by halves. -/
theorem sum_halves (f : Fin 11264 → EReal) : ∑ r, f r = ∑ q, f (halfCol 0 q) + ∑ q, f (halfCol 1 q) := by
  refine (Fin.sum_univ_add (a := 5632) (b := 5632) f).trans (congrArg₂ (· + ·) ?_ ?_)
  all_goals exact Finset.sum_congr rfl fun q _ => congrArg f (Fin.ext (by simp [halfCol, add_comm]))

end Cert.Products

end
-- ==== Proof.UpDw.lean ====
module

public import proofs.«01_k».proof.Defs
public import proofs.«01_k».proof.Proof.Gen.Kernel4Ideal.Value
public import proofs.«01_k».proof.Proof.Gen.Reference4Ideal.Run
public import proofs.«01_k».proof.Proof.UpLayout
public import Idealize.ShloMosaic.Lib.Pipeline.ValueKit
public import Idealize.ShloMosaic.Lib.Tactic.CleanTypes

@[expose] public section

noncomputable section

/-! The gradient of the feed-forward half's first weight, as the launch leaves it. -/

namespace Cert.Kernel4Ideal.Hand

open Idealize.ShloMosaic Idealize.ShloMosaic.TcCoe Idealize.SL.Sem Cert.Kernel4Ideal Cert.Kernel4Ideal.Gen Cert.Products
open Idealize.ShloMosaic.Pipeline (Dat)

variable (m : (ℓ : Loc nD τ sig) → Buf (Elt Ideal) ℓ) (c : Dev nD)

/-- Where each window's block lies at a point. -/
theorem idx : ∀ t : Fin cfg0.N, win0_0.index t = ![t.val % 2, t.val / 16] ∧ win0_1.index t = ![t.val / 8 % 2, t.val % 2, t.val / 2 % 4]
    ∧ win0_2.index t = ![t.val / 4 % 4, t.val / 16, t.val / 2 % 2] := by
  decide +kernel

/-- A point's product of blocks at an entry. -/
theorem pay1 (x : Vec Ideal S2048x1024 .bf16) (w : Vec Ideal S1x2048x1408 .bf16) (y : S1024x1408.Idx) :
    k0_pay1 x w y = ∑ k : Fin 2048, x (ix2 k (y 0)) * w (ix3 0 k (y 1)) := by
  pointwise [k0_pay1]

/-- The accumulator after the last point of a block. -/
theorem scratch (t : Fin cfg0.N) (hr : t.val % 2 = 1) (y : S1024x1408.Idx) :
    (outsAt0 m c t.val t.isLt).2 y
      = ∑ s : Fin 2, k0_pay1 (iblk m c 0 ⟨2 * (t.val / 2) + s, by omega⟩) (iblk m c 1 ⟨2 * (t.val / 2) + s, by omega⟩) y := by
  rw [Pipeline.eq_sum_fin_of_reset_step_apply_of_flush (fun n h => (outsAt0 m c n h).2) 2 (fun _ => 0)
    (fun t y => k0_pay1 (iblk m c 0 t) (iblk m c 1 t) y)
    (fun t h y => by rw [outsAt0_A m c t h (by omega) (by omega)]; frame_out; pointwise [k0_pay2])
    (fun t h y => by rw [outsAt0_B m c t h (by omega) (by omega)]; frame_out; pointwise [k0_pay3]; exact congrArg (· + _) (congrFun ((Memref.isWhole_whole cc0_scratch0).read_unread (Val := Elt Ideal) (outsAt0 m c (t.val - 1) _).2) y)) t hr y]
  rw [zero_add]

/-- What a block's last point leaves for the result is the accumulator. -/
theorem left (t : Fin cfg0.N) (hr : t.val % 2 = 1) (y : S1x1024x1408.Idx) :
    (outsAt0 m c t.val t.isLt).1 y = (outsAt0 m c t.val t.isLt).2 (ix2 (y 1) (y 2)) := by
  obtain ⟨z, p, q, rfl⟩ : ∃ (z : Fin 1) (p : Fin 1024) (q : Fin 1408), y = ix3 z p q := ⟨y 0, y 1, y 2, eq_ix3 y⟩
  rw [outsAt0_B m c t (by omega) hr hr]; frame_out; pointwise [k0_pay4]

/-- The first factor's block at a point. -/
theorem blk0 (t : Fin cfg0.N) (p : Fin 2048) (q : Fin 1024) (P : Fin 4096) (Q : Fin 2048) (hP : P.val = t.val % 2 * 2048 + p.val)
    (hQ : Q.val = t.val / 16 * 1024 + q.val) : iblk m c 0 t (ix2 p q) = m ((c : Thread nD τ).loc main_arg0) (ix2 P Q) := by
  blk_ext [iblk, V, idx t, hP, hQ]

/-- The second factor's block at a point. -/
theorem blk1 (t : Fin cfg0.N) (p : Fin 2048) (q : Fin 1408) (Z : Fin 2) (P : Fin 4096) (Q : Fin 5632) (hZ : Z.val = t.val / 8 % 2)
    (hP : P.val = t.val % 2 * 2048 + p.val) (hQ : Q.val = t.val / 2 % 4 * 1408 + q.val) :
    iblk m c 1 t (ix3 0 p q) = m ((c : Thread nD τ).loc main_arg1) (ix3 Z P Q) := by
  blk_ext [iblk, V, idx t, hZ, hP, hQ]

/-- The result: the product's entries. -/
theorem arr : (dats m 0 c).arrAt 2 cfg0.N = shards (mulTN (m ((c : Thread nD τ).loc main_arg0)) (joined (m ((c : Thread nD τ).loc main_arg1)))) := by
  refine (dats m 0 c).arrAt_eq_of_covers 2 _ (by decide +kernel) fun t hf y => ?_
  blk_simp
  have hr : t.val % 2 = 1 := (flush0_2 t).mp hf
  rw [after0_2, left m c t hr, scratch m c t hr]
  simp only [pay1]
  refine Fin.sum_mul_add_congr fun s k hl => ?_
  have hs : (2 * (t.val / 2) + s.val) % 2 = s.val := by omega
  have e : (2 * (t.val / 2) + s.val) / 2 = t.val / 2 := by omega
  have ht : t.val < 32 := t.isLt
  have h0 : (y 0).val < 1 := (y 0).isLt
  have h2 : (y 2).val < 1408 := (y 2).isLt
  refine congrArg₂ (· * ·) (blk0 m c _ k (y 1) _ _ ?_ ?_) ((blk1 m c _ k (y 2) ⟨t.val / 8 % 2, by omega⟩ ⟨s.val * 2048 + k.val, hl⟩
    ⟨t.val / 2 % 4 * 1408 + (y 2).val, by omega⟩ ?_ ?_ ?_).trans (joined_apply _ _ _ _ _ ?_).symm)
  all_goals try simp only [shardCol, ix2]
  all_goals (try blk_simp [idx t]); (try dsimp only); try omega

/-- The reference runs, leaves its arguments as they were and every counter at zero. -/
theorem reference : Cert.quiescent_Reference4Ideal := fun m ρ _ =>
  (θ_run _ _ _).mono (fun _ h => ⟨fun c => (h c).2, sem_eq_zero_of_no_sems (by decide) _⟩) (Cert.Reference4Ideal.Value.run m ρ)

/-- The launch leaves what the reference computes. -/
theorem algebraic : Cert.algebraic_Kernel4Ideal_Reference4Ideal := by
  intro m ρ m' ρ' _ hagree
  refine ⟨_, Cert.Kernel4Ideal.Value.run_blocks m ρ, (θ_run _ _ _).mono (fun _ h c => ?_) (Cert.Reference4Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [shards, shardCol, mulTN, joined]
  exact Finset.sum_congr rfl fun k _ => mul_comm _ _

end Cert.Kernel4Ideal.Hand

end
-- ==== Proof.UpDx.lean ====
module

public import proofs.«01_k».proof.Defs
public import proofs.«01_k».proof.Proof.Gen.Kernel5Ideal.Value
public import proofs.«01_k».proof.Proof.Gen.Reference5Ideal.Run
public import proofs.«01_k».proof.Proof.UpLayout
public import Idealize.ShloMosaic.Lib.Pipeline.ValueKit
public import Idealize.ShloMosaic.Lib.Tactic.CleanTypes

@[expose] public section

noncomputable section

/-! The gradient of the first product's input, as the launch leaves it. -/

namespace Cert.Kernel5Ideal.Hand

open Idealize.ShloMosaic Idealize.ShloMosaic.TcCoe Idealize.SL.Sem Cert.Kernel5Ideal Cert.Kernel5Ideal.Gen Cert.Products
open Idealize.ShloMosaic.Pipeline (Dat)

variable (m : (ℓ : Loc nD τ sig) → Buf (Elt Ideal) ℓ) (c : Dev nD)

/-- Where each window's block lies at a point. -/
theorem idx : ∀ t : Fin cfg0.N, win0_0.index t = ![t.val % 4 / 2, t.val / 8, t.val % 2] ∧ win0_1.index t = ![t.val % 4, t.val / 4 % 2, 0]
    ∧ win0_2.index t = ![t.val / 8, t.val / 4 % 2] := by
  decide +kernel

/-- A point's product of blocks at an entry. -/
theorem pay1 (x : Vec Ideal S1x1024x2816 .bf16) (w : Vec Ideal S1x1024x2816 .bf16) (y : S1024x1024.Idx) :
    k0_pay1 x w y = ∑ k : Fin 2816, x (ix3 0 (y 0) k) * w (ix3 0 (y 1) k) := by
  pointwise [k0_pay1]

/-- What a point after a block's first adds to the accumulator. -/
theorem step (t : Fin cfg0.N) (h : ¬ t.val % 4 = 0) (y : S1024x1024.Idx) :
    (outsAt0 m c t.val t.isLt).2 y = (outsAt0 m c (t.val - 1) (by omega)).2 y + k0_pay1 (iblk m c 0 t) (iblk m c 1 t) y := by
  by_cases h3 : t.val % 4 = 3
  · rw [outsAt0_C m c t h (by omega) h3]; frame_out; pointwise [k0_pay3]; exact congrArg (· + _) (congrFun ((Memref.isWhole_whole cc0_scratch0).read_unread (Val := Elt Ideal) (outsAt0 m c (t.val - 1) _).2) y)
  · rw [outsAt0_B m c t h (by omega) h3]; frame_out; pointwise [k0_pay3]; exact congrArg (· + _) (congrFun ((Memref.isWhole_whole cc0_scratch0).read_unread (Val := Elt Ideal) (outsAt0 m c (t.val - 1) _).2) y)

/-- The accumulator after the last point of a block. -/
theorem scratch (t : Fin cfg0.N) (hr : t.val % 4 = 3) (y : S1024x1024.Idx) :
    (outsAt0 m c t.val t.isLt).2 y
      = ∑ s : Fin 4, k0_pay1 (iblk m c 0 ⟨4 * (t.val / 4) + s, by omega⟩) (iblk m c 1 ⟨4 * (t.val / 4) + s, by omega⟩) y := by
  rw [Pipeline.eq_sum_fin_of_reset_step_apply_of_flush (fun n h => (outsAt0 m c n h).2) 4 (fun _ => 0)
    (fun t y => k0_pay1 (iblk m c 0 t) (iblk m c 1 t) y)
    (fun t h y => by rw [outsAt0_A m c t h (by omega) (by omega)]; frame_out; pointwise [k0_pay2])
    (fun t h y => step m c t h y) t hr y]
  rw [zero_add]

/-- What a block's last point leaves for the result is the accumulator. -/
theorem left (t : Fin cfg0.N) (hr : t.val % 4 = 3) (y : S1024x1024.Idx) :
    (outsAt0 m c t.val t.isLt).1 y = (outsAt0 m c t.val t.isLt).2 y := by
  rw [outsAt0_C m c t (by omega) (by omega) hr]; frame_out; pointwise [k0_pay4]

/-- The weight the launch is given holds the argument's shards. -/
theorem weight : V m c main_v2 = shards (m ((c : Thread nD τ).loc main_arg1)) := by
  funext y
  obtain ⟨s, k, q, rfl⟩ : ∃ (s : Fin 4) (k : Fin 2048) (q : Fin 2816), y = ix3 s k q := ⟨y 0, y 1, y 2, eq_ix3 y⟩
  unfold_abbrev_sides
  after_results
  clean_types
  pointwise [shards]
  rfl

/-- The first factor's block at a point. -/
theorem blk0 (t : Fin cfg0.N) (p : Fin 1024) (q : Fin 2816) (Z : Fin 2) (P : Fin 4096) (Q : Fin 5632) (hZ : Z.val = t.val % 4 / 2)
    (hP : P.val = t.val / 8 * 1024 + p.val) (hQ : Q.val = t.val % 2 * 2816 + q.val) :
    iblk m c 0 t (ix3 0 p q) = m ((c : Thread nD τ).loc main_arg0) (ix3 Z P Q) := by
  rw [← V_main_arg0 m c]
  blk_ext [iblk, idx t, hZ, hP, hQ]

/-- The second factor's block at a point. -/
theorem blk1 (t : Fin cfg0.N) (p : Fin 1024) (q : Fin 2816) (s : Fin 4) (P : Fin 2048) (hs : s.val = t.val % 4)
    (hP : P.val = t.val / 4 % 2 * 1024 + p.val) :
    iblk m c 1 t (ix3 0 p q) = m ((c : Thread nD τ).loc main_arg1) (ix2 P (shardCol s q)) := by
  refine .trans ?_ (congrFun (weight m c) (ix3 s P q))
  blk_ext [iblk, idx t, hs, hP]

/-- The result: the product's entries. -/
theorem arr : (dats m 0 c).arrAt 2 cfg0.N = mulNT (joined (m ((c : Thread nD τ).loc main_arg0))) (m ((c : Thread nD τ).loc main_arg1)) := by
  refine (dats m 0 c).arrAt_eq_of_covers 2 _ (by decide +kernel) fun t hf y => ?_
  blk_simp
  have hr : t.val % 4 = 3 := (flush0_2 t).mp hf
  rw [after0_2, left m c t hr, scratch m c t hr]
  simp only [pay1]
  refine Fin.sum_mul_add_congr fun s k hl => ?_
  have hs : (4 * (t.val / 4) + s.val) % 4 = s.val := by omega
  have h2 : (4 * (t.val / 4) + s.val) % 2 = s.val % 2 := by omega
  have e : (4 * (t.val / 4) + s.val) / 4 = t.val / 4 := by omega
  have e8 : (4 * (t.val / 4) + s.val) / 8 = t.val / 8 := by omega
  have hk : s.val % 2 * 2816 + k.val < 5632 := by
    have := k.isLt
    clear hl
    omega
  refine congrArg₂ (· * ·) ((blk0 m c _ (y 0) k ⟨s.val / 2, by omega⟩ _ ⟨s.val % 2 * 2816 + k.val, hk⟩ ?_ ?_ ?_).trans (joined_apply _ _ _ _ _ ?_).symm)
    ((blk1 m c _ (y 1) k s _ ?_ ?_).trans (congrArg (fun r => m (c.tc.loc main_arg1) (ix2 _ r)) (Fin.ext ?_)))
  all_goals try simp only [shardCol, ix2]
  all_goals (try blk_simp [idx t]); (try dsimp only); try omega

/-- The reference runs, leaves its arguments as they were and every counter at zero. -/
theorem reference : Cert.quiescent_Reference5Ideal := fun m ρ _ =>
  (θ_run _ _ _).mono (fun _ h => ⟨fun c => (h c).2, sem_eq_zero_of_no_sems (by decide) _⟩) (Cert.Reference5Ideal.Value.run m ρ)

/-- The launch leaves what the reference computes. -/
theorem algebraic : Cert.algebraic_Kernel5Ideal_Reference5Ideal := by
  intro m ρ m' ρ' _ hagree
  refine ⟨_, Cert.Kernel5Ideal.Value.run_blocks m ρ, (θ_run _ _ _).mono (fun _ h c => ?_) (Cert.Reference5Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNT]
  rw [sum_halves]
  refine congrArg₂ (· + ·) (dot_congr (fun q => (joined_apply _ _ _ 0 q rfl).symm) fun q => ?_)
    (dot_congr (fun q => (joined_apply _ _ _ 1 q rfl).symm) fun q => ?_)
  all_goals exact congrArg (fun r => m (c.tc.loc main_arg1) (ix2 (y 1) r)) (Fin.ext (by simp [halfCol]))

end Cert.Kernel5Ideal.Hand

end
-- ==== Proof.OutDw.lean ====
module

public import proofs.«01_k».proof.Defs
public import proofs.«01_k».proof.Proof.Gen.Kernel6Ideal.Value
public import proofs.«01_k».proof.Proof.Gen.Reference6Ideal.Run
public import proofs.«01_k».proof.Proof.Products
public import Idealize.ShloMosaic.Lib.Pipeline.ValueKit

@[expose] public section

noncomputable section

/-! The gradient of the mixer's output weight, as the launch leaves it. -/

namespace Cert.Kernel6Ideal.Hand

open Idealize.ShloMosaic Idealize.ShloMosaic.TcCoe Idealize.SL.Sem Cert.Kernel6Ideal Cert.Kernel6Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![0, t.val / 2] ∧ win0_1.index t = ![0, t.val % 2]
    ∧ win0_2.index t = ![t.val / 2, t.val % 2] := by decide +kernel

/-- The block a point writes is the product of its two blocks. -/
theorem pay1 (x : Vec Ideal S4096x1024 .bf16) (w : Vec Ideal S4096x1024 .bf16) (y : S1024x1024.Idx) :
    out0_2 x w y = ∑ k : Fin 4096, x (ix2 k (y 0)) * w (ix2 k (y 1)) := by
  frame_out
  pointwise [k0_pay1]

/-- The first factor's block at a point. -/
theorem blk0 (t : Fin cfg0.N) (p : Fin 4096) (q : Fin 1024) (Q : Fin 2048) (hQ : Q.val = t.val / 2 * 1024 + q.val) :
    iblk m c 0 t (ix2 p q) = m ((c : Thread nD τ).loc main_arg0) (ix2 p Q) := by
  blk_ext [iblk, V, idx t, hQ]

/-- The second factor's block at a point. -/
theorem blk1 (t : Fin cfg0.N) (p : Fin 4096) (q : Fin 1024) (Q : Fin 2048) (hQ : Q.val = t.val % 2 * 1024 + q.val) :
    iblk m c 1 t (ix2 p q) = m ((c : Thread nD τ).loc main_arg1) (ix2 p Q) := by
  blk_ext [iblk, V, idx t, hQ]

/-- The array after the launch. -/
theorem arr : (dats m 0 c).arrAt 2 cfg0.N = (mulTN (m ((c : Thread nD τ).loc main_arg0) : Mat 4096 2048)
    (m ((c : Thread nD τ).loc main_arg1) : Mat 4096 2048) : Mat 2048 2048) := by
  refine (dats m 0 c).arrAt_eq_of_covers 2 _ (by decide +kernel) fun t hf y => ?_
  blk_simp
  rw [after0_2, pay1]
  refine dot_congr (fun k => blk0 m c _ k (y 0) _ ?_) (fun k => blk1 m c _ k (y 1) _ ?_)
  all_goals blk_simp [idx t]

/-- The reference runs, leaves its arguments as they were and every counter at zero. -/
theorem reference : Cert.quiescent_Reference6Ideal := fun m ρ _ =>
  (θ_run _ _ _).mono (fun _ h => ⟨fun c => (h c).2, sem_eq_zero_of_no_sems (by decide) _⟩) (Cert.Reference6Ideal.Value.run m ρ)

/-- The launch leaves what the reference computes. -/
theorem algebraic : Cert.algebraic_Kernel6Ideal_Reference6Ideal := by
  intro m ρ m' ρ' _ hagree
  refine ⟨_, Cert.Kernel6Ideal.Value.run_blocks m ρ, (θ_run _ _ _).mono (fun _ h c => ?_) (Cert.Reference6Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulTN]
  exact Finset.sum_congr rfl fun k _ => mul_comm _ _

end Cert.Kernel6Ideal.Hand

end
-- ==== Proof.OutDx.lean ====
module

public import proofs.«01_k».proof.Defs
public import proofs.«01_k».proof.Proof.Gen.Kernel7Ideal.Value
public import proofs.«01_k».proof.Proof.Gen.Reference7Ideal.Run
public import proofs.«01_k».proof.Proof.Products
public import Idealize.ShloMosaic.Lib.Pipeline.ValueKit

@[expose] public section

noncomputable section

/-! The gradient of the mixer's output product's input, as the launch leaves it. -/

namespace Cert.Kernel7Ideal.Hand

open Idealize.ShloMosaic Idealize.ShloMosaic.TcCoe Idealize.SL.Sem Cert.Kernel7Ideal Cert.Kernel7Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 2, 0] ∧ win0_1.index t = ![t.val % 2, 0]
    ∧ win0_2.index t = ![t.val / 2, t.val % 2] := by decide +kernel

/-- The block a point writes is the product of its two blocks. -/
theorem pay1 (x : Vec Ideal S1024x2048 .bf16) (w : Vec Ideal S1024x2048 .bf16) (y : S1024x1024.Idx) :
    out0_2 x w y = ∑ k : Fin 2048, x (ix2 (y 0) k) * w (ix2 (y 1) k) := by
  frame_out
  pointwise [k0_pay1]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 2048) (P : Fin 4096) (hP : P.val = t.val / 2 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 1024) (q : Fin 2048) (P : Fin 2048) (hP : P.val = t.val % 2 * 1024 + p.val) :
    iblk m c 1 t (ix2 p q) = m ((c : Thread nD τ).loc main_arg1) (ix2 P q) := by
  rw [← weight m c]
  blk_ext [iblk, idx t, hP]

/-- The array after the launch. -/
theorem arr : (dats m 0 c).arrAt 2 cfg0.N = (mulNT (m ((c : Thread nD τ).loc main_arg0) : Mat 4096 2048)
    (m ((c : Thread nD τ).loc main_arg1) : Mat 2048 2048) : Mat 4096 2048) := by
  refine (dats m 0 c).arrAt_eq_of_covers 2 _ (by decide +kernel) fun t hf y => ?_
  blk_simp
  rw [after0_2, pay1]
  refine dot_congr (fun k => blk0 m c _ (y 0) k _ ?_) (fun k => blk1 m c _ (y 1) k _ ?_)
  all_goals blk_simp [idx t]

/-- The reference runs, leaves its arguments as they were and every counter at zero. -/
theorem reference : Cert.quiescent_Reference7Ideal := fun m ρ _ =>
  (θ_run _ _ _).mono (fun _ h => ⟨fun c => (h c).2, sem_eq_zero_of_no_sems (by decide) _⟩) (Cert.Reference7Ideal.Value.run m ρ)

/-- The launch leaves what the reference computes. -/
theorem algebraic : Cert.algebraic_Kernel7Ideal_Reference7Ideal := by
  intro m ρ m' ρ' _ hagree
  refine ⟨_, Cert.Kernel7Ideal.Value.run_blocks m ρ, (θ_run _ _ _).mono (fun _ h c => ?_) (Cert.Reference7Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNT]

end Cert.Kernel7Ideal.Hand

end
-- ==== Proof.InDw.lean ====
module

public import proofs.«01_k».proof.Defs
public import proofs.«01_k».proof.Proof.Gen.Kernel8Ideal.Value
public import proofs.«01_k».proof.Proof.Gen.Reference8Ideal.Run
public import proofs.«01_k».proof.Proof.Products
public import Idealize.ShloMosaic.Lib.Pipeline.ValueKit

@[expose] public section

noncomputable section

/-! The gradient of the mixer's input weight, as the launch leaves it. -/

namespace Cert.Kernel8Ideal.Hand

open Idealize.ShloMosaic Idealize.ShloMosaic.TcCoe Idealize.SL.Sem Cert.Kernel8Ideal Cert.Kernel8Ideal.Gen Cert.Products
open Idealize.ShloMosaic.Pipeline (Dat)

variable (m : (ℓ : Loc nD τ sig) → Buf (Elt Ideal) ℓ) (c : Dev nD)

/-- Where each window's block lies at a point. -/
theorem idx : ∀ t : Fin cfg0.N, win0_0.index t = ![t.val % 2, t.val / 4] ∧ win0_1.index t = ![t.val % 2, t.val / 2 % 2]
    ∧ win0_2.index t = ![t.val / 4, t.val / 2 % 2] := by
  decide +kernel

/-- A point's product of blocks at an entry. -/
theorem pay1 (x : Vec Ideal S2048x1152 .bf16) (w : Vec Ideal S2048x1024 .bf16) (y : S1152x1024.Idx) :
    k0_pay1 x w y = ∑ k : Fin 2048, x (ix2 k (y 0)) * w (ix2 k (y 1)) := by
  pointwise [k0_pay1]

/-- The accumulator after the last point of a block. -/
theorem scratch (t : Fin cfg0.N) (hr : t.val % 2 = 1) (y : S1152x1024.Idx) :
    (outsAt0 m c t.val t.isLt).2 y
      = ∑ s : Fin 2, k0_pay1 (iblk m c 0 ⟨2 * (t.val / 2) + s, by omega⟩) (iblk m c 1 ⟨2 * (t.val / 2) + s, by omega⟩) y := by
  rw [Pipeline.eq_sum_fin_of_reset_step_apply_of_flush (fun n h => (outsAt0 m c n h).2) 2 (fun _ => 0)
    (fun t y => k0_pay1 (iblk m c 0 t) (iblk m c 1 t) y)
    (fun t h y => by rw [outsAt0_A m c t h (by omega) (by omega)]; frame_out; pointwise [k0_pay2])
    (fun t h y => by rw [outsAt0_B m c t h (by omega) (by omega)]; frame_out; pointwise [k0_pay3]; exact congrArg (· + _) (congrFun ((Memref.isWhole_whole cc0_scratch0).read_unread (Val := Elt Ideal) (outsAt0 m c (t.val - 1) _).2) y)) t hr y]
  rw [zero_add]

/-- What a block's last point leaves for the result is the accumulator. -/
theorem left (t : Fin cfg0.N) (hr : t.val % 2 = 1) (y : S1152x1024.Idx) :
    (outsAt0 m c t.val t.isLt).1 y = (outsAt0 m c t.val t.isLt).2 y := by
  rw [outsAt0_B m c t (by omega) hr hr]; frame_out; pointwise [k0_pay4]

/-- The first factor's block at a point. -/
theorem blk0 (t : Fin cfg0.N) (p : Fin 2048) (q : Fin 1152) (P : Fin 4096) (Q : Fin 2304) (hP : P.val = t.val % 2 * 2048 + p.val)
    (hQ : Q.val = t.val / 4 * 1152 + q.val) : iblk m c 0 t (ix2 p q) = m ((c : Thread nD τ).loc main_arg0) (ix2 P Q) := by
  blk_ext [iblk, V, idx t, hP, hQ]

/-- The second factor's block at a point. -/
theorem blk1 (t : Fin cfg0.N) (p : Fin 2048) (q : Fin 1024) (P : Fin 4096) (Q : Fin 2048) (hP : P.val = t.val % 2 * 2048 + p.val)
    (hQ : Q.val = t.val / 2 % 2 * 1024 + q.val) : iblk m c 1 t (ix2 p q) = m ((c : Thread nD τ).loc main_arg1) (ix2 P Q) := by
  blk_ext [iblk, V, idx t, hP, hQ]

/-- The result: the product's entries. -/
theorem arr : (dats m 0 c).arrAt 2 cfg0.N = (mulTN (m ((c : Thread nD τ).loc main_arg0) : Mat 4096 2304)
    (m ((c : Thread nD τ).loc main_arg1) : Mat 4096 2048) : Mat 2304 2048) := by
  refine (dats m 0 c).arrAt_eq_of_covers 2 _ (by decide +kernel) fun t hf y => ?_
  blk_simp
  have hr : t.val % 2 = 1 := (flush0_2 t).mp hf
  rw [after0_2, left m c t hr, scratch m c t hr]
  simp only [pay1]
  refine Fin.sum_mul_add_congr fun s k hl => ?_
  have hs : (2 * (t.val / 2) + s.val) % 2 = s.val := by omega
  have e : (2 * (t.val / 2) + s.val) / 2 = t.val / 2 := by omega
  refine congrArg₂ (· * ·) (blk0 m c _ k (y 0) _ _ ?_ ?_) (blk1 m c _ k (y 1) _ _ ?_ ?_)
  all_goals (try blk_simp [idx t]); dsimp only; omega

/-- The reference runs, leaves its arguments as they were and every counter at zero. -/
theorem reference : Cert.quiescent_Reference8Ideal := fun m ρ _ =>
  (θ_run _ _ _).mono (fun _ h => ⟨fun c => (h c).2, sem_eq_zero_of_no_sems (by decide) _⟩) (Cert.Reference8Ideal.Value.run m ρ)

/-- The launch leaves what the reference computes. -/
theorem algebraic : Cert.algebraic_Kernel8Ideal_Reference8Ideal := by
  intro m ρ m' ρ' _ hagree
  refine ⟨_, Cert.Kernel8Ideal.Value.run_blocks m ρ, (θ_run _ _ _).mono (fun _ h c => ?_) (Cert.Reference8Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulTN]
  have h0 : (y 0).val < 2304 := (y 0).isLt
  split
  · rfl
  · refine dot_congr (fun k => ?_) (fun k => rfl)
    rw [dif_pos (by omega)]
    exact congrArg (fun r => m (c.tc.loc main_arg0) (ix2 k r)) (Fin.ext (by dsimp only; omega))

end Cert.Kernel8Ideal.Hand

end
-- ==== Proof.InColumns.lean ====
module

public import proofs.«01_k».proof.Proof.Products

@[expose] public section

noncomputable section

/-! How the columns of the mixer's input weight are stored: as rows, those of the state-space branch first. -/

namespace Cert.Products

open Idealize.ShloMosaic

/-- The column of the weight that is stored as row `r`. -/
def col (r : Fin 2304) : Fin 2304 := ⟨(r.val + 1280) % 2304, by omega⟩

/-- A sum over the stored rows, those of the heads before those of the state-space branch. -/
theorem sum_rows (f : Fin 2304 → EReal) :
    ∑ r, f r = ∑ x : Fin 1280, f ⟨1024 + x, by omega⟩ + ∑ x : Fin 1024, f ⟨x, by omega⟩ :=
  (Fin.sum_univ_add (a := 1024) (b := 1280) f).trans (add_comm _ _)

/-- The weight as it is stored. -/
def stored (w : Mat 2048 2304) : Mat 2304 2048 := fun y => w (ix2 (y 1) (col (y 0)))

end Cert.Products

end
-- ==== Proof.InDx.lean ====
module

public import proofs.«01_k».proof.Defs
public import proofs.«01_k».proof.Proof.Gen.Kernel9Ideal.Value
public import proofs.«01_k».proof.Proof.Gen.Reference9Ideal.Run
public import proofs.«01_k».proof.Proof.InColumns
public import Idealize.ShloMosaic.Lib.Pipeline.ValueKit
public import Idealize.ShloMosaic.Lib.Tactic.CleanTypes

@[expose] public section

noncomputable section

/-! The gradient of the mixer's input, as the launch leaves it. -/

namespace Cert.Kernel9Ideal.Hand

open Idealize.ShloMosaic Idealize.ShloMosaic.TcCoe Idealize.SL.Sem Cert.Kernel9Ideal Cert.Kernel9Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 2, 0] ∧ win0_1.index t = ![0, t.val % 2]
    ∧ win0_2.index t = ![t.val / 2, t.val % 2] := by decide +kernel

/-- The block a point writes is the product of its two blocks. -/
theorem pay1 (x : Vec Ideal S1024x2304 .bf16) (w : Vec Ideal S2304x1024 .bf16) (y : S1024x1024.Idx) :
    out0_2 x w y = ∑ k : Fin 2304, x (ix2 (y 0) k) * w (ix2 k (y 1)) := by
  frame_out
  pointwise [k0_pay1]

/-- The weight the launch is given holds the argument as it is stored. -/
theorem weight : V m c main_v4 = stored (m ((c : Thread nD τ).loc main_arg1)) := by
  funext y
  obtain ⟨r, k, rfl⟩ : ∃ (r : Fin 2304) (k : Fin 2048), y = ix2 r k := ⟨y 0, y 1, eq_ix2 y⟩
  unfold_abbrev_sides
  after_results
  clean_types
  pointwise [stored]
  split <;> exact congrArg (fun r => m (c.tc.loc main_arg1) (ix2 k r)) (Fin.ext (by dsimp only [col]; omega))

/-- The first factor's block at a point. -/
theorem blk0 (t : Fin cfg0.N) (p : Fin 1024) (q : Fin 2304) (P : Fin 4096) (hP : P.val = t.val / 2 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 2304) (q : Fin 1024) (Q : Fin 2048) (hQ : Q.val = t.val % 2 * 1024 + q.val) :
    iblk m c 1 t (ix2 p q) = stored (m ((c : Thread nD τ).loc main_arg1)) (ix2 p Q) := by
  rw [← weight m c]
  blk_ext [iblk, idx t, hQ]

/-- The array after the launch. -/
theorem arr : (dats m 0 c).arrAt 2 cfg0.N = (mulNN (m ((c : Thread nD τ).loc main_arg0) : Mat 4096 2304)
    (stored (m ((c : Thread nD τ).loc main_arg1))) : Mat 4096 2048) := by
  refine (dats m 0 c).arrAt_eq_of_covers 2 _ (by decide +kernel) fun t hf y => ?_
  blk_simp
  rw [after0_2, pay1]
  refine dot_congr (fun k => blk0 m c _ (y 0) k _ ?_) (fun k => blk1 m c _ k (y 1) _ ?_)
  all_goals blk_simp [idx t]

/-- The reference runs, leaves its arguments as they were and every counter at zero. -/
theorem reference : Cert.quiescent_Reference9Ideal := fun m ρ _ =>
  (θ_run _ _ _).mono (fun _ h => ⟨fun c => (h c).2, sem_eq_zero_of_no_sems (by decide) _⟩) (Cert.Reference9Ideal.Value.run m ρ)

/-- The launch leaves what the reference computes. -/
theorem algebraic : Cert.algebraic_Kernel9Ideal_Reference9Ideal := by
  intro m ρ m' ρ' _ hagree
  refine ⟨_, Cert.Kernel9Ideal.Value.run_blocks m ρ, (θ_run _ _ _).mono (fun _ h c => ?_) (Cert.Reference9Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [stored, mulNN]
  rw [sum_rows]
  refine congrArg₂ (· + ·) (dot_congr (fun k => rfl) fun k => ?_) (dot_congr (fun k => rfl) fun k => ?_)
  all_goals exact congrArg (fun r => m (c.tc.loc main_arg1) (ix2 (y 1) r)) (Fin.ext (by dsimp only [col]; omega))

end Cert.Kernel9Ideal.Hand

end
-- ==== Proof.GluDw.lean ====
module

public import proofs.«01_k».proof.Defs
public import proofs.«01_k».proof.Proof.Gen.Kernel10Ideal.Value
public import proofs.«01_k».proof.Proof.Gen.Reference10Ideal.Run
public import proofs.«01_k».proof.Proof.Products
public import Idealize.ShloMosaic.Lib.Pipeline.ValueKit

@[expose] public section

noncomputable section

/-! The gradient of the state-space branch's gating weight, as the launch leaves it. -/

namespace Cert.Kernel10Ideal.Hand

open Idealize.ShloMosaic Idealize.ShloMosaic.TcCoe Idealize.SL.Sem Cert.Kernel10Ideal Cert.Kernel10Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![0, 0] ∧ win0_1.index t = ![0, 0]
    ∧ win0_2.index t = ![0, 0] := by decide +kernel

/-- The block a point writes is the product of its two blocks. -/
theorem pay1 (x : Vec Ideal S4096x1024 .bf16) (w : Vec Ideal S4096x1024 .bf16) (y : S1024x1024.Idx) :
    out0_2 x w y = ∑ k : Fin 4096, x (ix2 k (y 0)) * w (ix2 k (y 1)) := by
  frame_out
  pointwise [k0_pay1]

/-- The first factor's block at a point. -/
theorem blk0 (t : Fin cfg0.N) (p : Fin 4096) (q : Fin 1024) (Q : Fin 1024) (hQ : Q.val = q.val) :
    iblk m c 0 t (ix2 p q) = m ((c : Thread nD τ).loc main_arg0) (ix2 p Q) := by
  blk_ext [iblk, V, idx t, hQ]

/-- The second factor's block at a point. -/
theorem blk1 (t : Fin cfg0.N) (p : Fin 4096) (q : Fin 1024) (Q : Fin 1024) (hQ : Q.val = q.val) :
    iblk m c 1 t (ix2 p q) = m ((c : Thread nD τ).loc main_arg1) (ix2 p Q) := by
  blk_ext [iblk, V, idx t, hQ]

/-- The array after the launch. -/
theorem arr : (dats m 0 c).arrAt 2 cfg0.N = (mulTN (m ((c : Thread nD τ).loc main_arg0) : Mat 4096 1024)
    (m ((c : Thread nD τ).loc main_arg1) : Mat 4096 1024) : Mat 1024 1024) := by
  refine (dats m 0 c).arrAt_eq_of_covers 2 _ (by decide +kernel) fun t hf y => ?_
  blk_simp
  rw [after0_2, pay1]
  refine dot_congr (fun k => blk0 m c _ k (y 0) _ ?_) (fun k => blk1 m c _ k (y 1) _ ?_)
  all_goals blk_simp [idx t]

/-- The reference runs, leaves its arguments as they were and every counter at zero. -/
theorem reference : Cert.quiescent_Reference10Ideal := fun m ρ _ =>
  (θ_run _ _ _).mono (fun _ h => ⟨fun c => (h c).2, sem_eq_zero_of_no_sems (by decide) _⟩) (Cert.Reference10Ideal.Value.run m ρ)

/-- The launch leaves what the reference computes. -/
theorem algebraic : Cert.algebraic_Kernel10Ideal_Reference10Ideal := by
  intro m ρ m' ρ' _ hagree
  refine ⟨_, Cert.Kernel10Ideal.Value.run_blocks m ρ, (θ_run _ _ _).mono (fun _ h c => ?_) (Cert.Reference10Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulTN]
  exact Finset.sum_congr rfl fun k _ => mul_comm _ _

end Cert.Kernel10Ideal.Hand

end
-- ==== Proof.GluDx.lean ====
module

public import proofs.«01_k».proof.Defs
public import proofs.«01_k».proof.Proof.Gen.Kernel11Ideal.Value
public import proofs.«01_k».proof.Proof.Gen.Reference11Ideal.Run
public import proofs.«01_k».proof.Proof.Products
public import Idealize.ShloMosaic.Lib.Pipeline.ValueKit

@[expose] public section

noncomputable section

/-! The gradient of the gating product's input, as the launch leaves it. -/

namespace Cert.Kernel11Ideal.Hand

open Idealize.ShloMosaic Idealize.ShloMosaic.TcCoe Idealize.SL.Sem Cert.Kernel11Ideal Cert.Kernel11Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val, 0] ∧ win0_1.index t = ![0, 0]
    ∧ win0_2.index t = ![t.val, 0] := by decide +kernel

/-- The block a point writes is the product of its two blocks. -/
theorem pay1 (x : Vec Ideal S1024x1024 .bf16) (w : Vec Ideal S1024x1024 .bf16) (y : S1024x1024.Idx) :
    out0_2 x w y = ∑ k : Fin 1024, x (ix2 (y 0) k) * w (ix2 (y 1) k) := by
  frame_out
  pointwise [k0_pay1]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 1024) (P : Fin 4096) (hP : P.val = t.val * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 1024) (q : Fin 1024) (P : Fin 1024) (hP : P.val = p.val) :
    iblk m c 1 t (ix2 p q) = m ((c : Thread nD τ).loc main_arg1) (ix2 P q) := by
  rw [← weight m c]
  blk_ext [iblk, idx t, hP]

/-- The array after the launch. -/
theorem arr : (dats m 0 c).arrAt 2 cfg0.N = (mulNT (m ((c : Thread nD τ).loc main_arg0) : Mat 4096 1024)
    (m ((c : Thread nD τ).loc main_arg1) : Mat 1024 1024) : Mat 4096 1024) := by
  refine (dats m 0 c).arrAt_eq_of_covers 2 _ (by decide +kernel) fun t hf y => ?_
  blk_simp
  rw [after0_2, pay1]
  refine dot_congr (fun k => blk0 m c _ (y 0) k _ ?_) (fun k => blk1 m c _ (y 1) k _ ?_)
  all_goals blk_simp [idx t]

/-- The reference runs, leaves its arguments as they were and every counter at zero. -/
theorem reference : Cert.quiescent_Reference11Ideal := fun m ρ _ =>
  (θ_run _ _ _).mono (fun _ h => ⟨fun c => (h c).2, sem_eq_zero_of_no_sems (by decide) _⟩) (Cert.Reference11Ideal.Value.run m ρ)

/-- The launch leaves what the reference computes. -/
theorem algebraic : Cert.algebraic_Kernel11Ideal_Reference11Ideal := by
  intro m ρ m' ρ' _ hagree
  refine ⟨_, Cert.Kernel11Ideal.Value.run_blocks m ρ, (θ_run _ _ _).mono (fun _ h c => ?_) (Cert.Reference11Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNT]

end Cert.Kernel11Ideal.Hand

end
-- ==== Proof.Proj.lean ====
module

public import proofs.«01_k».proof.Defs
public import proofs.«01_k».proof.Proof.Gen.Kernel12Ideal.Value
public import proofs.«01_k».proof.Proof.Gen.Reference12Ideal.Run
public import proofs.«01_k».proof.Proof.InColumns
public import Idealize.ShloMosaic.Lib.Pipeline.ValueKit
public import Idealize.ShloMosaic.Lib.Tactic.CleanTypes

@[expose] public section

noncomputable section

/-! The mixer's input product, as the launch leaves it. -/

namespace Cert.Kernel12Ideal.Hand

open Idealize.ShloMosaic Idealize.ShloMosaic.TcCoe Idealize.SL.Sem Cert.Kernel12Ideal Cert.Kernel12Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 2, 0] ∧ win0_1.index t = ![t.val % 2, 0]
    ∧ win0_2.index t = ![t.val / 2, t.val % 2] := by decide +kernel

/-- The block a point writes is the product of its two blocks. -/
theorem pay1 (x : Vec Ideal S1024x2048 .bf16) (w : Vec Ideal S1152x2048 .bf16) (y : S1024x1152.Idx) :
    out0_2 x w y = ∑ k : Fin 2048, x (ix2 (y 0) k) * w (ix2 (y 1) k) := by
  frame_out
  pointwise [k0_pay1]

/-- The weight the launch is given holds the argument as it is stored. -/
theorem weight : V m c main_v4 = stored (m ((c : Thread nD τ).loc main_arg1)) := by
  funext y
  obtain ⟨r, k, rfl⟩ : ∃ (r : Fin 2304) (k : Fin 2048), y = ix2 r k := ⟨y 0, y 1, eq_ix2 y⟩
  unfold_abbrev_sides
  after_results
  clean_types
  pointwise [stored]
  split <;> exact congrArg (fun r => m (c.tc.loc main_arg1) (ix2 k r)) (Fin.ext (by dsimp only [col]; omega))

/-- The first factor's block at a point. -/
theorem blk0 (t : Fin cfg0.N) (p : Fin 1024) (q : Fin 2048) (P : Fin 4096) (hP : P.val = t.val / 2 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 1152) (q : Fin 2048) (P : Fin 2304) (hP : P.val = t.val % 2 * 1152 + p.val) :
    iblk m c 1 t (ix2 p q) = stored (m ((c : Thread nD τ).loc main_arg1)) (ix2 P q) := by
  rw [← weight m c]
  blk_ext [iblk, idx t, hP]

/-- The array after the launch. -/
theorem arr : (dats m 0 c).arrAt 2 cfg0.N = (mulNT (m ((c : Thread nD τ).loc main_arg0) : Mat 4096 2048)
    (stored (m ((c : Thread nD τ).loc main_arg1))) : Mat 4096 2304) := by
  refine (dats m 0 c).arrAt_eq_of_covers 2 _ (by decide +kernel) fun t hf y => ?_
  blk_simp
  rw [after0_2, pay1]
  refine dot_congr (fun k => blk0 m c _ (y 0) k _ ?_) (fun k => blk1 m c _ (y 1) k _ ?_)
  all_goals blk_simp [idx t]

/-- The reference runs, leaves its arguments as they were and every counter at zero. -/
theorem reference : Cert.quiescent_Reference12Ideal := fun m ρ _ =>
  (θ_run _ _ _).mono (fun _ h => ⟨fun c => (h c).2, sem_eq_zero_of_no_sems (by decide) _⟩) (Cert.Reference12Ideal.Value.run m ρ)

/-- The launch leaves what the reference computes. -/
theorem algebraic : Cert.algebraic_Kernel12Ideal_Reference12Ideal := by
  intro m ρ m' ρ' _ hagree
  refine ⟨_, Cert.Kernel12Ideal.Value.run_blocks m ρ, (θ_run _ _ _).mono (fun _ h c => ?_) (Cert.Reference12Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [stored, mulNT]
  have h1 : (y 1).val < 2304 := (y 1).isLt
  split
  all_goals
    refine dot_congr (fun k => rfl) fun k => ?_
    exact congrArg (fun r => m (c.tc.loc main_arg1) (ix2 k r)) (Fin.ext (by dsimp only [col]; omega))

end Cert.Kernel12Ideal.Hand

end
-- ==== Proof.Glu.lean ====
module

public import proofs.«01_k».proof.Defs
public import proofs.«01_k».proof.Proof.Gen.Kernel13Ideal.Value
public import proofs.«01_k».proof.Proof.Gen.Reference13Ideal.Run
public import proofs.«01_k».proof.Proof.Products
public import Idealize.ShloMosaic.Lib.Pipeline.ValueKit

@[expose] public section

noncomputable section

/-! The state-space branch's gating product, as the launch leaves it. -/

namespace Cert.Kernel13Ideal.Hand

open Idealize.ShloMosaic Idealize.ShloMosaic.TcCoe Idealize.SL.Sem Cert.Kernel13Ideal Cert.Kernel13Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val, 0] ∧ win0_1.index t = ![0, 0]
    ∧ win0_2.index t = ![t.val, 0] := by decide +kernel

/-- The block a point writes is the product of its two blocks. -/
theorem pay1 (x : Vec Ideal S1024x1024 .bf16) (w : Vec Ideal S1024x1024 .bf16) (y : S1024x1024.Idx) :
    out0_2 x w y = ∑ k : Fin 1024, x (ix2 (y 0) k) * w (ix2 k (y 1)) := by
  frame_out
  pointwise [k0_pay1]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 1024) (P : Fin 4096) (hP : P.val = t.val * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 1024) (q : Fin 1024) (Q : Fin 1024) (hQ : Q.val = q.val) :
    iblk m c 1 t (ix2 p q) = m ((c : Thread nD τ).loc main_arg1) (ix2 p Q) := by
  rw [← weight m c]
  blk_ext [iblk, idx t, hQ]

/-- The array after the launch. -/
theorem arr : (dats m 0 c).arrAt 2 cfg0.N = (mulNN (m ((c : Thread nD τ).loc main_arg0) : Mat 4096 1024)
    (m ((c : Thread nD τ).loc main_arg1) : Mat 1024 1024) : Mat 4096 1024) := by
  refine (dats m 0 c).arrAt_eq_of_covers 2 _ (by decide +kernel) fun t hf y => ?_
  blk_simp
  rw [after0_2, pay1]
  refine dot_congr (fun k => blk0 m c _ (y 0) k _ ?_) (fun k => blk1 m c _ k (y 1) _ ?_)
  all_goals blk_simp [idx t]

/-- The reference runs, leaves its arguments as they were and every counter at zero. -/
theorem reference : Cert.quiescent_Reference13Ideal := fun m ρ _ =>
  (θ_run _ _ _).mono (fun _ h => ⟨fun c => (h c).2, sem_eq_zero_of_no_sems (by decide) _⟩) (Cert.Reference13Ideal.Value.run m ρ)

/-- The launch leaves what the reference computes. -/
theorem algebraic : Cert.algebraic_Kernel13Ideal_Reference13Ideal := by
  intro m ρ m' ρ' _ hagree
  refine ⟨_, Cert.Kernel13Ideal.Value.run_blocks m ρ, (θ_run _ _ _).mono (fun _ h c => ?_) (Cert.Reference13Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNN]

end Cert.Kernel13Ideal.Hand

end
-- ==== Proof.OutProj.lean ====
module

public import proofs.«01_k».proof.Defs
public import proofs.«01_k».proof.Proof.Gen.Kernel14Ideal.Value
public import proofs.«01_k».proof.Proof.Gen.Reference14Ideal.Run
public import proofs.«01_k».proof.Proof.Products
public import Idealize.ShloMosaic.Lib.Pipeline.ValueKit

@[expose] public section

noncomputable section

/-! The mixer's output product, as the launch leaves it. -/

namespace Cert.Kernel14Ideal.Hand

open Idealize.ShloMosaic Idealize.ShloMosaic.TcCoe Idealize.SL.Sem Cert.Kernel14Ideal Cert.Kernel14Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 2, 0] ∧ win0_1.index t = ![0, t.val % 2]
    ∧ win0_2.index t = ![t.val / 2, t.val % 2] := by decide +kernel

/-- The block a point writes is the product of its two blocks. -/
theorem pay1 (x : Vec Ideal S1024x2048 .bf16) (w : Vec Ideal S2048x1024 .bf16) (y : S1024x1024.Idx) :
    out0_2 x w y = ∑ k : Fin 2048, x (ix2 (y 0) k) * w (ix2 k (y 1)) := by
  frame_out
  pointwise [k0_pay1]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 2048) (P : Fin 4096) (hP : P.val = t.val / 2 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (p : Fin 2048) (q : Fin 1024) (Q : Fin 2048) (hQ : Q.val = t.val % 2 * 1024 + q.val) :
    iblk m c 1 t (ix2 p q) = m ((c : Thread nD τ).loc main_arg1) (ix2 p Q) := by
  rw [← weight m c]
  blk_ext [iblk, idx t, hQ]

/-- The array after the launch. -/
theorem arr : (dats m 0 c).arrAt 2 cfg0.N = (mulNN (m ((c : Thread nD τ).loc main_arg0) : Mat 4096 2048)
    (m ((c : Thread nD τ).loc main_arg1) : Mat 2048 2048) : Mat 4096 2048) := by
  refine (dats m 0 c).arrAt_eq_of_covers 2 _ (by decide +kernel) fun t hf y => ?_
  blk_simp
  rw [after0_2, pay1]
  refine dot_congr (fun k => blk0 m c _ (y 0) k _ ?_) (fun k => blk1 m c _ k (y 1) _ ?_)
  all_goals blk_simp [idx t]

/-- The reference runs, leaves its arguments as they were and every counter at zero. -/
theorem reference : Cert.quiescent_Reference14Ideal := fun m ρ _ =>
  (θ_run _ _ _).mono (fun _ h => ⟨fun c => (h c).2, sem_eq_zero_of_no_sems (by decide) _⟩) (Cert.Reference14Ideal.Value.run m ρ)

/-- The launch leaves what the reference computes. -/
theorem algebraic : Cert.algebraic_Kernel14Ideal_Reference14Ideal := by
  intro m ρ m' ρ' _ hagree
  refine ⟨_, Cert.Kernel14Ideal.Value.run_blocks m ρ, (θ_run _ _ _).mono (fun _ h c => ?_) (Cert.Reference14Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNN]

end Cert.Kernel14Ideal.Hand

end
-- ==== Proof.UpProj.lean ====
module

public import proofs.«01_k».proof.Defs
public import proofs.«01_k».proof.Proof.Gen.Kernel15Ideal.Value
public import proofs.«01_k».proof.Proof.Gen.Reference15Ideal.Run
public import proofs.«01_k».proof.Proof.UpLayout
public import Idealize.ShloMosaic.Lib.Pipeline.ValueKit
public import Idealize.ShloMosaic.Lib.Tactic.CleanTypes

@[expose] public section

noncomputable section

/-! The feed-forward half's first product, as the launch leaves it. -/

namespace Cert.Kernel15Ideal.Hand

open Idealize.ShloMosaic Idealize.ShloMosaic.TcCoe Idealize.SL.Sem Cert.Kernel15Ideal Cert.Kernel15Ideal.Gen Cert.Products
open Idealize.ShloMosaic.Pipeline (Dat)

variable (m : (ℓ : Loc nD τ sig) → Buf (Elt Ideal) ℓ) (c : Dev nD)

/-- Which blocks a grid point works on. -/
theorem idx : ∀ t : Fin cfg0.N, win0_0.index t = ![t.val / 8, 0] ∧ win0_1.index t = ![t.val % 8 / 2, 0, t.val % 2]
    ∧ win0_2.index t = ![t.val % 8 / 4, t.val / 8, t.val % 4] := by decide +kernel

/-- The block a point writes is the product of its two blocks. -/
theorem pay1 (x : Vec Ideal S1024x2048 .bf16) (w : Vec Ideal S1x2048x1408 .bf16) (y : S1x1024x1408.Idx) :
    out0_2 x w y = ∑ k : Fin 2048, x (ix2 (y 1) k) * w (ix3 (y 0) k (y 2)) := by
  obtain ⟨z, p, q, rfl⟩ : ∃ (z : Fin 1) (p : Fin 1024) (q : Fin 1408), y = ix3 z p q := ⟨y 0, y 1, y 2, eq_ix3 y⟩
  obtain rfl := Subsingleton.elim z 0
  frame_out
  pointwise [k0_pay1]

/-- The weight the launch is given holds the argument's shards. -/
theorem weight : V m c main_v2 = shards (m ((c : Thread nD τ).loc main_arg1)) := by
  funext y
  obtain ⟨s, k, q, rfl⟩ : ∃ (s : Fin 4) (k : Fin 2048) (q : Fin 2816), y = ix3 s k q := ⟨y 0, y 1, y 2, eq_ix3 y⟩
  unfold_abbrev_sides
  after_results
  clean_types
  pointwise [shards]
  rfl

/-- The first factor's block at a point. -/
theorem blk0 (t : Fin cfg0.N) (p : Fin 1024) (q : Fin 2048) (P : Fin 4096) (hP : P.val = t.val / 8 * 1024 + p.val) :
    iblk m c 0 t (ix2 p q) = m ((c : Thread nD τ).loc main_arg0) (ix2 P q) := by
  rw [← V_main_arg0 m c]
  blk_ext [iblk, idx t, hP]

/-- The second factor's block at a point. -/
theorem blk1 (t : Fin cfg0.N) (z : Fin 1) (k : Fin 2048) (q : Fin 1408) (s : Fin 4) (r : Fin 2816) (hs : s.val = t.val % 8 / 2)
    (hr : r.val = t.val % 2 * 1408 + q.val) :
    iblk m c 1 t (ix3 z k q) = m ((c : Thread nD τ).loc main_arg1) (ix2 k (shardCol s r)) := by
  refine .trans ?_ (congrFun (weight m c) (ix3 s k r))
  blk_ext [iblk, idx t, hs, hr]

/-- The product by halves. -/
def halves (h : Mat 4096 2048) (w : Mat 2048 11264) : Stack 2 4096 5632 := fun y => mulNN h w (ix2 (y 1) (halfCol (y 0) (y 2)))

/-- The array after the launch. -/
theorem arr : (dats m 0 c).arrAt 2 cfg0.N = halves (m ((c : Thread nD τ).loc main_arg0)) (m ((c : Thread nD τ).loc main_arg1)) := by
  refine (dats m 0 c).arrAt_eq_of_covers 2 _ (by decide +kernel) fun t hf y => ?_
  blk_simp
  rw [after0_2, pay1]
  have ht : t.val < 32 := t.isLt
  have h2 : (y 2).val < 1408 := (y 2).isLt
  refine dot_congr (fun k => blk0 m c _ (y 1) k _ ?_) (fun k => (blk1 m c _ (y 0) k (y 2) ⟨t.val % 8 / 2, by omega⟩
    ⟨t.val % 2 * 1408 + (y 2).val, by omega⟩ rfl rfl).trans (congrArg (fun r => m (c.tc.loc main_arg1) (ix2 k r)) (Fin.ext ?_)))
  · blk_simp [idx t]
  · have h0 : (y 0).val < 1 := (y 0).isLt
    simp only [halfCol, shardCol, ix2]
    blk_simp [idx t]
    omega

/-- The reference runs, leaves its arguments as they were and every counter at zero. -/
theorem reference : Cert.quiescent_Reference15Ideal := fun m ρ _ =>
  (θ_run _ _ _).mono (fun _ h => ⟨fun c => (h c).2, sem_eq_zero_of_no_sems (by decide) _⟩) (Cert.Reference15Ideal.Value.run m ρ)

/-- The launch leaves what the reference computes. -/
theorem algebraic : Cert.algebraic_Kernel15Ideal_Reference15Ideal := by
  intro m ρ m' ρ' _ hagree
  refine ⟨_, Cert.Kernel15Ideal.Value.run_blocks m ρ, (θ_run _ _ _).mono (fun _ h c => ?_) (Cert.Reference15Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [halves, mulNN]
  have h0 : (y 0).val < 2 := (y 0).isLt
  split
  all_goals
    refine dot_congr (fun k => rfl) fun k => ?_
    exact congrArg (fun r => m (c.tc.loc main_arg1) (ix2 k r)) (Fin.ext (by dsimp only [halfCol]; omega))

end Cert.Kernel15Ideal.Hand

end
-- ==== Proof.DownProj.lean ====
module

public import proofs.«01_k».proof.Defs
public import proofs.«01_k».proof.Proof.Gen.Kernel16Ideal.Value
public import proofs.«01_k».proof.Proof.Gen.Reference16Ideal.Run
public import proofs.«01_k».proof.Proof.Products
public import Idealize.ShloMosaic.Lib.Pipeline.ValueKit

@[expose] public section

noncomputable section

/-! The feed-forward half's second product, as the launch leaves it. -/

namespace Cert.Kernel16Ideal.Hand

open Idealize.ShloMosaic Idealize.ShloMosaic.TcCoe Idealize.SL.Sem Cert.Kernel16Ideal Cert.Kernel16Ideal.Gen Cert.Products
open Idealize.ShloMosaic.Pipeline (Dat)

variable (m : (ℓ : Loc nD τ sig) → Buf (Elt Ideal) ℓ) (c : Dev nD)

/-- Where each window's block lies at a point. -/
theorem idx : ∀ t : Fin cfg0.N, win0_0.index t = ![t.val / 4, t.val % 2] ∧ win0_1.index t = ![t.val % 2, t.val / 2 % 2]
    ∧ win0_2.index t = ![t.val / 4, t.val / 2 % 2] := by
  decide +kernel

/-- A point's product of blocks at an entry. -/
theorem pay1 (x : Vec Ideal S1024x2816 .bf16) (w : Vec Ideal S2816x1024 .bf16) (y : S1024x1024.Idx) :
    k0_pay1 x w y = ∑ k : Fin 2816, x (ix2 (y 0) k) * w (ix2 k (y 1)) := by
  pointwise [k0_pay1]

/-- The accumulator after the last point of a block. -/
theorem scratch (t : Fin cfg0.N) (hr : t.val % 2 = 1) (y : S1024x1024.Idx) :
    (outsAt0 m c t.val t.isLt).2 y
      = ∑ s : Fin 2, k0_pay1 (iblk m c 0 ⟨2 * (t.val / 2) + s, by omega⟩) (iblk m c 1 ⟨2 * (t.val / 2) + s, by omega⟩) y := by
  rw [Pipeline.eq_sum_fin_of_reset_step_apply_of_flush (fun n h => (outsAt0 m c n h).2) 2 (fun _ => 0)
    (fun t y => k0_pay1 (iblk m c 0 t) (iblk m c 1 t) y)
    (fun t h y => by rw [outsAt0_A m c t h (by omega) (by omega)]; frame_out; pointwise [k0_pay2])
    (fun t h y => by rw [outsAt0_B m c t h (by omega) (by omega)]; frame_out; pointwise [k0_pay3]; exact congrArg (· + _) (congrFun ((Memref.isWhole_whole cc0_scratch0).read_unread (Val := Elt Ideal) (outsAt0 m c (t.val - 1) _).2) y)) t hr y]
  rw [zero_add]

/-- What a block's last point leaves for the result is the accumulator. -/
theorem left (t : Fin cfg0.N) (hr : t.val % 2 = 1) (y : S1024x1024.Idx) :
    (outsAt0 m c t.val t.isLt).1 y = (outsAt0 m c t.val t.isLt).2 y := by
  rw [outsAt0_B m c t (by omega) hr hr]; frame_out; pointwise [k0_pay4]

/-- The weight the launch is given holds the argument. -/
theorem weight : V m c main_v0 = m ((c : Thread nD τ).loc main_arg1) := by
  unfold_abbrev_sides
  after_results
  rfl

/-- The first factor's block at a point. -/
theorem blk0 (t : Fin cfg0.N) (p : Fin 1024) (q : Fin 2816) (P : Fin 4096) (Q : Fin 5632) (hP : P.val = t.val / 4 * 1024 + p.val)
    (hQ : Q.val = t.val % 2 * 2816 + q.val) : iblk m c 0 t (ix2 p q) = m ((c : Thread nD τ).loc main_arg0) (ix2 P Q) := by
  rw [← V_main_arg0 m c]
  blk_ext [iblk, idx t, hP, hQ]

/-- The second factor's block at a point. -/
theorem blk1 (t : Fin cfg0.N) (p : Fin 2816) (q : Fin 1024) (P : Fin 5632) (Q : Fin 2048) (hP : P.val = t.val % 2 * 2816 + p.val)
    (hQ : Q.val = t.val / 2 % 2 * 1024 + q.val) : iblk m c 1 t (ix2 p q) = m ((c : Thread nD τ).loc main_arg1) (ix2 P Q) := by
  rw [← weight m c]
  blk_ext [iblk, idx t, hP, hQ]

/-- The result: the product's entries. -/
theorem arr : (dats m 0 c).arrAt 2 cfg0.N = (mulNN (m ((c : Thread nD τ).loc main_arg0) : Mat 4096 5632)
    (m ((c : Thread nD τ).loc main_arg1) : Mat 5632 2048) : Mat 4096 2048) := by
  refine (dats m 0 c).arrAt_eq_of_covers 2 _ (by decide +kernel) fun t hf y => ?_
  blk_simp
  have hr : t.val % 2 = 1 := (flush0_2 t).mp hf
  rw [after0_2, left m c t hr, scratch m c t hr]
  simp only [pay1]
  refine Fin.sum_mul_add_congr fun s k hl => ?_
  have hs : (2 * (t.val / 2) + s.val) % 2 = s.val := by omega
  have e : (2 * (t.val / 2) + s.val) / 2 = t.val / 2 := by omega
  refine congrArg₂ (· * ·) (blk0 m c _ (y 0) k _ _ ?_ ?_) (blk1 m c _ k (y 1) _ _ ?_ ?_)
  all_goals (try blk_simp [idx t]); dsimp only; omega

/-- The reference runs, leaves its arguments as they were and every counter at zero. -/
theorem reference : Cert.quiescent_Reference16Ideal := fun m ρ _ =>
  (θ_run _ _ _).mono (fun _ h => ⟨fun c => (h c).2, sem_eq_zero_of_no_sems (by decide) _⟩) (Cert.Reference16Ideal.Value.run m ρ)

/-- The launch leaves what the reference computes. -/
theorem algebraic : Cert.algebraic_Kernel16Ideal_Reference16Ideal := by
  intro m ρ m' ρ' _ hagree
  refine ⟨_, Cert.Kernel16Ideal.Value.run_blocks m ρ, (θ_run _ _ _).mono (fun _ h c => ?_) (Cert.Reference16Ideal.Value.run m' ρ')⟩
  obtain ⟨e, hargs⟩ := h c
  obtain ⟨a0, a1⟩ := hagree c
  refine ⟨e.trans ?_, hargs⟩
  rw [a0, a1]
  refine .trans ?_ (arr m c).symm
  funext y
  pointwise [mulNN]

end Cert.Kernel16Ideal.Hand

end
-- ==== Proof.AttnSpec.lean ====
module

public import Idealize.ShloMosaic.Lib.Pointwise
public import Idealize.ShloMosaic.PureOps.IdealRules

@[expose] public section

noncomputable section

namespace Cert.Attn

open Idealize.ShloMosaic

/-! The mathematics of the windowed attention's backward at one block of 128 positions, over the block's operands. A stacked row `r` is
position `r % 128` of the head's query group `r / 128`. -/

/-- One over the square root of the width of a head. -/
def eighth : EReal := Ideal.ofBits .f32 0x3E000000#32

/-- The maximum of a row's scores and its sink. -/
def rowTop (s : Fin 256 → EReal) (σ : EReal) : EReal := max (Finset.fold max ⊥ s Finset.univ) σ

/-- The sum of a row's exponentials, its sink's among them. -/
def rowDen (s : Fin 256 → EReal) (σ : EReal) : EReal := (∑ k, Ideal.exp (s k - rowTop s σ)) + Ideal.exp (σ - rowTop s σ)

/-- A row's probabilities. -/
def rowP (s : Fin 256 → EReal) (σ : EReal) (k : Fin 256) : EReal := Ideal.div (Ideal.exp (s k - rowTop s σ)) (rowDen s σ)

/-- The probability of a row's sink. -/
def rowSink (s : Fin 256 → EReal) (σ : EReal) : EReal := Ideal.div (Ideal.exp (σ - rowTop s σ)) (rowDen s σ)

/-- The keys a position of block `n` attends to: the 128 before it and itself, none of them before the sequence's start. -/
def valid (n : Nat) (q : Fin 128) (k : Fin 256) : Prop := q.val < k.val ∧ k.val ≤ q.val + 128 ∧ (128 ≤ k.val ∨ 0 < n)

instance (n : Nat) (q : Fin 128) (k : Fin 256) : Decidable (valid n q k) := by unfold valid; infer_instance

/-- A stacked row's position. -/
def pos (r : Fin 1024) : Fin 128 := ⟨r.val % 128, Nat.mod_lt _ (by decide)⟩

/-- A stacked row's column of the queries. -/
def col (h : Fin 2) (r : Fin 1024) (d : Fin 64) : Fin 1024 := ⟨h.val * 512 + r.val / 128 * 64 + d.val, by omega⟩

/-- A stacked row's query head. -/
def headOf (h : Fin 2) (r : Fin 1024) : Fin 16 := ⟨h.val * 8 + r.val / 128, by omega⟩

section block

variable (n : Nat) (x0 : (⟨1, ![16]⟩ : Shape).Idx → EReal) (x1 : (⟨2, ![128, 1024]⟩ : Shape).Idx → EReal)
  (x2 x3 : (⟨2, ![128, 256]⟩ : Shape).Idx → EReal) (x4 x5 : (⟨2, ![128, 1024]⟩ : Shape).Idx → EReal)

/-- A column of the two blocks a block attends to: the previous block `x3`, then its own `x2`. -/
def band (k : Fin 256) (c : Fin 256) : EReal :=
  if h : k.val < 128 then x3 (ix2 ⟨k.val, h⟩ c) else x2 (ix2 ⟨k.val - 128, by omega⟩ c)

/-- The keys. -/
def key (h : Fin 2) (k : Fin 256) (d : Fin 64) : EReal := band x2 x3 k ⟨h.val * 64 + d.val, by omega⟩

/-- The values. -/
def value (h : Fin 2) (k : Fin 256) (d : Fin 64) : EReal := band x2 x3 k ⟨128 + h.val * 64 + d.val, by omega⟩

/-- The scores, minus infinity where a position does not attend. -/
def score (h : Fin 2) (r : Fin 1024) (k : Fin 256) : EReal :=
  if valid n (pos r) k then (∑ d, x1 (ix2 (pos r) (col h r d)) * key x2 x3 h k d) * eighth else ⊥

/-- The probabilities. -/
def prob (h : Fin 2) (r : Fin 1024) (k : Fin 256) : EReal := rowP (score n x1 x2 x3 h r) (x0 (ix1 (headOf h r))) k

/-- The product of a row's output and its cotangent. -/
def delta (h : Fin 2) (r : Fin 1024) : EReal := ∑ d, x5 (ix2 (pos r) (col h r d)) * x4 (ix2 (pos r) (col h r d))

/-- The scores' gradient. -/
def dscore (h : Fin 2) (r : Fin 1024) (k : Fin 256) : EReal :=
  prob n x0 x1 x2 x3 h r k * ((∑ d, x5 (ix2 (pos r) (col h r d)) * value x2 x3 h k d) - delta x4 x5 h r) * eighth

/-- The queries' gradient. -/
def dquery (h : Fin 2) (r : Fin 1024) (d : Fin 64) : EReal := ∑ k, dscore n x0 x1 x2 x3 x4 x5 h r k * key x2 x3 h k d

/-- The keys' gradient. -/
def dkey (h : Fin 2) (k : Fin 256) (d : Fin 64) : EReal := ∑ r, dscore n x0 x1 x2 x3 x4 x5 h r k * x1 (ix2 (pos r) (col h r d))

/-- The values' gradient. -/
def dvalue (h : Fin 2) (k : Fin 256) (d : Fin 64) : EReal := ∑ r, prob n x0 x1 x2 x3 h r k * x5 (ix2 (pos r) (col h r d))

/-- A row's share of its sink's gradient, its sign not yet changed. -/
def sinkTerm (h : Fin 2) (r : Fin 1024) : EReal := rowSink (score n x1 x2 x3 h r) (x0 (ix1 (headOf h r))) * delta x4 x5 h r

/-- The sum over one query head's rows of the shares of its sink's gradient. -/
def sinkSum (h : Fin 2) (g : Fin 8) : EReal := ∑ q : Fin 128, sinkTerm n x0 x1 x2 x3 x4 x5 h ⟨g.val * 128 + q.val, by omega⟩

end block

end Cert.Attn

end
-- ==== Proof.AttnMask.lean ====
module

public import proofs.«01_k».proof.Proof.Gen.Kernel17Ideal.Skeleton
public import proofs.«01_k».proof.Proof.AttnSpec

@[expose] public section

noncomputable section

namespace Cert.Kernel17Ideal.Hand

open Idealize.ShloMosaic Idealize.SL.Sem Cert.Kernel17Ideal Cert.Kernel17Ideal.Gen Cert.Attn

section mask

theorem rem128 (r : Fin 1024) :
    Scalar.select
            (IntOp.andi
              (IntOp.xori
                (IntOp.cmpi CmpIPredicate.slt
                  (IntOp.remsi ArithUnit.vector (BitVec.ofNat 32 r.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 r.val)
                  (Scalar.select (Scalar.cmpi CmpIPredicate.eq 128#32 0#32) 1#32 128#32))
                0#32))
            (IntOp.addi
              (IntOp.remsi ArithUnit.vector (BitVec.ofNat 32 r.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 r.val)
              (Scalar.select (Scalar.cmpi CmpIPredicate.eq 128#32 0#32) 1#32 128#32)) = BitVec.ofNat 32 (pos r).val := by
  revert r
  decide +kernel

theorem window (q : Fin 128) (k : Fin 256) :
    IntOp.andi (IntOp.cmpi CmpIPredicate.sgt (BitVec.ofNat 32 k.val) (BitVec.ofNat 32 q.val))
        (IntOp.cmpi CmpIPredicate.sle (BitVec.ofNat 32 k.val) (IntOp.addi (BitVec.ofNat 32 q.val) 128#32))
      = BitVec.ofBool (decide (q.val < k.val ∧ k.val ≤ q.val + 128)) := by
  revert q k
  decide +kernel

theorem start (n : Fin 32) (k : Fin 256) :
    IntOp.ori (IntOp.cmpi CmpIPredicate.sge (BitVec.ofNat 32 k.val) 128#32) (Scalar.cmpi CmpIPredicate.sgt (BitVec.ofNat 32 n.val) 0#32)
      = BitVec.ofBool (decide (128 ≤ k.val ∨ 0 < n.val)) := by
  revert n k
  decide +kernel

/-- The mask. -/
theorem pay7_apply (i : grid0.Coords) (r : Fin 1024) (k : Fin 256) :
    k0_pay7 i (ix2 r k) = BitVec.ofBool (decide (valid (i 0).val (pos r) k)) := by
  pointwise [k0_pay7]
  rw [rem128, window, start (i 0)]
  unfold valid
  simp only [IntOp.andi, ← and_assoc, Bool.decide_and]
  generalize decide (128 ≤ k.val ∨ 0 < (i 0).val) = a
  generalize (decide ((pos r).val < k.val) && decide (k.val ≤ (pos r).val + 128)) = b
  revert a b; decide

theorem select_ofBool {α : Type} (p : Prop) [Decidable p] (a b : α) : Scalar.select (BitVec.ofBool (decide p)) a b = if p then a else b := by
  by_cases h : p <;> simp [h, Scalar.select]

/-- The mask's value is minus infinity. -/
theorem mask_eq : (Named.named κ "mask" (φ := .f32) 0xF149F2CA#32 : Ideal .f32) = (⊥ : EReal) := IdealRules.named_const.ideal_named_scalar _ _ _ _ rfl

theorem negInf : Ideal.ofBits .f32 0xFF800000#32 = ⊥ := by simp [Ideal.ofBits, Ideal.ieee]

end mask

end Cert.Kernel17Ideal.Hand

end
-- ==== Proof.AttnBlock.lean ====
module

public import proofs.«01_k».proof.Proof.AttnMask
public import proofs.«01_k».proof.Proof.Gen.Kernel17Ideal.Skeleton

@[expose] public section

noncomputable section

namespace Cert.Kernel17Ideal.Hand

open Idealize.ShloMosaic Idealize.SL.Sem Cert.Kernel17Ideal Cert.Kernel17Ideal.Gen Cert.Attn

/-- Eight blocks of 128 rows on top of one another. -/
theorem stack_eq {α : Type} (f : Fin 8 → Fin 128 → α) (b0 b1 b2 b3 b4 b5 b6 b7 : Fin 128 → α) (r : Fin 1024)
    (h0 : b0 = f 0) (h1 : b1 = f 1) (h2 : b2 = f 2) (h3 : b3 = f 3) (h4 : b4 = f 4) (h5 : b5 = f 5) (h6 : b6 = f 6) (h7 : b7 = f 7) :
    (if h : r.val < 128 then b0 ⟨r.val, h⟩
    else
      if h : r.val - 128 < 128 then b1 ⟨r.val - 128, h⟩
      else
        if h : r.val - 128 - 128 < 128 then b2 ⟨r.val - 128 - 128, h⟩
        else
          if h : r.val - 128 - 128 - 128 < 128 then b3 ⟨r.val - 128 - 128 - 128, h⟩
          else
            if h : r.val - 128 - 128 - 128 - 128 < 128 then b4 ⟨r.val - 128 - 128 - 128 - 128, h⟩
            else
              if h : r.val - 128 - 128 - 128 - 128 - 128 < 128 then b5 ⟨r.val - 128 - 128 - 128 - 128 - 128, h⟩
              else
                if h : r.val - 128 - 128 - 128 - 128 - 128 - 128 < 128 then b6 ⟨r.val - 128 - 128 - 128 - 128 - 128 - 128, h⟩
                else b7 ⟨r.val - 128 - 128 - 128 - 128 - 128 - 128 - 128, by omega⟩)
      = f ⟨r.val / 128, by omega⟩ (pos r) := by
  subst h0 h1 h2 h3 h4 h5 h6 h7
  unfold pos
  split_ifs <;> congr 1 <;> first | (apply Fin.ext; simp; omega) | (congr 1; apply Fin.ext; simp; omega) | skip

/-- `a` is the columns of head `h`, group `g` of `x`. -/
def IsCols (x : S128x1024.Idx → EReal) (h : Fin 2) (g : Fin 8) (a : S128x64.Idx → EReal) : Prop :=
  ∀ (q : Fin 128) (d : Fin 64), a (ix2 q d) = x (ix2 q ⟨h.val * 512 + g.val * 64 + d.val, by omega⟩)

theorem isCols_ld (x : Vec Ideal S128x1024 .bf16) (h : Fin 2) (g : Fin 8) (o : Nat) (ho : o = h.val * 512 + g.val * 64)
    (inb : ∀ a, (![0, o] : Fin 2 → Nat) a + (⟨2, ![128, 64]⟩ : Shape).size a ≤ S128x1024.size a) :
    IsCols x h g (View.ld x (Rect.unit ![0, o] (⟨2, ![128, 64]⟩ : Shape).size inb)) := by
  intro q d
  show x _ = x _
  congr 1
  funext a
  apply Fin.ext
  match a with
  | ⟨0, _⟩ => show 0 + 1 * q.val = q.val; omega
  | ⟨1, _⟩ => show o + 1 * d.val = h.val * 512 + g.val * 64 + d.val; omega

/-- The columns of the eight groups of a head on top of one another. -/
theorem stack (x : S128x1024.Idx → EReal) (h : Fin 2) (a0 a1 a2 a3 a4 a5 a6 a7 : FVec Ideal S128x64 .bf16) (h0 : IsCols x h 0 a0)
    (h1 : IsCols x h 1 a1) (h2 : IsCols x h 2 a2) (h3 : IsCols x h 3 a3) (h4 : IsCols x h 4 a4) (h5 : IsCols x h 5 a5) (h6 : IsCols x h 6 a6)
    (h7 : IsCols x h 7 a7) (r : Fin 1024) (d : Fin 64) :
    concatenate S1024x64 0 [⟨S128x64, a0⟩, ⟨S128x64, a1⟩, ⟨S128x64, a2⟩, ⟨S128x64, a3⟩, ⟨S128x64, a4⟩, ⟨S128x64, a5⟩, ⟨S128x64, a6⟩, ⟨S128x64, a7⟩]
        concatenates_S128x64_S128x64_S128x64_S128x64_S128x64_S128x64_S128x64_S128x64_S1024x64_d0 (ix2 r d)
      = x (ix2 (pos r) (col h r d)) := by
  refine Eq.trans ?_ (stack_eq (fun g q => x (ix2 q ⟨h.val * 512 + g.val * 64 + d.val, by omega⟩)) (fun q => a0 (ix2 q d)) (fun q => a1 (ix2 q d))
    (fun q => a2 (ix2 q d)) (fun q => a3 (ix2 q d)) (fun q => a4 (ix2 q d)) (fun q => a5 (ix2 q d)) (fun q => a6 (ix2 q d)) (fun q => a7 (ix2 q d)) r
    (funext fun q => h0 q d) (funext fun q => h1 q d) (funext fun q => h2 q d) (funext fun q => h3 q d) (funext fun q => h4 q d)
    (funext fun q => h5 q d) (funext fun q => h6 q d) (funext fun q => h7 q d))
  pointwise

/-- `v` is the stacked columns of head `h` of `x`. -/
def IsStack (x : S128x1024.Idx → EReal) (h : Fin 2) (v : S1024x64.Idx → EReal) : Prop :=
  ∀ (r : Fin 1024) (d : Fin 64), v (ix2 r d) = x (ix2 (pos r) (col h r d))

section columns

variable {x : S128x1024.Idx → EReal} {a0 a1 a2 a3 a4 a5 a6 a7 : FVec Ideal S128x64 .bf16}

theorem stack11 (h0 : IsCols x 0 0 a0) (h1 : IsCols x 0 1 a1) (h2 : IsCols x 0 2 a2) (h3 : IsCols x 0 3 a3) (h4 : IsCols x 0 4 a4)
    (h5 : IsCols x 0 5 a5) (h6 : IsCols x 0 6 a6) (h7 : IsCols x 0 7 a7) : IsStack x 0 (k0_pay11 (F := Ideal) a0 a1 a2 a3 a4 a5 a6 a7) :=
  stack x 0 _ _ _ _ _ _ _ _ h0 h1 h2 h3 h4 h5 h6 h7

theorem stack12 (h0 : IsCols x 0 0 a0) (h1 : IsCols x 0 1 a1) (h2 : IsCols x 0 2 a2) (h3 : IsCols x 0 3 a3) (h4 : IsCols x 0 4 a4)
    (h5 : IsCols x 0 5 a5) (h6 : IsCols x 0 6 a6) (h7 : IsCols x 0 7 a7) : IsStack x 0 (k0_pay12 (F := Ideal) a0 a1 a2 a3 a4 a5 a6 a7) :=
  stack x 0 _ _ _ _ _ _ _ _ h0 h1 h2 h3 h4 h5 h6 h7

theorem stack59 (h0 : IsCols x 1 0 a0) (h1 : IsCols x 1 1 a1) (h2 : IsCols x 1 2 a2) (h3 : IsCols x 1 3 a3) (h4 : IsCols x 1 4 a4)
    (h5 : IsCols x 1 5 a5) (h6 : IsCols x 1 6 a6) (h7 : IsCols x 1 7 a7) : IsStack x 1 (k0_pay59 (F := Ideal) a0 a1 a2 a3 a4 a5 a6 a7) :=
  stack x 1 _ _ _ _ _ _ _ _ h0 h1 h2 h3 h4 h5 h6 h7

theorem stack60 (h0 : IsCols x 1 0 a0) (h1 : IsCols x 1 1 a1) (h2 : IsCols x 1 2 a2) (h3 : IsCols x 1 3 a3) (h4 : IsCols x 1 4 a4)
    (h5 : IsCols x 1 5 a5) (h6 : IsCols x 1 6 a6) (h7 : IsCols x 1 7 a7) : IsStack x 1 (k0_pay60 (F := Ideal) a0 a1 a2 a3 a4 a5 a6 a7) :=
  stack x 1 _ _ _ _ _ _ _ _ h0 h1 h2 h3 h4 h5 h6 h7

end columns

variable (x0 : Vec Ideal S16 .f32) (x1 : Vec Ideal S128x1024 .bf16) (x2 x3 : Vec Ideal S128x256 .bf16) (x4 x5 : Vec Ideal S128x1024 .bf16)

/-- `v` is the keys of head `h`. -/
def IsKey (h : Fin 2) (v : S256x64.Idx → EReal) : Prop := ∀ (k : Fin 256) (d : Fin 64), v (ix2 k d) = key x2 x3 h k d

/-- `v` is the values of head `h`. -/
def IsValue (h : Fin 2) (v : S256x64.Idx → EReal) : Prop := ∀ (k : Fin 256) (d : Fin 64), v (ix2 k d) = value x2 x3 h k d

/-- `v` is the stacked sinks of head `h`. -/
def IsSink (h : Fin 2) (v : S1024x1.Idx → EReal) : Prop := ∀ (r : Fin 1024) (z : Fin 1), v (ix2 r z) = x0 (ix1 (headOf h r))

theorem ld_whole (x : Vec Ideal S128x256 .bf16) (inb : ∀ a, (![0, 0] : Fin 2 → Nat) a + (⟨2, ![128, 256]⟩ : Shape).size a ≤ S128x256.size a) :
    View.ld x (Rect.unit ![0, 0] (⟨2, ![128, 256]⟩ : Shape).size inb) = x := by
  funext y
  show x _ = x _
  congr 1
  funext a
  apply Fin.ext
  match a with
  | ⟨0, _⟩ => show 0 + 1 * (y 0).val = (y 0).val; omega
  | ⟨1, _⟩ => show 0 + 1 * (y 1).val = (y 1).val; omega

theorem key0 (inb : ∀ a, (![0, 0] : Fin 2 → Nat) a + (⟨2, ![128, 256]⟩ : Shape).size a ≤ S128x256.size a) :
    IsKey x2 x3 0 (k0_pay9 (F := Ideal) (View.ld x2 (Rect.unit ![0, 0] (⟨2, ![128, 256]⟩ : Shape).size inb)) (View.ld x3 (Rect.unit ![0, 0] (⟨2, ![128, 256]⟩ : Shape).size inb))) := by
  rw [ld_whole, ld_whole]
  intro k d
  unfold key band
  pointwise [k0_pay9]

theorem value0 (inb : ∀ a, (![0, 0] : Fin 2 → Nat) a + (⟨2, ![128, 256]⟩ : Shape).size a ≤ S128x256.size a) :
    IsValue x2 x3 0 (k0_pay10 (F := Ideal) (View.ld x2 (Rect.unit ![0, 0] (⟨2, ![128, 256]⟩ : Shape).size inb)) (View.ld x3 (Rect.unit ![0, 0] (⟨2, ![128, 256]⟩ : Shape).size inb))) := by
  rw [ld_whole, ld_whole]
  intro k d
  unfold value band
  pointwise [k0_pay10]

theorem key1 (inb : ∀ a, (![0, 0] : Fin 2 → Nat) a + (⟨2, ![128, 256]⟩ : Shape).size a ≤ S128x256.size a) :
    IsKey x2 x3 1 (k0_pay57 (F := Ideal) (View.ld x2 (Rect.unit ![0, 0] (⟨2, ![128, 256]⟩ : Shape).size inb)) (View.ld x3 (Rect.unit ![0, 0] (⟨2, ![128, 256]⟩ : Shape).size inb))) := by
  rw [ld_whole, ld_whole]
  intro k d
  unfold key band
  pointwise [k0_pay57]

theorem value1 (inb : ∀ a, (![0, 0] : Fin 2 → Nat) a + (⟨2, ![128, 256]⟩ : Shape).size a ≤ S128x256.size a) :
    IsValue x2 x3 1 (k0_pay58 (F := Ideal) (View.ld x2 (Rect.unit ![0, 0] (⟨2, ![128, 256]⟩ : Shape).size inb)) (View.ld x3 (Rect.unit ![0, 0] (⟨2, ![128, 256]⟩ : Shape).size inb))) := by
  rw [ld_whole, ld_whole]
  intro k d
  unfold value band
  pointwise [k0_pay58]

section sinks

/-- `w` is the sink of query head `g` of head `h`. -/
def IsWord (h : Fin 2) (g : Fin 8) (w : EReal) : Prop := w = x0 (ix1 ⟨h.val * 8 + g.val, by omega⟩)

theorem isWord_ld (h : Fin 2) (g : Fin 8) (j : Nat) (hj : j = h.val * 8 + g.val) (inb : ∀ a, (![j] : Fin 1 → Nat) a + (⟨1, ![1]⟩ : Shape).size a ≤ S16.size a)
    (p : (Rect.unit (s := S16) ![j] (⟨1, ![1]⟩ : Shape).size inb).shape.Idx) : IsWord x0 h g (View.ld x0 (Rect.unit ![j] (⟨1, ![1]⟩ : Shape).size inb) p) := by
  show x0 _ = x0 _
  congr 1
  funext a
  apply Fin.ext
  match a with
  | ⟨0, _⟩ =>
    have h0 : (p 0).val = 0 := Nat.lt_one_iff.mp (p 0).isLt
    show j + 1 * (p 0).val = h.val * 8 + g.val
    omega

variable {w0 w1 w2 w3 w4 w5 w6 w7 : EReal}

theorem sinks0 (h0 : IsWord x0 0 0 w0) (h1 : IsWord x0 0 1 w1) (h2 : IsWord x0 0 2 w2) (h3 : IsWord x0 0 3 w3) (h4 : IsWord x0 0 4 w4)
    (h5 : IsWord x0 0 5 w5) (h6 : IsWord x0 0 6 w6) (h7 : IsWord x0 0 7 w7) :
    IsSink x0 0 (k0_pay18 (F := Ideal) (k0_pay13 w0) (k0_pay14 w1) (k0_pay15 w2) (k0_pay16 w3) (k0_pay17 w4) w5 w6 w7) := by
  intro r z
  refine Eq.trans ?_ (stack_eq (fun g _ => x0 (ix1 ⟨(0 : Fin 2).val * 8 + g.val, by omega⟩)) (fun _ => w0) (fun _ => w1)
    (fun _ => w2) (fun _ => w3) (fun _ => w4) (fun _ => w5) (fun _ => w6) (fun _ => w7) r
    (funext fun _ => h0) (funext fun _ => h1) (funext fun _ => h2) (funext fun _ => h3) (funext fun _ => h4) (funext fun _ => h5) (funext fun _ => h6) (funext fun _ => h7))
  pointwise [k0_pay18, k0_pay13, k0_pay14, k0_pay15, k0_pay16, k0_pay17]

theorem sinks1 (h0 : IsWord x0 1 0 w0) (h1 : IsWord x0 1 1 w1) (h2 : IsWord x0 1 2 w2) (h3 : IsWord x0 1 3 w3) (h4 : IsWord x0 1 4 w4)
    (h5 : IsWord x0 1 5 w5) (h6 : IsWord x0 1 6 w6) (h7 : IsWord x0 1 7 w7) :
    IsSink x0 1 (k0_pay61 (F := Ideal) w0 w1 w2 w3 w4 w5 w6 w7) := by
  intro r z
  refine Eq.trans ?_ (stack_eq (fun g _ => x0 (ix1 ⟨(1 : Fin 2).val * 8 + g.val, by omega⟩)) (fun _ => w0) (fun _ => w1)
    (fun _ => w2) (fun _ => w3) (fun _ => w4) (fun _ => w5) (fun _ => w6) (fun _ => w7) r
    (funext fun _ => h0) (funext fun _ => h1) (funext fun _ => h2) (funext fun _ => h3) (funext fun _ => h4) (funext fun _ => h5) (funext fun _ => h6) (funext fun _ => h7))
  pointwise [k0_pay61]

end sinks

end Cert.Kernel17Ideal.Hand

end
-- ==== Proof.AttnHeads.lean ====
module

public import proofs.«01_k».proof.Proof.AttnBlock

@[expose] public section

noncomputable section

namespace Cert.Kernel17Ideal.Hand

open Idealize.ShloMosaic Idealize.SL.Sem Cert.Kernel17Ideal Cert.Kernel17Ideal.Gen Cert.Attn

/-! What the body computes of each of its two key heads. -/

variable (i : grid0.Coords) (x0 : Vec Ideal S16 .f32) (x1 : Vec Ideal S128x1024 .bf16) (x2 x3 : Vec Ideal S128x256 .bf16) (x4 x5 : Vec Ideal S128x1024 .bf16)

/-- `v` is the probabilities of head `h`. -/
def IsProb (h : Fin 2) (v : S1024x256.Idx → EReal) : Prop :=
  ∀ (r : Fin 1024) (k : Fin 256), v (ix2 r k) = prob (i 0).val x0 x1 x2 x3 h r k

/-- `v` is the sinks' probabilities of head `h`. -/
def IsSinkProb (h : Fin 2) (v : S1024x1.Idx → EReal) : Prop :=
  ∀ (r : Fin 1024) (z : Fin 1), v (ix2 r z) = rowSink (score (i 0).val x1 x2 x3 h r) (x0 (ix1 (headOf h r)))

/-- `v` is the products of the output and its cotangent of head `h`. -/
def IsDelta (h : Fin 2) (v : S1024x1.Idx → EReal) : Prop := ∀ (r : Fin 1024) (z : Fin 1), v (ix2 r z) = delta x4 x5 h r

/-- `v` is the scores' gradient of head `h`. -/
def IsDscore (h : Fin 2) (v : S1024x256.Idx → EReal) : Prop :=
  ∀ (r : Fin 1024) (k : Fin 256), v (ix2 r k) = dscore (i 0).val x0 x1 x2 x3 x4 x5 h r k

section head0

variable {v35 v38 : FVec Ideal S256x64 .bf16} {v47 v56 : FVec Ideal S1024x64 .bf16} {v93 : FVec Ideal S1024x64 .f32} {v91 : FVec Ideal S1024x256 .f32}
  {v92 : FVec Ideal S1024x1 .f32} {v58 v60 v62 v64 v66 : FVec Ideal S128x1 .f32} {v67 v69 v71 : EReal}
  {v95 v97 v99 v101 v103 v105 v106 v108 : FVec Ideal S128x64 .bf16}

theorem score0 (hq : IsStack x1 0 v47) (hk : IsKey x2 x3 0 v35) (r : Fin 1024) (k : Fin 256) :
    k0_pay19 (F := Ideal) (k0_pay7 i) v35 v47 (ix2 r k) = score (i 0).val x1 x2 x3 0 r k := by
  pointwise [k0_pay19]
  rw [pay7_apply, select_ofBool, mask_eq]
  simp only [hq r, hk k]
  rfl

theorem top0 (hq : IsStack x1 0 v47) (hk : IsKey x2 x3 0 v35)
    (hs : IsSink x0 0 (k0_pay18 (F := Ideal) v58 v60 v62 v64 v66 v67 v69 v71)) (r : Fin 1024) (z : Fin 1) :
    k0_pay20 (F := Ideal) (k0_pay7 i) v35 v47 v58 v60 v62 v64 v66 v67 v69 v71 (ix2 r z)
      = rowTop (score (i 0).val x1 x2 x3 0 r) (x0 (ix1 (headOf 0 r))) := by
  pointwise [k0_pay20]
  simp only [score0 i x1 x2 x3 hq hk, hs r, negInf]
  rfl

theorem exp0 (hq : IsStack x1 0 v47) (hk : IsKey x2 x3 0 v35)
    (hs : IsSink x0 0 (k0_pay18 (F := Ideal) v58 v60 v62 v64 v66 v67 v69 v71)) (r : Fin 1024) (k : Fin 256) :
    k0_pay21 (F := Ideal) (k0_pay7 i) v35 v47 v58 v60 v62 v64 v66 v67 v69 v71 (ix2 r k)
      = Ideal.exp (score (i 0).val x1 x2 x3 0 r k - rowTop (score (i 0).val x1 x2 x3 0 r) (x0 (ix1 (headOf 0 r)))) := by
  pointwise [k0_pay21]
  rw [score0 i x1 x2 x3 hq hk, top0 i x0 x1 x2 x3 hq hk hs]

theorem expSink0 (hq : IsStack x1 0 v47) (hk : IsKey x2 x3 0 v35)
    (hs : IsSink x0 0 (k0_pay18 (F := Ideal) v58 v60 v62 v64 v66 v67 v69 v71)) (r : Fin 1024) (z : Fin 1) :
    k0_pay22 (F := Ideal) (k0_pay7 i) v35 v47 v58 v60 v62 v64 v66 v67 v69 v71 (ix2 r z)
      = Ideal.exp (x0 (ix1 (headOf 0 r)) - rowTop (score (i 0).val x1 x2 x3 0 r) (x0 (ix1 (headOf 0 r)))) := by
  pointwise [k0_pay22]
  rw [hs r, top0 i x0 x1 x2 x3 hq hk hs]

theorem den0 (hq : IsStack x1 0 v47) (hk : IsKey x2 x3 0 v35)
    (hs : IsSink x0 0 (k0_pay18 (F := Ideal) v58 v60 v62 v64 v66 v67 v69 v71)) (r : Fin 1024) (z : Fin 1) :
    k0_pay23 (F := Ideal) (k0_pay7 i) v35 v47 v58 v60 v62 v64 v66 v67 v69 v71 (ix2 r z)
      = rowDen (score (i 0).val x1 x2 x3 0 r) (x0 (ix1 (headOf 0 r))) := by
  pointwise [k0_pay23]
  simp only [exp0 i x0 x1 x2 x3 hq hk hs, expSink0 i x0 x1 x2 x3 hq hk hs]
  rfl

theorem prob0 (hq : IsStack x1 0 v47) (hk : IsKey x2 x3 0 v35)
    (hs : IsSink x0 0 (k0_pay18 (F := Ideal) v58 v60 v62 v64 v66 v67 v69 v71)) :
    IsProb i x0 x1 x2 x3 0 (k0_pay24 (F := Ideal) (k0_pay7 i) v35 v47 v58 v60 v62 v64 v66 v67 v69 v71) := by
  intro r k
  pointwise [k0_pay24]
  rw [exp0 i x0 x1 x2 x3 hq hk hs, den0 i x0 x1 x2 x3 hq hk hs]
  rfl

theorem sinkProb0 (hq : IsStack x1 0 v47) (hk : IsKey x2 x3 0 v35)
    (hs : IsSink x0 0 (k0_pay18 (F := Ideal) v58 v60 v62 v64 v66 v67 v69 v71)) :
    IsSinkProb i x0 x1 x2 x3 0 (k0_pay25 (F := Ideal) (k0_pay7 i) v35 v47 v58 v60 v62 v64 v66 v67 v69 v71) := by
  intro r z
  pointwise [k0_pay25]
  rw [expSink0 i x0 x1 x2 x3 hq hk hs, den0 i x0 x1 x2 x3 hq hk hs]
  rfl

theorem wide0 (hd : IsStack x5 0 v56) : IsStack x5 0 (k0_pay26 (F := Ideal) v56) := by
  intro r d
  pointwise [k0_pay26]
  exact hd r d

theorem delta0 (hd : IsStack x5 0 v93) (h0 : IsCols x4 0 0 v95) (h1 : IsCols x4 0 1 v97) (h2 : IsCols x4 0 2 v99) (h3 : IsCols x4 0 3 v101)
    (h4 : IsCols x4 0 4 v103) (h5 : IsCols x4 0 5 v105) (h6 : IsCols x4 0 6 v106) (h7 : IsCols x4 0 7 v108) :
    IsDelta x4 x5 0 (k0_pay33 (F := Ideal) v93 (k0_pay27 v95) (k0_pay28 v97) (k0_pay29 v99) (k0_pay30 v101) (k0_pay31 v103) (k0_pay32 v105) v106 v108) := by
  intro r z
  have e := stack x4 0 _ _ _ _ _ _ _ _ h0 h1 h2 h3 h4 h5 h6 h7 r
  unfold k0_pay33 k0_pay27 k0_pay28 k0_pay29 k0_pay30 k0_pay31 k0_pay32
  simp only [shapeCast_self]
  pointwise
  simp only [hd r]
  refine Finset.sum_congr rfl fun d _ => congrArg (_ * ·) ?_
  rw [← e d]
  pointwise

theorem dscore0 (hp : IsProb i x0 x1 x2 x3 0 v91) (hd : IsStack x5 0 v56) (hv : IsValue x2 x3 0 v38)
    (hδ : IsDelta x4 x5 0 (k0_pay33 (F := Ideal) v93 v95 v97 v99 v101 v103 v105 v106 v108)) :
    IsDscore i x0 x1 x2 x3 x4 x5 0 (k0_pay34 (F := Ideal) v38 v56 v91 v93 v95 v97 v99 v101 v103 v105 v106 v108) := by
  intro r k
  pointwise [k0_pay34]
  simp only [hp r, hd r, hv k, hδ r]
  rfl

theorem dquery0 (hs : IsDscore i x0 x1 x2 x3 x4 x5 0 (k0_pay34 (F := Ideal) v38 v56 v91 v93 v95 v97 v99 v101 v103 v105 v106 v108))
    (hk : IsKey x2 x3 0 v35) (r : Fin 1024) (d : Fin 64) :
    k0_pay35 (F := Ideal) v35 v38 v56 v91 v93 v95 v97 v99 v101 v103 v105 v106 v108 (ix2 r d) = dquery (i 0).val x0 x1 x2 x3 x4 x5 0 r d := by
  pointwise [k0_pay35]
  simp only [hs r, hk _ d]
  rfl

theorem dkey0 (hs : IsDscore i x0 x1 x2 x3 x4 x5 0 (k0_pay34 (F := Ideal) v38 v56 v91 v93 v95 v97 v99 v101 v103 v105 v106 v108))
    (hq : IsStack x1 0 v47) (k : Fin 256) (d : Fin 64) :
    k0_pay36 (F := Ideal) v38 v47 v56 v91 v93 v95 v97 v99 v101 v103 v105 v106 v108 (ix2 k d) = dkey (i 0).val x0 x1 x2 x3 x4 x5 0 k d := by
  pointwise [k0_pay36]
  simp only [hs _ k, hq _ d]
  rfl

theorem dvalue0 (hp : IsProb i x0 x1 x2 x3 0 v91) (hd : IsStack x5 0 v56) (k : Fin 256) (d : Fin 64) :
    k0_pay37 (F := Ideal) v56 v91 (ix2 k d) = dvalue (i 0).val x0 x1 x2 x3 x5 0 k d := by
  pointwise [k0_pay37]
  simp only [hp _ k, hd _ d]
  rfl

theorem sinkTerm0 (hp : IsSinkProb i x0 x1 x2 x3 0 v92)
    (hδ : IsDelta x4 x5 0 (k0_pay33 (F := Ideal) v93 v95 v97 v99 v101 v103 v105 v106 v108)) (r : Fin 1024) (z : Fin 1) :
    k0_pay38 (F := Ideal) v92 v93 v95 v97 v99 v101 v103 v105 v106 v108 (ix2 r z) = sinkTerm (i 0).val x0 x1 x2 x3 x4 x5 0 r := by
  pointwise [k0_pay38]
  rw [hp r, hδ r]
  rfl

end head0

section head1

variable {v250 v253 : FVec Ideal S256x64 .bf16} {v262 v271 : FVec Ideal S1024x64 .bf16} {v327 : FVec Ideal S1024x64 .f32} {v306 : FVec Ideal S1024x256 .f32}
  {v307 v288 : FVec Ideal S1024x1 .f32} {v309 v311 v313 v315 v317 v319 v321 v323 : FVec Ideal S128x64 .bf16}

theorem score1 (hq : IsStack x1 1 v262) (hk : IsKey x2 x3 1 v250) (r : Fin 1024) (k : Fin 256) :
    k0_pay62 (F := Ideal) (k0_pay7 i) v250 v262 (constant S1024x256 .f32 0#32) (ix2 r k) = score (i 0).val x1 x2 x3 1 r k := by
  pointwise [k0_pay62]
  rw [pay7_apply, select_ofBool, mask_eq]
  simp only [hq r, hk k]
  rfl

theorem top1 (hq : IsStack x1 1 v262) (hk : IsKey x2 x3 1 v250) (hs : IsSink x0 1 v288) (r : Fin 1024) (z : Fin 1) :
    k0_pay63 (F := Ideal) (k0_pay7 i) v250 v262 v288 (constant S1024x256 .f32 0#32) (ix2 r z)
      = rowTop (score (i 0).val x1 x2 x3 1 r) (x0 (ix1 (headOf 1 r))) := by
  pointwise [k0_pay63]
  simp only [score1 i x1 x2 x3 hq hk, hs r, negInf]
  rfl

theorem exp1 (hq : IsStack x1 1 v262) (hk : IsKey x2 x3 1 v250) (hs : IsSink x0 1 v288) (r : Fin 1024) (k : Fin 256) :
    k0_pay64 (F := Ideal) (k0_pay7 i) v250 v262 v288 (constant S1024x256 .f32 0#32) (ix2 r k)
      = Ideal.exp (score (i 0).val x1 x2 x3 1 r k - rowTop (score (i 0).val x1 x2 x3 1 r) (x0 (ix1 (headOf 1 r)))) := by
  pointwise [k0_pay64]
  rw [score1 i x1 x2 x3 hq hk, top1 i x0 x1 x2 x3 hq hk hs]

theorem expSink1 (hq : IsStack x1 1 v262) (hk : IsKey x2 x3 1 v250) (hs : IsSink x0 1 v288) (r : Fin 1024) (z : Fin 1) :
    k0_pay65 (F := Ideal) (k0_pay7 i) v250 v262 v288 (constant S1024x256 .f32 0#32) (ix2 r z)
      = Ideal.exp (x0 (ix1 (headOf 1 r)) - rowTop (score (i 0).val x1 x2 x3 1 r) (x0 (ix1 (headOf 1 r)))) := by
  pointwise [k0_pay65]
  rw [hs r, top1 i x0 x1 x2 x3 hq hk hs]

theorem den1 (hq : IsStack x1 1 v262) (hk : IsKey x2 x3 1 v250) (hs : IsSink x0 1 v288) (r : Fin 1024) (z : Fin 1) :
    k0_pay66 (F := Ideal) (k0_pay7 i) v250 v262 v288 (constant S1024x256 .f32 0#32) (ix2 r z)
      = rowDen (score (i 0).val x1 x2 x3 1 r) (x0 (ix1 (headOf 1 r))) := by
  pointwise [k0_pay66]
  simp only [exp1 i x0 x1 x2 x3 hq hk hs, expSink1 i x0 x1 x2 x3 hq hk hs]
  rfl

theorem prob1 (hq : IsStack x1 1 v262) (hk : IsKey x2 x3 1 v250) (hs : IsSink x0 1 v288) :
    IsProb i x0 x1 x2 x3 1 (k0_pay67 (F := Ideal) (k0_pay7 i) v250 v262 v288 (constant S1024x256 .f32 0#32)) := by
  intro r k
  pointwise [k0_pay67]
  rw [exp1 i x0 x1 x2 x3 hq hk hs, den1 i x0 x1 x2 x3 hq hk hs]
  rfl

theorem sinkProb1 (hq : IsStack x1 1 v262) (hk : IsKey x2 x3 1 v250) (hs : IsSink x0 1 v288) :
    IsSinkProb i x0 x1 x2 x3 1 (k0_pay68 (F := Ideal) (k0_pay7 i) v250 v262 v288 (constant S1024x256 .f32 0#32)) := by
  intro r z
  pointwise [k0_pay68]
  rw [expSink1 i x0 x1 x2 x3 hq hk hs, den1 i x0 x1 x2 x3 hq hk hs]
  rfl

theorem delta1 (hd : IsStack x5 1 v271) (h0 : IsCols x4 1 0 v309) (h1 : IsCols x4 1 1 v311) (h2 : IsCols x4 1 2 v313) (h3 : IsCols x4 1 3 v315)
    (h4 : IsCols x4 1 4 v317) (h5 : IsCols x4 1 5 v319) (h6 : IsCols x4 1 6 v321) (h7 : IsCols x4 1 7 v323) :
    IsDelta x4 x5 1 (k0_pay70 (F := Ideal) (k0_pay69 v271 v309 v311 v313 v315 v317 v319 v321 v323)) := by
  intro r z
  have e := stack x4 1 _ _ _ _ _ _ _ _ h0 h1 h2 h3 h4 h5 h6 h7 r
  unfold k0_pay70 k0_pay69
  simp only [shapeCast_self]
  pointwise
  simp only [hd r]
  refine Finset.sum_congr rfl fun d _ => congrArg (_ * ·) ?_
  rw [← e d]
  pointwise

theorem dscore1 (hp : IsProb i x0 x1 x2 x3 1 v306) (hd : IsStack x5 1 v271) (hv : IsValue x2 x3 1 v253)
    (hδ : IsDelta x4 x5 1 (k0_pay70 (F := Ideal) v327)) :
    IsDscore i x0 x1 x2 x3 x4 x5 1 (k0_pay71 (F := Ideal) v253 v271 v306 v327) := by
  intro r k
  pointwise [k0_pay71]
  simp only [hp r, hd r, hv k, hδ r]
  rfl

theorem dquery1 (hs : IsDscore i x0 x1 x2 x3 x4 x5 1 (k0_pay71 (F := Ideal) v253 v271 v306 v327)) (hk : IsKey x2 x3 1 v250) (r : Fin 1024) (d : Fin 64) :
    k0_pay72 (F := Ideal) v250 v253 v271 v306 v327 (ix2 r d) = dquery (i 0).val x0 x1 x2 x3 x4 x5 1 r d := by
  pointwise [k0_pay72]
  simp only [hs r, hk _ d]
  rfl

theorem dkey1 (hs : IsDscore i x0 x1 x2 x3 x4 x5 1 (k0_pay71 (F := Ideal) v253 v271 v306 v327)) (hq : IsStack x1 1 v262) (k : Fin 256) (d : Fin 64) :
    k0_pay73 (F := Ideal) v253 v262 v271 v306 v327 (ix2 k d) = dkey (i 0).val x0 x1 x2 x3 x4 x5 1 k d := by
  pointwise [k0_pay73]
  simp only [hs _ k, hq _ d]
  rfl

theorem dvalue1 (hp : IsProb i x0 x1 x2 x3 1 v306) (hd : IsStack x5 1 v271) (k : Fin 256) (d : Fin 64) :
    k0_pay74 (F := Ideal) v271 v306 (ix2 k d) = dvalue (i 0).val x0 x1 x2 x3 x5 1 k d := by
  pointwise [k0_pay74]
  simp only [hp _ k, hd _ d]
  rfl

theorem sinkTerm1 (hp : IsSinkProb i x0 x1 x2 x3 1 v307) (hδ : IsDelta x4 x5 1 (k0_pay70 (F := Ideal) v327)) (r : Fin 1024) (z : Fin 1) :
    k0_pay75 (F := Ideal) v307 v327 (ix2 r z) = sinkTerm (i 0).val x0 x1 x2 x3 x4 x5 1 r := by
  pointwise [k0_pay75]
  rw [hp r, hδ r]
  rfl

end head1

end Cert.Kernel17Ideal.Hand

end
-- ==== Proof.AttnOut.lean ====
module

public import proofs.«01_k».proof.Proof.AttnHeads
public import proofs.«01_k».proof.Proof.Gen.Kernel17Ideal.Frame
public import Idealize.ShloMosaic.Lib.Pipeline.ReadBack

@[expose] public section

noncomputable section

namespace Cert.Kernel17Ideal.Hand

open Idealize.ShloMosaic Idealize.SL.Sem Cert.Kernel17Ideal Cert.Kernel17Ideal.Gen Cert.Attn

/-! What the body leaves in the queries', keys' and values' gradients. -/

theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- Rows `o`, `o + 1`, … of a stack. -/
theorem slice_rows {α : Type} {M : Nat} (v : (⟨2, ![M, 64]⟩ : Shape).Idx → α) (o : Nat) (h : (⟨2, ![M, 64]⟩ : Shape).Slices ![o, 0] S128x64)
    (q : Fin 128) (d : Fin 64) (hq : o + q.val < M) : extractStridedSlice S128x64 ![o, 0] v h (ix2 q d) = v (ix2 ⟨o + q.val, hq⟩ d) := by
  show v _ = v _
  congr 1
  funext a
  apply Fin.ext
  match a with
  | ⟨0, _⟩ => rfl
  | ⟨1, _⟩ => exact Nat.zero_add _

section blocks

variable (n : Nat) (x0 : (⟨1, ![16]⟩ : Shape).Idx → EReal) (x1 : (⟨2, ![128, 1024]⟩ : Shape).Idx → EReal)
  (x2 x3 : (⟨2, ![128, 256]⟩ : Shape).Idx → EReal) (x4 x5 : (⟨2, ![128, 1024]⟩ : Shape).Idx → EReal)

/-- The queries' gradient at a position and a column. -/
def dqueryAt (q : Fin 128) (j : Fin 1024) : EReal :=
  dquery n x0 x1 x2 x3 x4 x5 ⟨j.val / 512, by omega⟩ ⟨j.val % 512 / 64 * 128 + q.val, by omega⟩ ⟨j.val % 64, by omega⟩

/-- The gradient of the keys and values of the two blocks, key head by key head: the keys', then the values'. -/
def dbandAt (k : Fin 256) (j : Fin 256) : EReal :=
  if j.val < 128 then dkey n x0 x1 x2 x3 x4 x5 ⟨j.val % 128 / 64, by omega⟩ k ⟨j.val % 64, by omega⟩
  else dvalue n x0 x1 x2 x3 x5 ⟨j.val % 128 / 64, by omega⟩ k ⟨j.val % 64, by omega⟩

end blocks

theorem dqueryAt_emb (n : Nat) (x0 : Vec Ideal S16 .f32) (x1 : Vec Ideal S128x1024 .bf16) (x2 x3 : Vec Ideal S128x256 .bf16) (x4 x5 : Vec Ideal S128x1024 .bf16)
    (h : Fin 2) (o m : Nat) (hh : o / 512 = h.val) (ho : o % 64 = 0) (hm : m = o % 512 / 64 * 128)
    (inb : ∀ a, (![0, o] : Fin 2 → Nat) a + (⟨2, ![128, 64]⟩ : Shape).size a ≤ S128x1024.size a) (q : Fin 128) (d : Fin 64) (hq : m + q.val < 1024) :
    dquery n x0 x1 x2 x3 x4 x5 h ⟨m + q.val, hq⟩ d
      = dqueryAt n x0 x1 x2 x3 x4 x5 ((Rect.unit (s := S128x1024) ![0, o] (⟨2, ![128, 64]⟩ : Shape).size inb).emb (ix2 q d) 0)
          ((Rect.unit (s := S128x1024) ![0, o] (⟨2, ![128, 64]⟩ : Shape).size inb).emb (ix2 q d) 1) := by
  have e0 : (Rect.unit (s := S128x1024) ![0, o] (⟨2, ![128, 64]⟩ : Shape).size inb).emb (ix2 q d) 0 = q :=
    Fin.ext (show 0 + 1 * q.val = q.val by omega)
  have e1 : (Rect.unit (s := S128x1024) ![0, o] (⟨2, ![128, 64]⟩ : Shape).size inb).emb (ix2 q d) 1 = (⟨o + d.val, by omega⟩ : Fin 1024) :=
    Fin.ext (show o + 1 * d.val = o + d.val by omega)
  rw [e0, e1]
  unfold dqueryAt
  congr 1 <;> apply Fin.ext <;> dsimp only <;> omega

theorem dkey_emb (n : Nat) (x0 : Vec Ideal S16 .f32) (x1 : Vec Ideal S128x1024 .bf16) (x2 x3 : Vec Ideal S128x256 .bf16) (x4 x5 : Vec Ideal S128x1024 .bf16)
    (h : Fin 2) (o m : Nat) (ho : o = h.val * 64) (hm : m = 0 ∨ m = 128)
    (inb : ∀ a, (![0, o] : Fin 2 → Nat) a + (⟨2, ![128, 64]⟩ : Shape).size a ≤ S128x256.size a) (q : Fin 128) (d : Fin 64) (hq : m + q.val < 256) :
    dkey n x0 x1 x2 x3 x4 x5 h ⟨m + q.val, hq⟩ d
      = (fun y : S128x256.Idx => dbandAt n x0 x1 x2 x3 x4 x5 ⟨m + (y 0).val, by have : (y 0).val < 128 := (y 0).isLt; omega⟩ (y 1))
          ((Rect.unit (s := S128x256) ![0, o] (⟨2, ![128, 64]⟩ : Shape).size inb).emb (ix2 q d)) := by
  have e0 : (Rect.unit (s := S128x256) ![0, o] (⟨2, ![128, 64]⟩ : Shape).size inb).emb (ix2 q d) 0 = q :=
    Fin.ext (show 0 + 1 * q.val = q.val by omega)
  have e1 : (Rect.unit (s := S128x256) ![0, o] (⟨2, ![128, 64]⟩ : Shape).size inb).emb (ix2 q d) 1 = (⟨o + d.val, by omega⟩ : Fin 256) :=
    Fin.ext (show o + 1 * d.val = o + d.val by omega)
  dsimp only
  simp only [e0, e1]
  unfold dbandAt
  rw [if_pos (by dsimp only; omega)]
  congr 1 <;> apply Fin.ext <;> dsimp only <;> omega

theorem dvalue_emb (n : Nat) (x0 : Vec Ideal S16 .f32) (x1 : Vec Ideal S128x1024 .bf16) (x2 x3 : Vec Ideal S128x256 .bf16) (x4 x5 : Vec Ideal S128x1024 .bf16)
    (h : Fin 2) (o m : Nat) (ho : o = 128 + h.val * 64) (hm : m = 0 ∨ m = 128)
    (inb : ∀ a, (![0, o] : Fin 2 → Nat) a + (⟨2, ![128, 64]⟩ : Shape).size a ≤ S128x256.size a) (q : Fin 128) (d : Fin 64) (hq : m + q.val < 256) :
    dvalue n x0 x1 x2 x3 x5 h ⟨m + q.val, hq⟩ d
      = (fun y : S128x256.Idx => dbandAt n x0 x1 x2 x3 x4 x5 ⟨m + (y 0).val, by have : (y 0).val < 128 := (y 0).isLt; omega⟩ (y 1))
          ((Rect.unit (s := S128x256) ![0, o] (⟨2, ![128, 64]⟩ : Shape).size inb).emb (ix2 q d)) := by
  have e0 : (Rect.unit (s := S128x256) ![0, o] (⟨2, ![128, 64]⟩ : Shape).size inb).emb (ix2 q d) 0 = q :=
    Fin.ext (show 0 + 1 * q.val = q.val by omega)
  have e1 : (Rect.unit (s := S128x256) ![0, o] (⟨2, ![128, 64]⟩ : Shape).size inb).emb (ix2 q d) 1 = (⟨o + d.val, by omega⟩ : Fin 256) :=
    Fin.ext (show o + 1 * d.val = o + d.val by omega)
  dsimp only
  simp only [e0, e1]
  unfold dbandAt
  rw [if_neg (by dsimp only; omega)]
  congr 1 <;> apply Fin.ext <;> dsimp only <;> omega

section head0

variable (i : grid0.Coords) (x0 : Vec Ideal S16 .f32) (x1 : Vec Ideal S128x1024 .bf16) (x2 x3 : Vec Ideal S128x256 .bf16) (x4 x5 : Vec Ideal S128x1024 .bf16)
  {v35 v38 : FVec Ideal S256x64 .bf16} {v47 v56 : FVec Ideal S1024x64 .bf16} {v58 v60 v62 v64 v66 : FVec Ideal S128x1 .f32} {v67 v69 v71 : EReal}
  {v95 v97 v99 v101 v103 v105 v106 v108 : FVec Ideal S128x64 .bf16}

/-- The gradients of the first key head's queries and keys. -/
theorem all0 (hq : IsStack x1 0 v47) (hd : IsStack x5 0 v56) (hk : IsKey x2 x3 0 v35) (hv : IsValue x2 x3 0 v38)
    (hs : IsSink x0 0 (k0_pay18 (F := Ideal) v58 v60 v62 v64 v66 v67 v69 v71))
    (h0 : IsCols x4 0 0 v95) (h1 : IsCols x4 0 1 v97) (h2 : IsCols x4 0 2 v99) (h3 : IsCols x4 0 3 v101)
    (h4 : IsCols x4 0 4 v103) (h5 : IsCols x4 0 5 v105) (h6 : IsCols x4 0 6 v106) (h7 : IsCols x4 0 7 v108) :
    (∀ r d, k0_pay35 (F := Ideal) v35 v38 v56 (k0_pay24 (k0_pay7 i) v35 v47 v58 v60 v62 v64 v66 v67 v69 v71) (k0_pay26 v56) (k0_pay27 v95) (k0_pay28 v97)
        (k0_pay29 v99) (k0_pay30 v101) (k0_pay31 v103) (k0_pay32 v105) v106 v108 (ix2 r d) = dquery (i 0).val x0 x1 x2 x3 x4 x5 0 r d)
      ∧ (∀ k d, k0_pay36 (F := Ideal) v38 v47 v56 (k0_pay24 (k0_pay7 i) v35 v47 v58 v60 v62 v64 v66 v67 v69 v71) (k0_pay26 v56) (k0_pay27 v95) (k0_pay28 v97)
        (k0_pay29 v99) (k0_pay30 v101) (k0_pay31 v103) (k0_pay32 v105) v106 v108 (ix2 k d) = dkey (i 0).val x0 x1 x2 x3 x4 x5 0 k d) := by
  have hp := prob0 i x0 x1 x2 x3 hq hk hs
  have hδ := delta0 x4 x5 (wide0 x5 hd) h0 h1 h2 h3 h4 h5 h6 h7
  have hds := dscore0 i x0 x1 x2 x3 x4 x5 hp hd hv hδ
  exact ⟨dquery0 i x0 x1 x2 x3 x4 x5 hds hk, dkey0 i x0 x1 x2 x3 x4 x5 hds hq⟩

end head0

section head1

variable (i : grid0.Coords) (x0 : Vec Ideal S16 .f32) (x1 : Vec Ideal S128x1024 .bf16) (x2 x3 : Vec Ideal S128x256 .bf16) (x4 x5 : Vec Ideal S128x1024 .bf16)
  {v250 v253 : FVec Ideal S256x64 .bf16} {v262 v271 : FVec Ideal S1024x64 .bf16} {v288 : FVec Ideal S1024x1 .f32}
  {v309 v311 v313 v315 v317 v319 v321 v323 : FVec Ideal S128x64 .bf16}

/-- The gradients of the second key head's queries and keys. -/
theorem all1 (hq : IsStack x1 1 v262) (hd : IsStack x5 1 v271) (hk : IsKey x2 x3 1 v250) (hv : IsValue x2 x3 1 v253) (hs : IsSink x0 1 v288)
    (h0 : IsCols x4 1 0 v309) (h1 : IsCols x4 1 1 v311) (h2 : IsCols x4 1 2 v313) (h3 : IsCols x4 1 3 v315)
    (h4 : IsCols x4 1 4 v317) (h5 : IsCols x4 1 5 v319) (h6 : IsCols x4 1 6 v321) (h7 : IsCols x4 1 7 v323) :
    (∀ r d, k0_pay72 (F := Ideal) v250 v253 v271 (k0_pay67 (k0_pay7 i) v250 v262 v288 (constant S1024x256 .f32 0#32))
        (k0_pay69 v271 v309 v311 v313 v315 v317 v319 v321 v323) (ix2 r d) = dquery (i 0).val x0 x1 x2 x3 x4 x5 1 r d)
      ∧ (∀ k d, k0_pay73 (F := Ideal) v253 v262 v271 (k0_pay67 (k0_pay7 i) v250 v262 v288 (constant S1024x256 .f32 0#32))
        (k0_pay69 v271 v309 v311 v313 v315 v317 v319 v321 v323) (ix2 k d) = dkey (i 0).val x0 x1 x2 x3 x4 x5 1 k d) := by
  have hp := prob1 i x0 x1 x2 x3 hq hk hs
  have hδ := delta1 x4 x5 hd h0 h1 h2 h3 h4 h5 h6 h7
  have hds := dscore1 i x0 x1 x2 x3 x4 x5 hp hd hv hδ
  exact ⟨dquery1 i x0 x1 x2 x3 x4 x5 hds hk, dkey1 i x0 x1 x2 x3 x4 x5 hds hq⟩

end head1

section pieces

variable (n : Nat) (x0 : Vec Ideal S16 .f32) (x1 : Vec Ideal S128x1024 .bf16) (x2 x3 : Vec Ideal S128x256 .bf16) (x4 x5 : Vec Ideal S128x1024 .bf16)

theorem exists_ix2 (y : S128x64.Idx) : ∃ (q : Fin 128) (d : Fin 64), y = ix2 q d := ⟨y 0, y 1, eq_ix2 y⟩

/-- The queries' gradient at one place. -/
abbrev dqG (y : S128x1024.Idx) : Elt Ideal .bf16 := dqueryAt n x0 x1 x2 x3 x4 x5 (y 0) (y 1)

/-- The gradient of the rows from `m` on at one place. -/
abbrev dkvG (m : Nat) (hm : m = 0 ∨ m = 128) (y : S128x256.Idx) : Elt Ideal .f32 :=
  dbandAt n x0 x1 x2 x3 x4 x5 ⟨m + (y 0).val, by have : (y 0).val < 128 := (y 0).isLt; omega⟩ (y 1)

theorem dqPiece {a : FVec Ideal S1024x64 .bf16} (h : Fin 2) (ha : ∀ r d, a (ix2 r d) = dquery n x0 x1 x2 x3 x4 x5 h r d) (o m : Nat)
    (hh : o / 512 = h.val) (ho : o % 64 = 0) (hm : m = o % 512 / 64 * 128) (inb) (s : S1024x64.Slices ![m, 0] S128x64) (y : S128x64.Idx) :
    extractStridedSlice S128x64 ![m, 0] a s y = dqG n x0 x1 x2 x3 x4 x5 ((Rect.unit (s := S128x1024) ![0, o] S128x64.size inb).emb y) := by
  obtain ⟨q, d, rfl⟩ := exists_ix2 y
  exact ((slice_rows _ _ s q d (by omega)).trans (ha _ d)).trans (dqueryAt_emb _ _ _ _ _ _ _ h _ _ hh ho hm inb q d _)

theorem dkPiece {a : FVec Ideal S256x64 .f32} (h : Fin 2) (ha : ∀ k d, a (ix2 k d) = dkey n x0 x1 x2 x3 x4 x5 h k d) (o m : Nat)
    (ho : o = h.val * 64) (hm : m = 0 ∨ m = 128) (inb) (s : S256x64.Slices ![m, 0] S128x64) (y : S128x64.Idx) :
    extractStridedSlice S128x64 ![m, 0] a s y = dkvG n x0 x1 x2 x3 x4 x5 m hm ((Rect.unit (s := S128x256) ![0, o] S128x64.size inb).emb y) := by
  obtain ⟨q, d, rfl⟩ := exists_ix2 y
  exact ((slice_rows _ _ s q d (by omega)).trans (ha _ d)).trans (dkey_emb _ _ _ _ _ _ _ h _ m ho hm inb q d (by omega))

theorem dvPiece {a : FVec Ideal S256x64 .f32} (h : Fin 2) (ha : ∀ k d, a (ix2 k d) = dvalue n x0 x1 x2 x3 x5 h k d) (o m : Nat)
    (ho : o = 128 + h.val * 64) (hm : m = 0 ∨ m = 128) (inb) (s : S256x64.Slices ![m, 0] S128x64) (y : S128x64.Idx) :
    extractStridedSlice S128x64 ![m, 0] a s y = dkvG n x0 x1 x2 x3 x4 x5 m hm ((Rect.unit (s := S128x256) ![0, o] S128x64.size inb).emb y) := by
  obtain ⟨q, d, rfl⟩ := exists_ix2 y
  exact ((slice_rows _ _ s q d (by omega)).trans (ha _ d)).trans (dvalue_emb _ _ _ _ _ _ _ h _ m ho hm inb q d (by omega))

/-- The queries' gradient as the body writes it: by head, last first. -/
theorem dqPieces {a b : FVec Ideal S1024x64 .bf16} (ha : ∀ r d, a (ix2 r d) = dquery n x0 x1 x2 x3 x4 x5 0 r d)
    (hb : ∀ r d, b (ix2 r d) = dquery n x0 x1 x2 x3 x4 x5 1 r d) (q : Fin 128) (j : Fin 1024) :
    View.canon (Val := Elt Ideal) (s := S128x1024) (e := .bf16)
      [⟨Rect.unit ![0, 960] S128x64.size inb_S128x1024_S128x64_0_960, extractStridedSlice S128x64 ![896, 0] b slices_S1024x64_o896_0_S128x64⟩,
        ⟨Rect.unit ![0, 896] S128x64.size inb_S128x1024_S128x64_0_896, extractStridedSlice S128x64 ![768, 0] b slices_S1024x64_o768_0_S128x64⟩,
        ⟨Rect.unit ![0, 832] S128x64.size inb_S128x1024_S128x64_0_832, extractStridedSlice S128x64 ![640, 0] b slices_S1024x64_o640_0_S128x64⟩,
        ⟨Rect.unit ![0, 768] S128x64.size inb_S128x1024_S128x64_0_768, extractStridedSlice S128x64 ![512, 0] b slices_S1024x64_o512_0_S128x64⟩,
        ⟨Rect.unit ![0, 704] S128x64.size inb_S128x1024_S128x64_0_704, extractStridedSlice S128x64 ![384, 0] b slices_S1024x64_o384_0_S128x64⟩,
        ⟨Rect.unit ![0, 640] S128x64.size inb_S128x1024_S128x64_0_640, extractStridedSlice S128x64 ![256, 0] b slices_S1024x64_o256_0_S128x64⟩,
        ⟨Rect.unit ![0, 576] S128x64.size inb_S128x1024_S128x64_0_576, extractStridedSlice S128x64 ![128, 0] b slices_S1024x64_o128_0_S128x64⟩,
        ⟨Rect.unit ![0, 512] S128x64.size inb_S128x1024_S128x64_0_512, extractStridedSlice S128x64 ![0, 0] b slices_S1024x64_o0_0_S128x64⟩,
        ⟨Rect.unit ![0, 448] S128x64.size inb_S128x1024_S128x64_0_448, extractStridedSlice S128x64 ![896, 0] a slices_S1024x64_o896_0_S128x64⟩,
        ⟨Rect.unit ![0, 384] S128x64.size inb_S128x1024_S128x64_0_384, extractStridedSlice S128x64 ![768, 0] a slices_S1024x64_o768_0_S128x64⟩,
        ⟨Rect.unit ![0, 320] S128x64.size inb_S128x1024_S128x64_0_320, extractStridedSlice S128x64 ![640, 0] a slices_S1024x64_o640_0_S128x64⟩,
        ⟨Rect.unit ![0, 256] S128x64.size inb_S128x1024_S128x64_0_256, extractStridedSlice S128x64 ![512, 0] a slices_S1024x64_o512_0_S128x64⟩,
        ⟨Rect.unit ![0, 192] S128x64.size inb_S128x1024_S128x64_0_192, extractStridedSlice S128x64 ![384, 0] a slices_S1024x64_o384_0_S128x64⟩,
        ⟨Rect.unit ![0, 128] S128x64.size inb_S128x1024_S128x64_0_128, extractStridedSlice S128x64 ![256, 0] a slices_S1024x64_o256_0_S128x64⟩,
        ⟨Rect.unit ![0, 64] S128x64.size inb_S128x1024_S128x64_0_64, extractStridedSlice S128x64 ![128, 0] a slices_S1024x64_o128_0_S128x64⟩,
        ⟨Rect.unit ![0, 0] S128x64.size inb_S128x1024_S128x64_0_0, extractStridedSlice S128x64 ![0, 0] a slices_S1024x64_o0_0_S128x64⟩] (ix2 q j) = dqueryAt n x0 x1 x2 x3 x4 x5 q j := by
  refine canon_of_piecesOf (s := S128x1024) (e := .bf16) (dqG n x0 x1 x2 x3 x4 x5) _ ?_ (ix2 q j) ?_
  rotate_left
  · exact View.cover_of_tiledL (s := S128x1024) _ S128x64.size (by sl_kernel_rfl) _
  exact ⟨dqPiece n x0 x1 x2 x3 x4 x5 1 hb 960 896 rfl rfl rfl
      inb_S128x1024_S128x64_0_960 slices_S1024x64_o896_0_S128x64,
    dqPiece n x0 x1 x2 x3 x4 x5 1 hb 896 768 rfl rfl rfl
      inb_S128x1024_S128x64_0_896 slices_S1024x64_o768_0_S128x64,
    dqPiece n x0 x1 x2 x3 x4 x5 1 hb 832 640 rfl rfl rfl
      inb_S128x1024_S128x64_0_832 slices_S1024x64_o640_0_S128x64,
    dqPiece n x0 x1 x2 x3 x4 x5 1 hb 768 512 rfl rfl rfl
      inb_S128x1024_S128x64_0_768 slices_S1024x64_o512_0_S128x64,
    dqPiece n x0 x1 x2 x3 x4 x5 1 hb 704 384 rfl rfl rfl
      inb_S128x1024_S128x64_0_704 slices_S1024x64_o384_0_S128x64,
    dqPiece n x0 x1 x2 x3 x4 x5 1 hb 640 256 rfl rfl rfl
      inb_S128x1024_S128x64_0_640 slices_S1024x64_o256_0_S128x64,
    dqPiece n x0 x1 x2 x3 x4 x5 1 hb 576 128 rfl rfl rfl
      inb_S128x1024_S128x64_0_576 slices_S1024x64_o128_0_S128x64,
    dqPiece n x0 x1 x2 x3 x4 x5 1 hb 512 0 rfl rfl rfl
      inb_S128x1024_S128x64_0_512 slices_S1024x64_o0_0_S128x64,
    dqPiece n x0 x1 x2 x3 x4 x5 0 ha 448 896 rfl rfl rfl
      inb_S128x1024_S128x64_0_448 slices_S1024x64_o896_0_S128x64,
    dqPiece n x0 x1 x2 x3 x4 x5 0 ha 384 768 rfl rfl rfl
      inb_S128x1024_S128x64_0_384 slices_S1024x64_o768_0_S128x64,
    dqPiece n x0 x1 x2 x3 x4 x5 0 ha 320 640 rfl rfl rfl
      inb_S128x1024_S128x64_0_320 slices_S1024x64_o640_0_S128x64,
    dqPiece n x0 x1 x2 x3 x4 x5 0 ha 256 512 rfl rfl rfl
      inb_S128x1024_S128x64_0_256 slices_S1024x64_o512_0_S128x64,
    dqPiece n x0 x1 x2 x3 x4 x5 0 ha 192 384 rfl rfl rfl
      inb_S128x1024_S128x64_0_192 slices_S1024x64_o384_0_S128x64,
    dqPiece n x0 x1 x2 x3 x4 x5 0 ha 128 256 rfl rfl rfl
      inb_S128x1024_S128x64_0_128 slices_S1024x64_o256_0_S128x64,
    dqPiece n x0 x1 x2 x3 x4 x5 0 ha 64 128 rfl rfl rfl
      inb_S128x1024_S128x64_0_64 slices_S1024x64_o128_0_S128x64,
    dqPiece n x0 x1 x2 x3 x4 x5 0 ha 0 0 rfl rfl rfl
      inb_S128x1024_S128x64_0_0 slices_S1024x64_o0_0_S128x64, trivial⟩

/-- The keys' and values' gradients of the rows from `m` on as the body writes them. -/
theorem dkvPieces (m : Nat) (hm : m = 0 ∨ m = 128) {a b a' b' : FVec Ideal S256x64 .f32} (ha : ∀ k d, a (ix2 k d) = dkey n x0 x1 x2 x3 x4 x5 0 k d)
    (hb : ∀ k d, b (ix2 k d) = dkey n x0 x1 x2 x3 x4 x5 1 k d) (ha' : ∀ k d, a' (ix2 k d) = dvalue n x0 x1 x2 x3 x5 0 k d)
    (hb' : ∀ k d, b' (ix2 k d) = dvalue n x0 x1 x2 x3 x5 1 k d) (s : S256x64.Slices ![m, 0] S128x64)
    (q : Fin 128) (j : Fin 256) :
    View.canon (Val := Elt Ideal) (s := S128x256) (e := .f32)
      [⟨Rect.unit ![0, 192] S128x64.size inb_S128x256_S128x64_0_192, extractStridedSlice S128x64 ![m, 0] b' s⟩,
        ⟨Rect.unit ![0, 64] S128x64.size inb_S128x256_S128x64_0_64, extractStridedSlice S128x64 ![m, 0] b s⟩,
        ⟨Rect.unit ![0, 128] S128x64.size inb_S128x256_S128x64_0_128, extractStridedSlice S128x64 ![m, 0] a' s⟩,
        ⟨Rect.unit ![0, 0] S128x64.size inb_S128x256_S128x64_0_0, extractStridedSlice S128x64 ![m, 0] a s⟩]
      (ix2 q j) = dbandAt n x0 x1 x2 x3 x4 x5 ⟨m + q.val, by omega⟩ j := by
  refine canon_of_piecesOf (s := S128x256) (e := .f32) (dkvG n x0 x1 x2 x3 x4 x5 m hm) _ ?_ (ix2 q j) ?_
  rotate_left
  · exact View.cover_of_tiledL (s := S128x256) _ S128x64.size (by sl_kernel_rfl) _
  exact ⟨dvPiece n x0 x1 x2 x3 x4 x5 1 hb' 192 m rfl hm inb_S128x256_S128x64_0_192 s, dkPiece n x0 x1 x2 x3 x4 x5 1 hb 64 m rfl hm inb_S128x256_S128x64_0_64 s,
    dvPiece n x0 x1 x2 x3 x4 x5 0 ha' 128 m rfl hm inb_S128x256_S128x64_0_128 s, dkPiece n x0 x1 x2 x3 x4 x5 0 ha 0 m rfl hm inb_S128x256_S128x64_0_0 s, trivial⟩

end pieces

section outs

variable (c : Dev nD) (i : grid0.Coords) (arg1 : Memref sig .tc .smem S16 .f32) (harg1 : arg1.IsWhole) (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x1024 .bf16) (harg5 : arg5.IsWhole) (arg6 : Memref sig .tc .vmem S128x1024 .bf16) (harg6 : arg6.IsWhole)
  (arg7 : Memref sig .tc .vmem S128x1024 .bf16) (harg7 : arg7.IsWhole) (arg8 : Memref sig .tc .vmem S128x256 .f32) (harg8 : arg8.IsWhole)
  (arg9 : Memref sig .tc .vmem S128x256 .f32) (harg9 : arg9.IsWhole) (arg10 : Memref sig .tc .vmem S1x16 .f32) (harg10 : arg10.IsWhole)
  (x0 : Vec Ideal S16 .f32) (x1 : Vec Ideal S128x1024 .bf16) (x2 x3 : Vec Ideal S128x256 .bf16) (x4 x5 : Vec Ideal S128x1024 .bf16) (xo9 : Vec Ideal S1x16 .f32)

theorem out0_A_6_apply (hc0 : cond0_0 i) (hc1 : ¬cond0_1 i) (q : Fin 128) (j : Fin 1024) :
    out0_A_6 c i arg1 harg1 arg2 harg2 arg3 harg3 arg4 harg4 arg5 harg5 arg6 harg6 arg7 harg7 arg8 harg8 arg9 harg9 arg10 harg10 hc0 hc1 x0 x1 x2 x3 x4 x5 (ix2 q j)
      = dqueryAt (i 0).val x0 x1 x2 x3 x4 x5 q j := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread]
  refine dqPieces (i 0).val x0 x1 x2 x3 x4 x5 (fun r d => (all0 i x0 x1 x2 x3 x4 x5 ?_ ?_ ?_ ?_ ?_ ?_ ?_ ?_ ?_ ?_ ?_ ?_ ?_).1 r d)
    (fun r d => (all1 i x0 x1 x2 x3 x4 x5 ?_ ?_ ?_ ?_ ?_ ?_ ?_ ?_ ?_ ?_ ?_ ?_ ?_).1 r d) q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_A_7_apply (hc0 : cond0_0 i) (hc1 : ¬cond0_1 i) (q : Fin 128) (j : Fin 256) :
    out0_A_7 c i arg1 harg1 arg2 harg2 arg3 harg3 arg4 harg4 arg5 harg5 arg6 harg6 arg7 harg7 arg8 harg8 arg9 harg9 arg10 harg10 hc0 hc1 x0 x1 x2 x3 x4 x5 (ix2 q j)
      = dbandAt (i 0).val x0 x1 x2 x3 x4 x5 ⟨128 + q.val, by omega⟩ j := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread]
  refine dkvPieces (i 0).val x0 x1 x2 x3 x4 x5 128 (by decide) (fun r d => (all0 i x0 x1 x2 x3 x4 x5 ?_ ?_ ?_ ?_ ?_ ?_ ?_ ?_ ?_ ?_ ?_ ?_ ?_).2 r d)
    (fun r d => (all1 i x0 x1 x2 x3 x4 x5 ?_ ?_ ?_ ?_ ?_ ?_ ?_ ?_ ?_ ?_ ?_ ?_ ?_).2 r d) (dvalue0 i x0 x1 x2 x3 x5 (prob0 i x0 x1 x2 x3 ?_ ?_ ?_) ?_)
    (dvalue1 i x0 x1 x2 x3 x5 (prob1 i x0 x1 x2 x3 ?_ ?_ ?_) ?_) slices_S256x64_o128_0_S128x64 q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_A_8_apply (hc0 : cond0_0 i) (hc1 : ¬cond0_1 i) (q : Fin 128) (j : Fin 256) :
    out0_A_8 c i arg1 harg1 arg2 harg2 arg3 harg3 arg4 harg4 arg5 harg5 arg6 harg6 arg7 harg7 arg8 harg8 arg9 harg9 arg10 harg10 hc0 hc1 x0 x1 x2 x3 x4 x5 (ix2 q j)
      = dbandAt (i 0).val x0 x1 x2 x3 x4 x5 ⟨0 + q.val, by omega⟩ j := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread]
  refine dkvPieces (i 0).val x0 x1 x2 x3 x4 x5 0 (by decide) (fun r d => (all0 i x0 x1 x2 x3 x4 x5 ?_ ?_ ?_ ?_ ?_ ?_ ?_ ?_ ?_ ?_ ?_ ?_ ?_).2 r d)
    (fun r d => (all1 i x0 x1 x2 x3 x4 x5 ?_ ?_ ?_ ?_ ?_ ?_ ?_ ?_ ?_ ?_ ?_ ?_ ?_).2 r d) (dvalue0 i x0 x1 x2 x3 x5 (prob0 i x0 x1 x2 x3 ?_ ?_ ?_) ?_)
    (dvalue1 i x0 x1 x2 x3 x5 (prob1 i x0 x1 x2 x3 ?_ ?_ ?_) ?_) slices_S256x64_o0_0_S128x64 q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_B_6_apply (hc0 : ¬cond0_0 i) (hc1 : cond0_1 i) (q : Fin 128) (j : Fin 1024) :
    out0_B_6 c i arg1 harg1 arg2 harg2 arg3 harg3 arg4 harg4 arg5 harg5 arg6 harg6 arg7 harg7 arg8 harg8 arg9 harg9 arg10 harg10 hc0 hc1 x0 x1 x2 x3 x4 x5 xo9 (ix2 q j)
      = dqueryAt (i 0).val x0 x1 x2 x3 x4 x5 q j := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 x5 xo9)]
  unfold kernelRun0_B
  dsimp only
  sl_unfold_words
  simp (disch := decide) only [View.readAt_eq_ld, harg1.read_unread, harg2.read_unread, harg3.read_unread, harg4.read_unread, harg5.read_unread, harg6.read_unread]
  refine dqPieces (i 0).val x0 x1 x2 x3 x4 x5 (fun r d => (all0 i x0 x1 x2 x3 x4 x5 ?_ ?_ ?_ ?_ ?_ ?_ ?_ ?_ ?_ ?_ ?_ ?_ ?_).1 r d)
    (fun r d => (all1 i x0 x1 x2 x3 x4 x5 ?_ ?_ ?_ ?_ ?_ ?_ ?_ ?_ ?_ ?_ ?_ ?_ ?_).1 r d) q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_B_7_apply (hc0 : ¬cond0_0 i) (hc1 : cond0_1 i) (q : Fin 128) (j : Fin 256) :
    out0_B_7 c i arg1 harg1 arg2 harg2 arg3 harg3 arg4 harg4 arg5 harg5 arg6 harg6 arg7 harg7 arg8 harg8 arg9 harg9 arg10 harg10 hc0 hc1 x0 x1 x2 x3 x4 x5 xo9 (ix2 q j)
      = dbandAt (i 0).val x0 x1 x2 x3 x4 x5 ⟨128 + q.val, by omega⟩ j := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 xo9)]
  unfold kernelRun0_B
  dsimp only
  sl_unfold_words
  simp (disch := decide) only [View.readAt_eq_ld, harg1.read_unread, harg2.read_unread, harg3.read_unread, harg4.read_unread, harg5.read_unread, harg6.read_unread]
  refine dkvPieces (i 0).val x0 x1 x2 x3 x4 x5 128 (by decide) (fun r d => (all0 i x0 x1 x2 x3 x4 x5 ?_ ?_ ?_ ?_ ?_ ?_ ?_ ?_ ?_ ?_ ?_ ?_ ?_).2 r d)
    (fun r d => (all1 i x0 x1 x2 x3 x4 x5 ?_ ?_ ?_ ?_ ?_ ?_ ?_ ?_ ?_ ?_ ?_ ?_ ?_).2 r d) (dvalue0 i x0 x1 x2 x3 x5 (prob0 i x0 x1 x2 x3 ?_ ?_ ?_) ?_)
    (dvalue1 i x0 x1 x2 x3 x5 (prob1 i x0 x1 x2 x3 ?_ ?_ ?_) ?_) slices_S256x64_o128_0_S128x64 q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_B_8_apply (hc0 : ¬cond0_0 i) (hc1 : cond0_1 i) (q : Fin 128) (j : Fin 256) :
    out0_B_8 c i arg1 harg1 arg2 harg2 arg3 harg3 arg4 harg4 arg5 harg5 arg6 harg6 arg7 harg7 arg8 harg8 arg9 harg9 arg10 harg10 hc0 hc1 x0 x1 x2 x3 x4 x5 xo9 (ix2 q j)
      = dbandAt (i 0).val x0 x1 x2 x3 x4 x5 ⟨0 + q.val, by omega⟩ j := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 hc1 x0 x1 x2 x3 x4 x5 xo9)]
  unfold kernelRun0_B
  dsimp only
  sl_unfold_words
  simp (disch := decide) only [View.readAt_eq_ld, harg1.read_unread, harg2.read_unread, harg3.read_unread, harg4.read_unread, harg5.read_unread, harg6.read_unread]
  refine dkvPieces (i 0).val x0 x1 x2 x3 x4 x5 0 (by decide) (fun r d => (all0 i x0 x1 x2 x3 x4 x5 ?_ ?_ ?_ ?_ ?_ ?_ ?_ ?_ ?_ ?_ ?_ ?_ ?_).2 r d)
    (fun r d => (all1 i x0 x1 x2 x3 x4 x5 ?_ ?_ ?_ ?_ ?_ ?_ ?_ ?_ ?_ ?_ ?_ ?_ ?_).2 r d) (dvalue0 i x0 x1 x2 x3 x5 (prob0 i x0 x1 x2 x3 ?_ ?_ ?_) ?_)
    (dvalue1 i x0 x1 x2 x3 x5 (prob1 i x0 x1 x2 x3 ?_ ?_ ?_) ?_) slices_S256x64_o0_0_S128x64 q j
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

end outs

end Cert.Kernel17Ideal.Hand

end
-- ==== Proof.AttnSinks.lean ====
module

public import proofs.«01_k».proof.Proof.AttnOut

@[expose] public section

noncomputable section

namespace Cert.Kernel17Ideal.Hand

open Idealize.ShloMosaic Idealize.ShloMosaic.TcCoe Idealize.SL.Sem Cert.Kernel17Ideal Cert.Kernel17Ideal.Gen Cert.Attn

/-! The sinks' gradients of one block, as the body adds them up: one query head after another. -/

/-- The number of each column. -/
abbrev lane : IVec S1x16 32 := iota .tc S1x16 32 [1] iota_S1x16_d1_w32

/-- The sum of one group's rows of a stack of columns. -/
def groupSum (a : FVec Ideal S1024x1 .f32) (g : Fin 8) : EReal := ∑ q : Fin 128, a (ix2 ⟨g.val * 128 + q.val, by omega⟩ 0)

/-- What query head `h` adds at column `j`. -/
def headTerm (a : FVec Ideal S1024x1 .f32) (g : Fin 8) (h : Nat) (j : Fin 16) : EReal := if j.val = h then 0 - groupSum a g else 0

theorem headTerm_eq (a : FVec Ideal S1024x1 .f32) (g : Fin 8) (h m : Nat) (hh : h < 16) (hm : m = g.val * 128) (j : Fin 16) (hb : ∀ x : Fin 128, m + x.val < 1024) :
    Scalar.select (IntOp.cmpi CmpIPredicate.eq (BitVec.ofNat 32 j.val) (BitVec.ofNat 32 h)) (0 - ∑ x : Fin 128, ∑ _y : Fin 1, a (ix2 ⟨m + x.val, hb x⟩ 0)) 0
      = headTerm a g h j := by
  subst hm
  have e : (BitVec.ofNat 32 j.val = BitVec.ofNat 32 h) ↔ j.val = h := by
    rw [← BitVec.toNat_inj, BitVec.toNat_ofNat, BitVec.toNat_ofNat]
    have := j.isLt
    omega
  have e' : IntOp.cmpi CmpIPredicate.eq (BitVec.ofNat 32 j.val) (BitVec.ofNat 32 h) = BitVec.ofBool (decide (j.val = h)) := by
    change BitVec.ofBool (BitVec.ofNat 32 j.val == BitVec.ofNat 32 h) = _
    rw [beq_eq_decide]
    simp only [e]
  rw [e', select_ofBool]
  unfold headTerm groupSum
  simp only [Finset.univ_unique, Finset.sum_singleton]

variable (a b v92 : FVec Ideal S1024x1 .f32) (v93 : FVec Ideal S1024x64 .f32) (v95 v97 v99 v101 v103 v105 : FVec Ideal S128x64 .bf16) (v106 v108 : Vec Ideal S128x64 .bf16)
  (v307 : FVec Ideal S1024x1 .f32) (v327 : FVec Ideal S1024x64 .f32) (w : FVec Ideal S1x16 .f32) (j : Fin 16)

theorem stage40 : k0_pay40 (F := Ideal) lane k0_pay8 v92 v93 v95 v97 v99 v101 v103 v105 v106 v108 (ix2 0 j)
    = 0 + headTerm (k0_pay38 v92 v93 v95 v97 v99 v101 v103 v105 v106 v108) 0 0 j := by
  rw [← headTerm_eq _ 0 0 0 (by decide) rfl j (by omega)]
  pointwise [k0_pay40, k0_pay8]

theorem stage46 : k0_pay46 (F := Ideal) lane (k0_pay38 v92 v93 v95 v97 v99 v101 v103 v105 v106 v108) w (k0_pay42 lane)
      (k0_pay43 v92 v93 v95 v97 v99 v101 v103 v105 v106 v108) (ix2 0 j)
    = w (ix2 0 j) + headTerm (k0_pay38 v92 v93 v95 v97 v99 v101 v103 v105 v106 v108) 1 1 j
      + headTerm (k0_pay38 v92 v93 v95 v97 v99 v101 v103 v105 v106 v108) 2 2 j + headTerm (k0_pay38 v92 v93 v95 v97 v99 v101 v103 v105 v106 v108) 3 3 j := by
  rw [← headTerm_eq _ 1 1 128 (by decide) rfl j (by omega), ← headTerm_eq _ 2 2 256 (by decide) rfl j (by omega), ← headTerm_eq _ 3 3 384 (by decide) rfl j (by omega)]
  generalize ha : k0_pay38 (F := Ideal) v92 v93 v95 v97 v99 v101 v103 v105 v106 v108 = a
  pointwise [k0_pay46, k0_pay42, k0_pay43, ha]

theorem stage50 : k0_pay50 (F := Ideal) lane a w 4#32 (ix2 0 j) = w (ix2 0 j) + headTerm a 4 4 j + headTerm a 5 5 j + headTerm a 6 6 j := by
  rw [← headTerm_eq a 4 4 512 (by decide) rfl j (by omega), ← headTerm_eq a 5 5 640 (by decide) rfl j (by omega), ← headTerm_eq a 6 6 768 (by decide) rfl j (by omega)]
  pointwise [k0_pay50]

theorem stage52 : k0_pay52 (F := Ideal) lane a w (ix2 0 j) = w (ix2 0 j) + headTerm a 7 7 j := by
  rw [← headTerm_eq a 7 7 896 (by decide) rfl j (by omega)]
  pointwise [k0_pay52]

theorem stage77 : k0_pay77 (F := Ideal) lane w v307 v327 (ix2 0 j) = w (ix2 0 j) + headTerm (k0_pay75 v307 v327) 0 8 j := by
  rw [← headTerm_eq _ 0 8 0 (by decide) rfl j (by omega)]
  pointwise [k0_pay77]

theorem stage84 : k0_pay84 (F := Ideal) lane (k0_pay75 v307 v327) w (k0_pay79 lane) (k0_pay80 v307 v327) (k0_pay81 (F := Ideal)) (ix2 0 j)
    = w (ix2 0 j) + headTerm (k0_pay75 v307 v327) 1 9 j + headTerm (k0_pay75 v307 v327) 2 10 j + headTerm (k0_pay75 v307 v327) 3 11 j := by
  rw [← headTerm_eq _ 1 9 128 (by decide) rfl j (by omega), ← headTerm_eq _ 2 10 256 (by decide) rfl j (by omega), ← headTerm_eq _ 3 11 384 (by decide) rfl j (by omega)]
  generalize hb : k0_pay75 (F := Ideal) v307 v327 = b
  pointwise [k0_pay84, k0_pay79, k0_pay80, k0_pay81, hb]

theorem stage90 : k0_pay90 (F := Ideal) lane b w (k0_pay86 lane) (k0_pay87 b) (ix2 0 j) = w (ix2 0 j) + headTerm b 4 12 j + headTerm b 5 13 j + headTerm b 6 14 j := by
  rw [← headTerm_eq b 4 12 512 (by decide) rfl j (by omega), ← headTerm_eq b 5 13 640 (by decide) rfl j (by omega), ← headTerm_eq b 6 14 768 (by decide) rfl j (by omega)]
  pointwise [k0_pay90, k0_pay86, k0_pay87]

theorem stage1 : k0_pay1 (F := Ideal) w (k0_pay92 lane) (k0_pay93 b) (ix2 0 j) = w (ix2 0 j) + headTerm b 7 15 j := by
  rw [← headTerm_eq b 7 15 896 (by decide) rfl j (by omega)]
  pointwise [k0_pay1, k0_pay92, k0_pay93]

/-- The sums over the rows of query head `j`, of one block. -/
def sinkCol (n : Nat) (x0 : Vec Ideal S16 .f32) (x1 : Vec Ideal S128x1024 .bf16) (x2 x3 : Vec Ideal S128x256 .bf16) (x4 x5 : Vec Ideal S128x1024 .bf16) (j : Fin 16) : EReal :=
  0 - sinkSum n x0 x1 x2 x3 x4 x5 ⟨j.val / 8, by omega⟩ ⟨j.val % 8, by omega⟩

variable {v92 v93 v95 v97 v99 v101 v103 v105 v106 v108 v307 v327}

/-- The sixteen sums as the body leaves them, for the two key heads' columns of shares. -/
theorem sinks_chain (n : Nat) (x0 : Vec Ideal S16 .f32) (x1 : Vec Ideal S128x1024 .bf16) (x2 x3 : Vec Ideal S128x256 .bf16) (x4 x5 : Vec Ideal S128x1024 .bf16)
    (ha : ∀ r z, k0_pay38 (F := Ideal) v92 v93 v95 v97 v99 v101 v103 v105 v106 v108 (ix2 r z) = sinkTerm n x0 x1 x2 x3 x4 x5 0 r)
    (hb : ∀ r z, k0_pay75 (F := Ideal) v307 v327 (ix2 r z) = sinkTerm n x0 x1 x2 x3 x4 x5 1 r) :
    k0_pay1 (F := Ideal) (k0_pay90 lane (k0_pay75 v307 v327) (k0_pay84 lane (k0_pay75 v307 v327)
        (k0_pay77 lane (k0_pay52 lane (k0_pay38 v92 v93 v95 v97 v99 v101 v103 v105 v106 v108) (k0_pay50 lane (k0_pay38 v92 v93 v95 v97 v99 v101 v103 v105 v106 v108)
          (k0_pay46 lane (k0_pay38 v92 v93 v95 v97 v99 v101 v103 v105 v106 v108) (k0_pay40 lane k0_pay8 v92 v93 v95 v97 v99 v101 v103 v105 v106 v108) (k0_pay42 lane)
            (k0_pay43 v92 v93 v95 v97 v99 v101 v103 v105 v106 v108)) 4#32)) v307 v327) (k0_pay79 lane) (k0_pay80 v307 v327) (k0_pay81 (F := Ideal)))
        (k0_pay86 lane) (k0_pay87 (k0_pay75 v307 v327))) (k0_pay92 lane) (k0_pay93 (k0_pay75 v307 v327)) (ix2 0 j)
      = sinkCol n x0 x1 x2 x3 x4 x5 j := by
  rw [stage1, stage90, stage84, stage77, stage52, stage50, stage46, stage40]
  have ga : ∀ g, groupSum (k0_pay38 (F := Ideal) v92 v93 v95 v97 v99 v101 v103 v105 v106 v108) g = sinkSum n x0 x1 x2 x3 x4 x5 0 g :=
    fun g => Finset.sum_congr rfl fun q _ => ha _ _
  have gb : ∀ g, groupSum (k0_pay75 (F := Ideal) v307 v327) g = sinkSum n x0 x1 x2 x3 x4 x5 1 g := fun g => Finset.sum_congr rfl fun q _ => hb _ _
  unfold headTerm sinkCol
  simp only [ga, gb]
  generalize sinkSum n x0 x1 x2 x3 x4 x5 = f
  fin_cases j <;> simp

/-- One whole piece read back. -/
theorem canon_whole (w : Vec Ideal S1x16 .f32) (inb : ∀ a, (![0, 0] : Fin 2 → Nat) a + S1x16.size a ≤ S1x16.size a) :
    View.canon (Val := Elt Ideal) (s := S1x16) (e := .f32) [⟨Rect.unit ![0, 0] S1x16.size inb, w⟩] (ix2 0 j) = w (ix2 0 j) := by
  refine canon_of_piecesOf (s := S1x16) (e := .f32) w [⟨Rect.unit ![0, 0] S1x16.size inb, w⟩] ⟨fun y => ?_, trivial⟩ _ ?_
  · show w y = w _
    congr 1
    funext a
    exact Fin.ext (by match a with
      | ⟨0, _⟩ => exact (show (y 0).val = 0 + 1 * (y 0).val by omega)
      | ⟨1, _⟩ => exact (show (y 1).val = 0 + 1 * (y 1).val by omega))
  · exact View.cover_of_tiledL (s := S1x16) _ S1x16.size (by sl_kernel_rfl) _

/-- The block's sums added to those of the blocks before. -/
theorem total_apply (u : FVec Ideal S1x16 .f32) (m : IVec S1x16 1) (v : FVec Ideal S1x1x1 .f32) (w : Vec Ideal S1x16 .f32) :
    k0_pay6 (F := Ideal) u m v w (ix2 0 j) = w (ix2 0 j) + k0_pay1 (F := Ideal) u m v (ix2 0 j) := by
  pointwise [k0_pay6]

theorem ld_sinks (w : Vec Ideal S1x16 .f32) (inb : ∀ a, (![0, 0] : Fin 2 → Nat) a + S1x16.size a ≤ S1x16.size a) :
    View.ld (Val := Elt Ideal) (e' := .f32) w (Rect.unit ![0, 0] S1x16.size inb) (ix2 0 j) = w (ix2 0 j) := by
  show w _ = w _
  congr 1
  funext a
  exact Fin.ext (by match a with
    | ⟨0, _⟩ => rfl
    | ⟨1, _⟩ => exact (show 0 + 1 * j.val = j.val by omega))

section outs

variable (c : Dev nD) (i : grid0.Coords) (arg1 : Memref sig .tc .smem S16 .f32) (harg1 : arg1.IsWhole) (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x1024 .bf16) (harg5 : arg5.IsWhole) (arg6 : Memref sig .tc .vmem S128x1024 .bf16) (harg6 : arg6.IsWhole)
  (arg7 : Memref sig .tc .vmem S128x1024 .bf16) (harg7 : arg7.IsWhole) (arg8 : Memref sig .tc .vmem S128x256 .f32) (harg8 : arg8.IsWhole)
  (arg9 : Memref sig .tc .vmem S128x256 .f32) (harg9 : arg9.IsWhole) (arg10 : Memref sig .tc .vmem S1x16 .f32) (harg10 : arg10.IsWhole)
  (x0 : Vec Ideal S16 .f32) (x1 : Vec Ideal S128x1024 .bf16) (x2 x3 : Vec Ideal S128x256 .bf16) (x4 x5 : Vec Ideal S128x1024 .bf16) (xo9 : Vec Ideal S1x16 .f32)

theorem out0_A_9_apply (hc0 : cond0_0 i) (hc1 : ¬cond0_1 i) :
    out0_A_9 c i arg1 harg1 arg2 harg2 arg3 harg3 arg4 harg4 arg5 harg5 arg6 harg6 arg7 harg7 arg8 harg8 arg9 harg9 arg10 harg10 hc0 hc1 x0 x1 x2 x3 x4 x5 (ix2 0 j)
      = sinkCol (i 0).val x0 x1 x2 x3 x4 x5 j := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread]
  refine (canon_whole j _ _).trans ?_
  refine sinks_chain (j := j) (i 0).val x0 x1 x2 x3 x4 x5 (sinkTerm0 i x0 x1 x2 x3 x4 x5 (sinkProb0 i x0 x1 x2 x3 ?_ ?_ ?_) (delta0 x4 x5 (wide0 x5 ?_) ?_ ?_ ?_ ?_ ?_ ?_ ?_ ?_))
    (sinkTerm1 i x0 x1 x2 x3 x4 x5 (sinkProb1 i x0 x1 x2 x3 ?_ ?_ ?_) (delta1 x4 x5 ?_ ?_ ?_ ?_ ?_ ?_ ?_ ?_ ?_))
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

theorem out0_B_9_apply (hc0 : ¬cond0_0 i) (hc1 : cond0_1 i) :
    out0_B_9 c i arg1 harg1 arg2 harg2 arg3 harg3 arg4 harg4 arg5 harg5 arg6 harg6 arg7 harg7 arg8 harg8 arg9 harg9 arg10 harg10 hc0 hc1 x0 x1 x2 x3 x4 x5 xo9 (ix2 0 j)
      = xo9 (ix2 0 j) + sinkCol (i 0).val x0 x1 x2 x3 x4 x5 j := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 hc1 x0 x1 x2 x3 x4 x5 xo9)]
  unfold kernelRun0_B
  dsimp only
  sl_unfold_words
  simp (disch := decide) only [View.readAt_eq_ld, harg1.read_unread, harg2.read_unread, harg3.read_unread, harg4.read_unread, harg5.read_unread, harg6.read_unread, harg10.read_unread]
  refine (canon_whole j _ _).trans ?_
  refine (total_apply j _ _ _ _).trans (congrArg₂ (· + ·) (ld_sinks j xo9 _) ?_)
  refine sinks_chain (j := j) (i 0).val x0 x1 x2 x3 x4 x5 (sinkTerm0 i x0 x1 x2 x3 x4 x5 (sinkProb0 i x0 x1 x2 x3 ?_ ?_ ?_) (delta0 x4 x5 (wide0 x5 ?_) ?_ ?_ ?_ ?_ ?_ ?_ ?_ ?_))
    (sinkTerm1 i x0 x1 x2 x3 x4 x5 (sinkProb1 i x0 x1 x2 x3 ?_ ?_ ?_) (delta1 x4 x5 ?_ ?_ ?_ ?_ ?_ ?_ ?_ ?_ ?_))
  all_goals first
    | exact isCols_ld _ _ _ _ rfl _
    | exact key0 _ _ _
    | exact value0 _ _ _
    | exact key1 _ _ _
    | exact value1 _ _ _
    | (apply stack11 <;> exact isCols_ld _ _ _ _ rfl _)
    | (apply stack12 <;> exact isCols_ld _ _ _ _ rfl _)
    | (apply stack59 <;> exact isCols_ld _ _ _ _ rfl _)
    | (apply stack60 <;> exact isCols_ld _ _ _ _ rfl _)
    | (apply sinks0 <;> exact isWord_ld _ _ _ _ rfl _ _)
    | (apply sinks1 <;> exact isWord_ld _ _ _ _ rfl _ _)

end outs

end Cert.Kernel17Ideal.Hand

end
-- ==== Proof.AttnArrays.lean ====
module

public import proofs.«01_k».proof.Proof.AttnSinks
public import Idealize.ShloMosaic.Lib.Pipeline.ValueKit

@[expose] public section

noncomputable section

namespace Cert.Attn

open Idealize.ShloMosaic

/-! The arrays cut into the blocks of 128 positions. -/

/-- Row `q` of block `n`. -/
def rowAt (n : Nat) (q : Fin 128) : Fin 4096 := ⟨n % 32 * 128 + q.val, by omega⟩

/-- A block of the queries, columns 1024 to 2047 of the joined projections. -/
def queries (P : (⟨2, ![4096, 2304]⟩ : Shape).Idx → EReal) (n : Nat) : (⟨2, ![128, 1024]⟩ : Shape).Idx → EReal :=
  fun y => P (ix2 (rowAt n (y 0)) ⟨1024 + (y 1).val, by have : (y 1).val < 1024 := (y 1).isLt; omega⟩)

/-- A block of the keys and values, columns 2048 to 2303 of the joined projections. -/
def keysValues (P : (⟨2, ![4096, 2304]⟩ : Shape).Idx → EReal) (n : Nat) : (⟨2, ![128, 256]⟩ : Shape).Idx → EReal :=
  fun y => P (ix2 (rowAt n (y 0)) ⟨2048 + (y 1).val, by have : (y 1).val < 256 := (y 1).isLt; omega⟩)

/-- A block of an array as wide as the queries. -/
def rowsOf (A : (⟨2, ![4096, 1024]⟩ : Shape).Idx → EReal) (n : Nat) : (⟨2, ![128, 1024]⟩ : Shape).Idx → EReal :=
  fun y => A (ix2 (rowAt n (y 0)) (y 1))

end Cert.Attn

namespace Cert.Kernel17Ideal.Hand

open Idealize.ShloMosaic Idealize.ShloMosaic.TcCoe Idealize.SL.Sem Cert.Kernel17Ideal Cert.Kernel17Ideal.Gen Cert.Attn
open Idealize.ShloMosaic.Pipeline (Dat)

theorem coords0 (t : Fin cfg0.N) : (grid0.coords t 0).val = t.val % 32 := by
  have e1 : (grid0.coords t 0).val = t.val / 1 % 32 := Pipeline.Grid.coords_val t 0 (by decide) rfl
  rw [e1, Nat.div_one]

/-- Where each window's block lies at a point. -/
theorem idx0 : ∀ t : Fin cfg0.N, win0_0.index t = ![0] ∧ win0_1.index t = ![t.val % 32, 1] ∧ win0_2.index t = ![t.val % 32, 8]
    ∧ win0_3.index t = ![(t.val - 1) % 32, 8] ∧ win0_4.index t = ![t.val % 32, 0] ∧ win0_5.index t = ![t.val % 32, 0]
    ∧ win0_6.index t = ![t.val % 32, 0] ∧ win0_7.index t = ![t.val % 32, 0] ∧ win0_8.index t = ![t.val % 32, 0] ∧ win0_9.index t = ![0, 0] := by
  decide +kernel

variable (m : (ℓ : Loc nD τ sig) → Buf (Elt Ideal) ℓ) (c : Dev nD)

theorem blk0_0 (t : Fin cfg0.N) : iblk m c 0 t = V m c main_arg1 := by
  funext y
  obtain ⟨j, rfl⟩ : ∃ (j : Fin 16), y = ix1 j := ⟨y 0, eq_ix1 y⟩
  blk_ext [iblk, idx0 t]

theorem blk0_1 (t : Fin cfg0.N) : X0_1 m c t = queries (V m c main_arg0) t.val := by
  funext y
  obtain ⟨p, q, rfl⟩ : ∃ (p : Fin 128) (q : Fin 1024), y = ix2 p q := ⟨y 0, y 1, eq_ix2 y⟩
  unfold X0_1 Pipeline.Window.fill
  rw [dif_pos (moved0_1 t _)]
  unfold queries
  blk_ext [iblk, idx0 t, rowAt]

theorem blk0_2 (t : Fin cfg0.N) : iblk m c 2 t = keysValues (V m c main_arg0) t.val := by
  funext y
  obtain ⟨p, q, rfl⟩ : ∃ (p : Fin 128) (q : Fin 256), y = ix2 p q := ⟨y 0, y 1, eq_ix2 y⟩
  unfold keysValues
  blk_ext [iblk, idx0 t, rowAt]

theorem blk0_3 (t : Fin cfg0.N) : iblk m c 3 t = keysValues (V m c main_arg0) (t.val - 1) := by
  funext y
  obtain ⟨p, q, rfl⟩ : ∃ (p : Fin 128) (q : Fin 256), y = ix2 p q := ⟨y 0, y 1, eq_ix2 y⟩
  unfold keysValues
  blk_ext [iblk, idx0 t, rowAt]

theorem blk0_4 (t : Fin cfg0.N) : iblk m c 4 t = rowsOf (V m c main_v71) t.val := by
  funext y
  obtain ⟨p, q, rfl⟩ : ∃ (p : Fin 128) (q : Fin 1024), y = ix2 p q := ⟨y 0, y 1, eq_ix2 y⟩
  unfold rowsOf
  blk_ext [iblk, idx0 t, rowAt]

theorem blk0_5 (t : Fin cfg0.N) : iblk m c 5 t = rowsOf (V m c main_arg2) t.val := by
  funext y
  obtain ⟨p, q, rfl⟩ : ∃ (p : Fin 128) (q : Fin 1024), y = ix2 p q := ⟨y 0, y 1, eq_ix2 y⟩
  unfold rowsOf
  blk_ext [iblk, idx0 t, rowAt]

/-- After point `t` the queries' gradient's block. -/
theorem outs6 (t : Fin cfg0.N) (q : Fin 128) (j : Fin 1024) : (outsAt0 m c t.val t.isLt).1 (ix2 q j)
    = dqueryAt (t.val % 32) (V m c main_arg1) (queries (V m c main_arg0) t.val) (keysValues (V m c main_arg0) t.val) (keysValues (V m c main_arg0) (t.val - 1)) (rowsOf (V m c main_v71) t.val) (rowsOf (V m c main_arg2) t.val) q j := by
  have hN : t.val < 32 := lt_of_lt_of_eq t.isLt N_0
  by_cases h0 : t.val % 32 = 0
  · rw [outsAt0_A m c t h0 (by omega)]
    dsimp only
    rw [out0_A_6_apply, coords0, blk0_0, blk0_1, blk0_2, blk0_3, blk0_4, blk0_5]
  · rw [outsAt0_B m c t h0 (by omega)]
    dsimp only
    rw [out0_B_6_apply, coords0, blk0_0, blk0_1, blk0_2, blk0_3, blk0_4, blk0_5]

/-- After point `t` the block's own keys' and values' gradient. -/
theorem outs7 (t : Fin cfg0.N) (q : Fin 128) (j : Fin 256) : (outsAt0 m c t.val t.isLt).2.1 (ix2 q j)
    = dbandAt (t.val % 32) (V m c main_arg1) (queries (V m c main_arg0) t.val) (keysValues (V m c main_arg0) t.val) (keysValues (V m c main_arg0) (t.val - 1)) (rowsOf (V m c main_v71) t.val) (rowsOf (V m c main_arg2) t.val) ⟨128 + q.val, by omega⟩ j := by
  have hN : t.val < 32 := lt_of_lt_of_eq t.isLt N_0
  by_cases h0 : t.val % 32 = 0
  · rw [outsAt0_A m c t h0 (by omega)]
    dsimp only
    rw [out0_A_7_apply, coords0, blk0_0, blk0_1, blk0_2, blk0_3, blk0_4, blk0_5]
  · rw [outsAt0_B m c t h0 (by omega)]
    dsimp only
    rw [out0_B_7_apply, coords0, blk0_0, blk0_1, blk0_2, blk0_3, blk0_4, blk0_5]

/-- After point `t` the previous block's keys' and values' gradient. -/
theorem outs8 (t : Fin cfg0.N) (q : Fin 128) (j : Fin 256) : (outsAt0 m c t.val t.isLt).2.2.1 (ix2 q j)
    = dbandAt (t.val % 32) (V m c main_arg1) (queries (V m c main_arg0) t.val) (keysValues (V m c main_arg0) t.val) (keysValues (V m c main_arg0) (t.val - 1)) (rowsOf (V m c main_v71) t.val) (rowsOf (V m c main_arg2) t.val) ⟨0 + q.val, by omega⟩ j := by
  have hN : t.val < 32 := lt_of_lt_of_eq t.isLt N_0
  by_cases h0 : t.val % 32 = 0
  · rw [outsAt0_A m c t h0 (by omega)]
    dsimp only
    rw [out0_A_8_apply, coords0, blk0_0, blk0_1, blk0_2, blk0_3, blk0_4, blk0_5]
  · rw [outsAt0_B m c t h0 (by omega)]
    dsimp only
    rw [out0_B_8_apply, coords0, blk0_0, blk0_1, blk0_2, blk0_3, blk0_4, blk0_5]

/-- What a block adds to the sinks' gradient. -/
def addS (j : Fin 16) (n : Nat) : EReal := sinkCol (n % 32) (V m c main_arg1) (queries (V m c main_arg0) n) (keysValues (V m c main_arg0) n) (keysValues (V m c main_arg0) (n - 1)) (rowsOf (V m c main_v71) n) (rowsOf (V m c main_arg2) n) j

/-- After point `n` the sinks' gradient holds the sums over the blocks so far. -/
theorem outs9 (j : Fin 16) : ∀ (n : Nat) (hn : n < cfg0.N), (outsAt0 m c n hn).2.2.2 (ix2 0 j) = ∑ i ∈ Finset.range (n + 1), addS m c j i := by
  intro n
  induction n using Nat.strong_induction_on with
  | _ n ih =>
    intro hn
    have hN : n < 32 := lt_of_lt_of_eq hn N_0
    have e : sinkCol (grid0.coords (⟨n, hn⟩ : Fin cfg0.N) 0).val (iblk m c 0 ⟨n, hn⟩) (X0_1 m c ⟨n, hn⟩) (iblk m c 2 ⟨n, hn⟩) (iblk m c 3 ⟨n, hn⟩) (iblk m c 4 ⟨n, hn⟩)
        (iblk m c 5 ⟨n, hn⟩) j = addS m c j n := by
      rw [coords0, blk0_0, blk0_1, blk0_2, blk0_3, blk0_4, blk0_5]
      rfl
    by_cases h0 : n % 32 = 0
    · rw [outsAt0_A m c ⟨n, hn⟩ h0 (show ¬1 ≤ n by omega)]
      dsimp only
      obtain rfl : n = 0 := by omega
      rw [out0_A_9_apply, Finset.sum_range_one]
      exact e
    · rw [outsAt0_B m c ⟨n, hn⟩ h0 (show 1 ≤ n by omega)]
      dsimp only
      rw [out0_B_9_apply, Finset.sum_range_succ, ← e, ih (n - 1) (by omega) _, show n - 1 + 1 = n by omega]

/-- The three gradients, block by block. -/
def dqAll (n : Nat) (q : Fin 128) (j : Fin 1024) : EReal := dqueryAt n (V m c main_arg1) (queries (V m c main_arg0) n) (keysValues (V m c main_arg0) n) (keysValues (V m c main_arg0) (n - 1)) (rowsOf (V m c main_v71) n) (rowsOf (V m c main_arg2) n) q j

@[inherit_doc dqAll] def dcurAll (n : Nat) (q : Fin 128) (j : Fin 256) : EReal := dbandAt n (V m c main_arg1) (queries (V m c main_arg0) n) (keysValues (V m c main_arg0) n) (keysValues (V m c main_arg0) (n - 1)) (rowsOf (V m c main_v71) n) (rowsOf (V m c main_arg2) n) ⟨128 + q.val, by omega⟩ j

@[inherit_doc dqAll] def dprevAll (n : Nat) (q : Fin 128) (j : Fin 256) : EReal := dbandAt n (V m c main_arg1) (queries (V m c main_arg0) n) (keysValues (V m c main_arg0) n) (keysValues (V m c main_arg0) (n - 1)) (rowsOf (V m c main_v71) n) (rowsOf (V m c main_arg2) n) ⟨0 + q.val, by omega⟩ j

theorem atRow {a : Nat} (f : Nat → Fin 128 → Fin a → EReal) {n r : Nat} {q : Fin 128} {j j' : Fin a} (hr : r = n * 128 + q.val) (hj : j.val = j'.val) :
    f n q j = f (r / 128) ⟨r % 128, Nat.mod_lt _ (by decide)⟩ j' := by
  obtain rfl := Fin.ext hj
  subst hr
  have e : (n * 128 + q.val) / 128 = n := by omega
  have e' : (⟨(n * 128 + q.val) % 128, Nat.mod_lt _ (by decide)⟩ : Fin 128) = q := Fin.ext (by show (n * 128 + q.val) % 128 = q.val; omega)
  rw [e, e']

/-- The queries' gradient, as the region leaves it. -/
theorem arr6 : (dats m 0 c).arrAt 6 cfg0.N = fun y : S4096x1024.Idx => dqAll m c ((y 0).val / 128) ⟨(y 0).val % 128, Nat.mod_lt _ (by decide)⟩ (y 1) := by
  refine (dats m 0 c).arrAt_eq_of_covers 6 _ (by decide +kernel) fun t hf y => ?_
  have hN : t.val < 32 := lt_of_lt_of_eq t.isLt N_0
  blk_simp
  rw [after0_6]
  obtain ⟨q, j, rfl⟩ : ∃ (q : Fin 128) (j : Fin 1024), y = ix2 q j := ⟨y 0, y 1, eq_ix2 y⟩
  refine (outs6 m c t q j).trans ?_
  rw [Nat.mod_eq_of_lt hN]
  refine atRow (dqAll m c) ?_ ?_
  · have e0 : win0_6.index t 0 = t.val % 32 := by rw [(idx0 t).2.2.2.2.2.2.1]; rfl
    rw [e0]
    show t.val % 32 * 128 + q.val = t.val * 128 + q.val
    omega
  · blk_ext [idx0 t]

/-- The keys' and values' gradient of the blocks themselves, as the region leaves it. -/
theorem arr7 : (dats m 0 c).arrAt 7 cfg0.N = fun y : S4096x256.Idx => dcurAll m c ((y 0).val / 128) ⟨(y 0).val % 128, Nat.mod_lt _ (by decide)⟩ (y 1) := by
  refine (dats m 0 c).arrAt_eq_of_covers 7 _ (by decide +kernel) fun t hf y => ?_
  have hN : t.val < 32 := lt_of_lt_of_eq t.isLt N_0
  blk_simp
  rw [after0_7]
  obtain ⟨q, j, rfl⟩ : ∃ (q : Fin 128) (j : Fin 256), y = ix2 q j := ⟨y 0, y 1, eq_ix2 y⟩
  refine (outs7 m c t q j).trans ?_
  rw [Nat.mod_eq_of_lt hN]
  refine atRow (dcurAll m c) ?_ ?_
  · have e0 : win0_7.index t 0 = t.val % 32 := by rw [(idx0 t).2.2.2.2.2.2.2.1]; rfl
    rw [e0]
    show t.val % 32 * 128 + q.val = t.val * 128 + q.val
    omega
  · blk_ext [idx0 t]

/-- The keys' and values' gradient of the blocks before, as the region leaves it. -/
theorem arr8 : (dats m 0 c).arrAt 8 cfg0.N = fun y : S4096x256.Idx => dprevAll m c ((y 0).val / 128) ⟨(y 0).val % 128, Nat.mod_lt _ (by decide)⟩ (y 1) := by
  refine (dats m 0 c).arrAt_eq_of_covers 8 _ (by decide +kernel) fun t hf y => ?_
  have hN : t.val < 32 := lt_of_lt_of_eq t.isLt N_0
  blk_simp
  rw [after0_8]
  obtain ⟨q, j, rfl⟩ : ∃ (q : Fin 128) (j : Fin 256), y = ix2 q j := ⟨y 0, y 1, eq_ix2 y⟩
  refine (outs8 m c t q j).trans ?_
  rw [Nat.mod_eq_of_lt hN]
  refine atRow (dprevAll m c) ?_ ?_
  · have e0 : win0_8.index t 0 = t.val % 32 := by rw [(idx0 t).2.2.2.2.2.2.2.2.1]; rfl
    rw [e0]
    show t.val % 32 * 128 + q.val = t.val * 128 + q.val
    omega
  · blk_ext [idx0 t]

/-- The sinks' gradient, all blocks together. -/
def sinkAll (j : Fin 16) : EReal := ∑ n ∈ Finset.range 32, addS m c j n

/-- The sinks' gradient, as the region leaves it. -/
theorem arr9 : (dats m 0 c).arrAt 9 cfg0.N = fun y : S1x16.Idx => sinkAll m c (y 1) := by
  refine (dats m 0 c).arrAt_eq_of_covers 9 _ (by decide +kernel) fun t hf y => ?_
  have hN : t.val < 32 := lt_of_lt_of_eq t.isLt N_0
  blk_simp
  rw [after0_9]
  obtain ⟨z, j, rfl⟩ : ∃ (z : Fin 1) (j : Fin 16), y = ix2 z j := ⟨y 0, y 1, eq_ix2 y⟩
  obtain rfl : z = 0 := Subsingleton.elim _ _
  have h31 : t.val + 1 = 32 := by have := (flush0_9 t).mp hf; omega
  rw [outs9 m c j t.val t.isLt, h31]
  refine congrArg (sinkAll m c) (Fin.ext ?_)
  blk_ext [idx0 t]

end Cert.Kernel17Ideal.Hand

end
-- ==== Proof.AttnHost.lean ====
module

public import proofs.«01_k».proof.Proof.AttnArrays
public import proofs.«01_k».proof.Proof.Gen.Reference17Ideal.Read
public import Idealize.ShloMosaic.Lib.Claim
public import Idealize.ShloMosaic.Lib.Tactic.CleanTypes

@[expose] public section

noncomputable section

namespace Cert.Kernel17Ideal.Hand

open Idealize.ShloMosaic Idealize.ShloMosaic.TcCoe Idealize.SL.Sem Cert.Kernel17Ideal Cert.Kernel17Ideal.Gen Cert.Attn

/-! The forward output the host prepares. -/

section forward

variable (s : FVec Ideal S32x2x8x128x256 .f32) (v : FVec Ideal S32x256x2x64 .f32) (σ : FVec Ideal S16 .f32)

/-- Each row's sink. -/
def sinkWide : FVec Ideal S32x2x8x128x1 .f32 :=
  broadcastInDim S32x2x8x128x1 ![0, 1, 2, 3, 4] bcast_S1x2x8x1x1_S32x2x8x128x1_0_1_2_3_4 (shapeCast S1x2x8x1x1 σ shapeCasts_S16_S1x2x8x1x1)

/-- Each row's maximum. -/
def topWide : FVec Ideal S32x2x8x128x1 .f32 :=
  maximumf (broadcastInDim S32x2x8x128x1 ![0, 1, 2, 3] bcast_S32x2x8x128_S32x2x8x128x1_0_1_2_3
    (Host.reduce FloatOps.maximumf s (constant (F := Ideal) S_ .f32 0xFF800000#32) reducesTo_S32x2x8x128x256_S32x2x8x128_d4 h_S_)) (sinkWide σ)

/-- The exponentials. -/
def expWide : FVec Ideal S32x2x8x128x256 .f32 :=
  Host.exp (subf s (broadcastInDim S32x2x8x128x256 ![0, 1, 2, 3, 4] bcast_S32x2x8x128x1_S32x2x8x128x256_0_1_2_3_4 (topWide s σ)))

/-- The denominators. -/
def denWide : FVec Ideal S32x2x8x128x1 .f32 :=
  addf (broadcastInDim S32x2x8x128x1 ![0, 1, 2, 3] bcast_S32x2x8x128_S32x2x8x128x1_0_1_2_3
    (Host.reduceAdd (expWide s σ) (constant (F := Ideal) S_ .f32 0x00000000#32) reducesTo_S32x2x8x128x256_S32x2x8x128_d4 h_S_))
    (Host.exp (subf (sinkWide σ) (topWide s σ)))

/-- The attention's output from the masked scores, the values and the sinks. -/
def outWide : FVec Ideal S4096x1024 .f32 :=
  shapeCast S4096x1024 (transpose S32x128x2x8x64 [0, 4, 1, 3, 2]
    (Host.dotGeneral dot_S32x256x2x64_S32x2x8x128x256_S32x2x64x8x128_1_4_3_23_02_01 none v
      (Host.divf (expWide s σ) (broadcastInDim S32x2x8x128x256 ![0, 1, 2, 3, 4] bcast_S32x2x8x128x1_S32x2x8x128x256_0_1_2_3_4 (denWide s σ))))
    transposes_S32x2x64x8x128_S32x128x2x8x64_0_4_1_3_2) shapeCasts_S32x128x2x8x64_S4096x1024

end forward

variable (m : (ℓ : Loc nD τ sig) → Buf (Elt Ideal) ℓ) (c : Dev nD)

theorem V_v51 : V m c main_v51 = Cert.Reference17Ideal.Read.val_main_v51_0 (F := Ideal) (m ((c : Thread nD τ).loc main_arg0)) := by
  unfold V
  simp only [hostOps0, hostOps0_1, hostOps0_2, List.flatten_cons, List.flatten_nil, List.cons_append, List.nil_append, List.append_nil]
  after_results
  rfl

theorem V_v16 : V m c main_v16 = Cert.Reference17Ideal.Read.val_main_v16 (F := Ideal) (m ((c : Thread nD τ).loc main_arg0)) := by
  unfold V
  simp only [hostOps0, hostOps0_1, hostOps0_2, List.flatten_cons, List.flatten_nil, List.cons_append, List.nil_append, List.append_nil]
  after_results
  rfl

theorem V_v71 : V m c main_v71 = outWide (Cert.Reference17Ideal.Read.val_main_v51_0 (F := Ideal) (m ((c : Thread nD τ).loc main_arg0)))
    (Cert.Reference17Ideal.Read.val_main_v16 (F := Ideal) (m ((c : Thread nD τ).loc main_arg0))) (m ((c : Thread nD τ).loc main_arg1)) := by
  unfold V
  simp only [hostOps0, hostOps0_1, hostOps0_2, List.flatten_cons, List.flatten_nil, List.cons_append, List.nil_append, List.append_nil]
  after_results
  rfl

end Cert.Kernel17Ideal.Hand

end
-- ==== Proof.AttnRead.lean ====
module

public import proofs.«01_k».proof.Proof.AttnHost

@[expose] public section

noncomputable section

namespace Cert.Reference17Ideal.Hand

open Idealize.ShloMosaic Cert.Reference17Ideal Cert.Reference17Ideal.Read Cert.Attn

variable (x0 : S4096x2304.Idx → EReal)

/-- The block of keys and values before block `n`, zeros before the first. -/
def before (P : S4096x2304.Idx → EReal) (n : Nat) : (⟨2, ![128, 256]⟩ : Shape).Idx → EReal := fun y => if n = 0 then 0 else keysValues P (n - 1) y

theorem before_zero (P : S4096x2304.Idx → EReal) {n : Nat} (hn : n = 0) (y : (⟨2, ![128, 256]⟩ : Shape).Idx) : before P n y = 0 := if_pos hn

theorem before_later (P : S4096x2304.Idx → EReal) {n : Nat} (hn : n ≠ 0) (y : (⟨2, ![128, 256]⟩ : Shape).Idx) :
    before P n y = keysValues P (n - 1) y := if_neg hn

/-- Row `q` of query group `g`, among the stacked rows. -/
def stacked (g : Fin 8) (q : Fin 128) : Fin 1024 := ⟨g.val * 128 + q.val, by omega⟩

theorem pos_stacked (g : Fin 8) (q : Fin 128) : pos (stacked g q) = q := Fin.ext (by show (g.val * 128 + q.val) % 128 = q.val; omega)

theorem group_stacked (g : Fin 8) (q : Fin 128) : (stacked g q).val / 128 = g.val := by show (g.val * 128 + q.val) / 128 = g.val; omega

/-- An entry of the joined projections at two spellings of one place. -/
theorem atP {r r' : Fin 4096} {j j' : Fin 2304} (hr : r.val = r'.val) (hj : j.val = j'.val) : x0 (ix2 r j) = x0 (ix2 r' j') := by
  rw [Fin.ext hr, Fin.ext hj]

/-- The queries. -/
theorem v10_apply (n : Fin 32) (q : Fin 128) (h : Fin 2) (g : Fin 8) (d : Fin 64) : val_main_v10 (F := Ideal) x0 (ix5 n q h g d)
    = queries x0 n.val (ix2 (pos (stacked g q)) (col h (stacked g q) d)) := by
  rw [pos_stacked]
  unfold val_main_v10
  pointwise [val_main_v1, val_main_v0]
  refine atP x0 ?_ ?_
  · show n.val * 128 + q.val = n.val % 32 * 128 + q.val
    omega
  · show 1024 + (h.val * 512 + g.val * 64 + d.val) = 1024 + (h.val * 512 + (stacked g q).val / 128 * 64 + d.val)
    rw [group_stacked]

/-- The keys of a block and the block before it. -/
theorem v13_apply (n : Fin 32) (k : Fin 256) (h : Fin 2) (d : Fin 64) : val_main_v13 (F := Ideal) x0 (ix4 n k h d)
    = key (keysValues x0 n.val) (before x0 n.val) h k d := by
  unfold val_main_v13
  pointwise [val_main_v11, val_main_v12, val_main_v6, val_main_v4, val_main_cst, val_main_v5, val_main_v2, val_main_v0]
  unfold key band
  by_cases hk : k.val < 128
  · rw [dif_pos hk, dif_pos hk]
    by_cases hn : n.val = 0
    · have hr : n.val * 128 + k.val < 128 := by omega
      exact (dif_pos hr).trans (before_zero x0 hn _).symm
    · have hr : ¬n.val * 128 + k.val < 128 := by omega
      refine (dif_neg hr).trans (Eq.trans ?_ (before_later x0 hn _).symm)
      unfold keysValues
      refine atP x0 ?_ ?_
      · show n.val * 128 + k.val - 128 = (n.val - 1) % 32 * 128 + k.val
        omega
      · show 2048 + (h.val * 64 + d.val) = 2048 + (h.val * 64 + d.val)
        rfl
  · rw [dif_neg hk, dif_neg hk]
    unfold keysValues
    refine atP x0 ?_ ?_
    · show n.val * 128 + (k.val - 128) = n.val % 32 * 128 + (k.val - 128)
      omega
    · show 2048 + (h.val * 64 + d.val) = 2048 + (h.val * 64 + d.val)
      rfl

/-- The values of a block and the block before it. -/
theorem v16_apply (n : Fin 32) (k : Fin 256) (h : Fin 2) (d : Fin 64) : val_main_v16 (F := Ideal) x0 (ix4 n k h d)
    = value (keysValues x0 n.val) (before x0 n.val) h k d := by
  unfold val_main_v16
  pointwise [val_main_v14, val_main_v15, val_main_v9, val_main_v7, val_main_cst_0, val_main_v8, val_main_v3, val_main_v0]
  unfold value band
  by_cases hk : k.val < 128
  · rw [dif_pos hk, dif_pos hk]
    by_cases hn : n.val = 0
    · have hr : n.val * 128 + k.val < 128 := by omega
      exact (dif_pos hr).trans (before_zero x0 hn _).symm
    · have hr : ¬n.val * 128 + k.val < 128 := by omega
      refine (dif_neg hr).trans (Eq.trans ?_ (before_later x0 hn _).symm)
      unfold keysValues
      refine atP x0 ?_ ?_
      · show n.val * 128 + k.val - 128 = (n.val - 1) % 32 * 128 + k.val
        omega
      · show 2176 + (h.val * 64 + d.val) = 2048 + (128 + h.val * 64 + d.val)
        omega
  · rw [dif_neg hk, dif_neg hk]
    unfold keysValues
    refine atP x0 ?_ ?_
    · show n.val * 128 + (k.val - 128) = n.val % 32 * 128 + (k.val - 128)
      omega
    · show 2176 + (h.val * 64 + d.val) = 2048 + (128 + h.val * 64 + d.val)
      omega

/-- No key before the sequence's start is attended to. -/
theorem start (n : Fin 32) (k : Fin 256) :
    IntOp.cmpi CmpIPredicate.sge (IntOp.subi (IntOp.addi (IntOp.muli (BitVec.ofNat 32 n.val) 128#32) (BitVec.ofNat 32 k.val)) 128#32) 0#32
      = BitVec.ofBool (decide (128 ≤ k.val ∨ 0 < n.val)) := by
  revert n k
  decide +kernel

/-- The mask. -/
theorem v50_apply (n : Fin 32) (q : Fin 128) (k : Fin 256) : val_main_v50 (F := Ideal) (ix5 n 0 0 q k) = BitVec.ofBool (decide (valid n.val q k)) := by
  unfold val_main_v50
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_c, val_main_c_2, val_main_c_3, val_main_c_4]
  rw [Cert.Kernel17Ideal.Hand.window, start]
  unfold valid
  simp only [IntOp.andi, ← and_assoc, Bool.decide_and]
  generalize decide (128 ≤ k.val ∨ 0 < n.val) = a
  generalize (decide (q.val < k.val) && decide (k.val ≤ q.val + 128)) = b
  revert a b; decide

/-- The masked scores. -/
theorem v51_apply (n : Fin 32) (q : Fin 128) (h : Fin 2) (g : Fin 8) (k : Fin 256) : val_main_v51_0 (F := Ideal) x0 (ix5 n h g q k)
    = score n.val (queries x0 n.val) (keysValues x0 n.val) (before x0 n.val) h (stacked g q) k := by
  unfold val_main_v51_0
  unfold val_main_v51_1
  pointwise [val_main_call0_v2, val_main_call0_v0, val_main_v20, val_main_v18, val_main_v19, val_main_v17, val_main_cst_1, val_main_cst_5]
  simp only [v10_apply, v13_apply]
  rw [v50_apply, Cert.Kernel17Ideal.Hand.select_ofBool]
  unfold score
  rw [pos_stacked]
  refine if_congr Iff.rfl (congrArg (· * eighth) (Finset.sum_congr rfl fun _ _ => mul_comm _ _)) ?_
  show Ideal.ofBits .f32 0xFF800000#32 = ⊥
  exact Cert.Kernel17Ideal.Hand.negInf

end Cert.Reference17Ideal.Hand

end
-- ==== Proof.AttnRow.lean ====
module

public import proofs.«01_k».proof.Proof.AttnSpec
public import proofs.«01_k».proof.Proof.GateAlgebra

@[expose] public section

noncomputable section

namespace Cert.Attn

open Idealize.ShloMosaic
open Cert.KernelIdeal.Hand (IsReal)

/-! One row's gradients: what the chain rule spells through the maximum, the exponentials and the quotient is, of real numbers, the closed
form. -/

theorem coe_sum {ι : Type} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

theorem sum_real {ι : Type} (t : Finset ι) (f : ι → EReal) (h : ∀ i, IsReal (f i)) : IsReal (∑ i ∈ t, f i) := by
  choose r hr using h
  exact ⟨∑ i ∈ t, r i, by rw [coe_sum]; exact Finset.sum_congr rfl fun i _ => hr i⟩

section row

variable (s : Fin 256 → EReal) (σ : EReal) (G : Fin 256 → EReal)

/-- What a row's quotient sends back to its denominator. -/
def rowUp : EReal := -∑ k, G k * Ideal.div 1 (rowDen s σ * rowDen s σ) * Ideal.exp (s k - rowTop s σ)

/-- What a row sends back to a score, but for what passes through the maximum. -/
def rowRaw (k : Fin 256) : EReal := (Ideal.div (G k) (rowDen s σ) + rowUp s σ G) * Ideal.exp (s k - rowTop s σ)

/-- What a row sends back to its maximum. -/
def rowLeak : EReal := -(rowUp s σ G * Ideal.exp (σ - rowTop s σ)) + ∑ k, -rowRaw s σ G k

variable (hs : ∀ k, s k = ⊥ ∨ IsReal (s k)) (hσ : IsReal σ)

include hs hσ in
theorem rowTop_real : IsReal (rowTop s σ) := by
  obtain ⟨w, rfl⟩ := hσ
  have lo : (⊥ : EReal) < rowTop s w := lt_of_lt_of_le (EReal.bot_lt_coe w) (le_max_right _ _)
  have hi : rowTop s w < ⊤ := by
    refine max_lt ((Finset.fold_max_lt (⊤ : EReal)).mpr ⟨bot_lt_top, fun k _ => ?_⟩) (EReal.coe_lt_top w)
    rcases hs k with h | ⟨x, h⟩
    · rw [h]; exact bot_lt_top
    · rw [h]; exact EReal.coe_lt_top x
  exact ⟨_, (EReal.coe_toReal hi.ne lo.ne').symm⟩

include hs hσ in
/-- A row's exponentials are real numbers, none negative, their sum positive. -/
theorem row_real : ∃ (E : Fin 256 → ℝ) (e : ℝ), (∀ k, Ideal.exp (s k - rowTop s σ) = E k) ∧ Ideal.exp (σ - rowTop s σ) = e
    ∧ (∑ k, E k) + e ≠ 0 ∧ rowDen s σ = (((∑ k, E k) + e : ℝ) : EReal) ∧ ∀ k, s k = ⊥ → E k = 0 := by
  obtain ⟨t, ht⟩ := rowTop_real s σ hs hσ
  obtain ⟨w, hw⟩ := hσ
  have hE : ∀ k, ∃ r : ℝ, Ideal.exp (s k - rowTop s σ) = r ∧ 0 ≤ r ∧ (s k = ⊥ → r = 0) := fun k => by
    rw [ht]
    rcases hs k with h | ⟨x, h⟩
    · exact ⟨0, by rw [h, EReal.bot_sub]; rfl, le_refl _, fun _ => rfl⟩
    · exact ⟨Real.exp (x - t), by rw [h, ← EReal.coe_sub]; rfl, (Real.exp_pos _).le, fun h' => absurd (h.symm.trans h') (EReal.coe_ne_bot x)⟩
  choose E hE1 hE2 hE3 using hE
  have he : Ideal.exp (σ - rowTop s σ) = (Real.exp (w - t) : ℝ) := by rw [ht, hw, ← EReal.coe_sub]; rfl
  refine ⟨E, Real.exp (w - t), hE1, he, ?_, ?_, hE3⟩
  · exact (add_pos_of_nonneg_of_pos (Finset.sum_nonneg fun k _ => hE2 k) (Real.exp_pos _)).ne'
  · unfold rowDen
    rw [he, EReal.coe_add, coe_sum]
    exact congrArg (· + _) (Finset.sum_congr rfl fun k _ => hE1 k)

include hs hσ in
theorem rowP_real (k : Fin 256) : IsReal (rowP s σ k) := by
  obtain ⟨E, e, hE, he, hD, hd, -⟩ := row_real s σ hs hσ
  unfold rowP
  rw [hE, hd, Ideal.div_coe hD]
  exact ⟨_, rfl⟩

include hs hσ in
theorem rowSink_real : IsReal (rowSink s σ) := by
  obtain ⟨E, e, hE, he, hD, hd, -⟩ := row_real s σ hs hσ
  unfold rowSink
  rw [he, hd, Ideal.div_coe hD]
  exact ⟨_, rfl⟩

include hs hσ in
/-- A masked key has probability nothing. -/
theorem rowP_masked (k : Fin 256) (hk : s k = ⊥) : rowP s σ k = 0 := by
  obtain ⟨E, e, hE, he, hD, hd, h0⟩ := row_real s σ hs hσ
  unfold rowP
  rw [hE, hd, Ideal.div_coe hD, h0 k hk, EReal.coe_zero, zero_mul]

/-- The three results of one row over the real numbers. -/
theorem row_algebra (E G : Fin 256 → ℝ) (e D : ℝ) (hD : D ≠ 0) (hs : (∑ k, E k) + e = D) :
    (-(-(∑ k, G k * (1 / (D * D)) * E k) * e) + ∑ k, -((G k / D + -(∑ j, G j * (1 / (D * D)) * E j)) * E k) = 0)
    ∧ (∀ k, (G k / D + -(∑ j, G j * (1 / (D * D)) * E j)) * E k = E k / D * (G k - ∑ j, E j / D * G j))
    ∧ -(∑ k, G k * (1 / (D * D)) * E k) * e = -(e / D * ∑ j, E j / D * G j) := by
  have h1 : ∑ k, G k * (1 / (D * D)) * E k = (∑ k, G k * E k) / (D * D) := by
    rw [Finset.sum_div]; exact Finset.sum_congr rfl fun k _ => by field_simp
  have h2 : ∑ j, E j / D * G j = (∑ k, G k * E k) / D := by
    rw [Finset.sum_div]; exact Finset.sum_congr rfl fun k _ => by field_simp
  have h3 : ∀ u : ℝ, ∑ k, -((G k / D + -u) * E k) = -((∑ k, G k * E k) / D) + u * ∑ k, E k := fun u => by
    rw [Finset.sum_div, Finset.mul_sum, ← Finset.sum_neg_distrib, ← Finset.sum_add_distrib]
    exact Finset.sum_congr rfl fun k _ => by ring
  rw [h1, h2, h3]
  have hE : ∑ k, E k = D - e := by linarith
  refine ⟨?_, fun k => ?_, ?_⟩
  · rw [hE]; field_simp; ring
  · field_simp; ring
  · field_simp

include hs hσ in
theorem row_closed (hG : ∀ k, IsReal (G k)) :
    rowLeak s σ G = 0 ∧ (∀ k, rowRaw s σ G k = rowP s σ k * (G k - ∑ j, rowP s σ j * G j))
    ∧ rowUp s σ G * Ideal.exp (σ - rowTop s σ) = -(rowSink s σ * ∑ j, rowP s σ j * G j) := by
  obtain ⟨E, e, hE, he, hD, hd, -⟩ := row_real s σ hs hσ
  choose g hg using hG
  have hG' : G = fun k => (g k : EReal) := funext hg
  subst hG'
  obtain ⟨r1, r2, r3⟩ := row_algebra E g e _ hD rfl
  unfold rowLeak rowRaw rowUp rowP rowSink
  simp only [hE, he, hd, ← EReal.coe_one, ← EReal.coe_mul, Ideal.div_coe hD, Ideal.div_coe (mul_ne_zero hD hD), ← coe_sum, ← EReal.coe_neg, ← EReal.coe_sub,
    ← EReal.coe_add, EReal.coe_eq_coe_iff, ← EReal.coe_zero]
  simp only [one_mul, mul_one_div] at r1 r2 r3 ⊢
  exact ⟨r1, r2, r3⟩

end row

/-- A row's output times its cotangent, as the probabilities weigh the products of the cotangent and the values. -/
theorem delta_swap (p : Fin 256 → EReal) (a : Fin 64 → EReal) (v : Fin 256 → Fin 64 → EReal) (hp : ∀ k, IsReal (p k)) (ha : ∀ d, IsReal (a d))
    (hv : ∀ k d, IsReal (v k d)) : ∑ d, a d * ∑ k, v k d * p k = ∑ k, p k * ∑ d, a d * v k d := by
  choose P hP using hp
  choose A hA using ha
  choose V hV using hv
  simp only [hP, hA, hV, ← EReal.coe_mul, ← coe_sum, EReal.coe_eq_coe_iff, Finset.mul_sum]
  rw [Finset.sum_comm]
  exact Finset.sum_congr rfl fun k _ => Finset.sum_congr rfl fun d _ => by ring

/-- A sum over the stacked rows, query group by query group. -/
theorem sum_stacked {M : Type} [AddCommMonoid M] (f : Fin 1024 → M) :
    ∑ r, f r = ∑ g : Fin 8, ∑ q : Fin 128, f ⟨g.val * 128 + q.val, by omega⟩ := by
  rw [← Fintype.sum_prod_type' (fun (g : Fin 8) (q : Fin 128) => f ⟨g.val * 128 + q.val, by omega⟩)]
  refine (Fintype.sum_equiv (finProdFinEquiv (m := 8) (n := 128)) _ _ fun x => ?_).symm
  refine congrArg f (Fin.ext ?_)
  show x.1.val * 128 + x.2.val = x.2.val + 128 * x.1.val
  omega

end Cert.Attn

end
-- ==== Proof.AttnBack.lean ====
module

public import proofs.«01_k».proof.Proof.AttnRead
public import proofs.«01_k».proof.Proof.AttnRow

@[expose] public section

noncomputable section

namespace Cert.Reference17Ideal.Hand

open Idealize.ShloMosaic Idealize.ShloMosaic.TcCoe Idealize.SL.Sem Cert.Reference17Ideal Cert.Reference17Ideal.Read Cert.Attn

/-! The reference's backward, entry by entry. -/

variable (x0 : S4096x2304.Idx → EReal) (x1 : S16.Idx → EReal) (x2 : S4096x1024.Idx → EReal)

/-- A row's scores. -/
def rowS (n : Fin 32) (h : Fin 2) (g : Fin 8) (q : Fin 128) (k : Fin 256) : EReal := val_main_v51_0 (F := Ideal) x0 (ix5 n h g q k)

/-- A row's sink. -/
def rowσ (h : Fin 2) (g : Fin 8) : EReal := x1 (ix1 ⟨h.val * 8 + g.val, by omega⟩)

/-- The gradients of a row's probabilities. -/
def rowG (n : Fin 32) (h : Fin 2) (g : Fin 8) (q : Fin 128) (k : Fin 256) : EReal := val_main_v100 (F := Ideal) x0 x2 (ix5 n h g q k)

variable (n : Fin 32) (h : Fin 2) (g : Fin 8) (q : Fin 128) (k : Fin 256)

theorem v53_apply : val_main_v53 (F := Ideal) x0 (ix4 n h g q) = Finset.fold max ⊥ (rowS x0 n h g q) Finset.univ := by
  unfold val_main_v53
  pointwise [val_main_cst_6]
  rw [Cert.Kernel17Ideal.Hand.negInf]
  rfl

theorem v59_apply : val_main_v59 (F := Ideal) x0 (ix5 n h g q 0) = Finset.fold max ⊥ (rowS x0 n h g q) Finset.univ := by
  unfold val_main_v59
  pointwise []
  exact v53_apply x0 n h g q

theorem v60_apply : val_main_v60 (F := Ideal) x1 (ix5 n h g q 0) = rowσ x1 h g := by
  unfold val_main_v60
  pointwise [val_main_v52]
  rfl

theorem max_at (a b : FVec Ideal S32x2x8x128x1 .f32) (i : S32x2x8x128x1.Idx) : maximumf a b i = max (a i) (b i) := rfl

/-- The rows' maxima. -/
theorem v61_apply : val_main_v61 (F := Ideal) x0 x1 (ix5 n h g q 0) = rowTop (rowS x0 n h g q) (rowσ x1 h g) := by
  unfold val_main_v61 rowTop
  rw [max_at, v59_apply, v60_apply]

/-- The exponentials. -/
theorem v82_apply : val_main_v82 (F := Ideal) x0 x1 (ix5 n h g q k) = Ideal.exp (rowS x0 n h g q k - rowTop (rowS x0 n h g q) (rowσ x1 h g)) := by
  unfold val_main_v82
  pointwise [val_main_v81, val_main_v80]
  rw [v61_apply]
  rfl

theorem v87_apply : val_main_v87 (F := Ideal) x0 x1 (ix5 n h g q 0) = Ideal.exp (rowσ x1 h g - rowTop (rowS x0 n h g q) (rowσ x1 h g)) := by
  unfold val_main_v87
  pointwise [val_main_v86, val_main_v85, val_main_v52]
  rw [v61_apply]
  rfl

/-- The denominators. -/
theorem v88_apply : val_main_v88 (F := Ideal) x0 x1 (ix5 n h g q 0) = rowDen (rowS x0 n h g q) (rowσ x1 h g) := by
  unfold val_main_v88
  pointwise [val_main_v84, val_main_v83, val_main_cst_14]
  simp only [v82_apply, v87_apply]
  rfl

/-- The probabilities. -/
theorem v90_apply : val_main_v90 (F := Ideal) x0 x1 (ix5 n h g q k) = rowP (rowS x0 n h g q) (rowσ x1 h g) k := by
  unfold val_main_v90
  pointwise [val_main_v89]
  rw [v82_apply, v88_apply]
  rfl

/-- The cotangent of a row's output. -/
def cot (d : Fin 64) : EReal := x2 (ix2 (rowAt n.val q) (col h (stacked g q) d))

theorem cot_eq (d : Fin 64) (hr : n.val * 128 + q.val < 4096) (hc : h.val * 512 + g.val * 64 + d.val < 1024) :
    x2 (ix2 ⟨n.val * 128 + q.val, hr⟩ ⟨h.val * 512 + g.val * 64 + d.val, hc⟩) = cot x2 n h g q d := by
  have e0 : (⟨n.val * 128 + q.val, hr⟩ : Fin 4096) = rowAt n.val q := Fin.ext (by show n.val * 128 + q.val = n.val % 32 * 128 + q.val; omega)
  have e1 : (⟨h.val * 512 + g.val * 64 + d.val, hc⟩ : Fin 1024) = col h (stacked g q) d :=
    Fin.ext (by show h.val * 512 + g.val * 64 + d.val = h.val * 512 + (stacked g q).val / 128 * 64 + d.val; rw [group_stacked])
  unfold cot
  rw [e0, e1]

theorem v100_apply : rowG x0 x2 n h g q k = ∑ d, cot x2 n h g q d * value (keysValues x0 n.val) (before x0 n.val) h k d := by
  unfold rowG val_main_v100
  pointwise [val_main_v99, val_main_v98, val_main_v97]
  simp only [v16_apply]
  exact Finset.sum_congr rfl fun d _ => congrArg (· * _) (cot_eq x2 n h g q d _ _)

/-- The gradient of the values. -/
theorem v101_apply (d : Fin 64) : val_main_v101 (F := Ideal) x0 x1 x2 (ix4 n h d k)
    = ∑ g : Fin 8, ∑ q : Fin 128, cot x2 n h g q d * rowP (rowS x0 n h g q) (rowσ x1 h g) k := by
  unfold val_main_v101
  pointwise [val_main_v99, val_main_v98, val_main_v97]
  simp only [v90_apply]
  exact Finset.sum_congr rfl fun g _ => Finset.sum_congr rfl fun q _ => congrArg (· * _) (cot_eq x2 n h g q d _ _)

theorem v108_apply : val_main_v108 (F := Ideal) x0 x1 x2 (ix5 n h g q 0) = rowUp (rowS x0 n h g q) (rowσ x1 h g) (rowG x0 x2 n h g q) := by
  unfold val_main_v108
  pointwise [val_main_v107, val_main_v106, val_main_v105, val_main_v104, val_main_v103, val_main_v93, val_main_v92, val_main_v91, val_main_cst_15, val_main_cst_16]
  simp only [v88_apply, v82_apply]
  rfl

theorem v118_apply : val_main_v118 (F := Ideal) x0 x1 x2 (ix5 n h g q k) = rowRaw (rowS x0 n h g q) (rowσ x1 h g) (rowG x0 x2 n h g q) k := by
  unfold val_main_v118
  pointwise [val_main_v117, val_main_v116, val_main_v115, val_main_v110, val_main_v109, val_main_cst_18]
  rw [Fin.sum_univ_one, v88_apply, v108_apply, v82_apply]
  rfl

theorem v122_apply : val_main_v122 (F := Ideal) x0 x1 x2 (ix5 n h g q 0) = rowLeak (rowS x0 n h g q) (rowσ x1 h g) (rowG x0 x2 n h g q) := by
  unfold val_main_v122
  pointwise [val_main_v121, val_main_v120, val_main_v119, val_main_v114, val_main_v111, val_main_cst_19]
  simp only [v108_apply, v87_apply, v118_apply]
  rfl

theorem v57_nonneg : 0 ≤ val_main_v57 (F := Ideal) x0 (ix5 n h g q k) := by
  show (0 : EReal) ≤ (((val_main_v56 (F := Ideal) x0 (ix5 n h g q k)).toNat : ℝ) : EReal)
  exact EReal.coe_nonneg.mpr (Nat.cast_nonneg _)

/-- Where nothing reaches the maximum, the scores' gradient is what reaches the scores directly. -/
theorem v132_apply (h0 : rowLeak (rowS x0 n h g q) (rowσ x1 h g) (rowG x0 x2 n h g q) = 0) :
    val_main_v132 (F := Ideal) x0 x1 x2 (ix5 n h g q k) = rowRaw (rowS x0 n h g q) (rowσ x1 h g) (rowG x0 x2 n h g q) k := by
  have e127 : val_main_v127 (F := Ideal) x0 x1 x2 (ix5 n h g q 0) = 0 := by
    unfold val_main_v127
    pointwise []
    rw [v122_apply, h0, zero_mul]
  have e130 : val_main_v130 (F := Ideal) x0 x1 x2 (ix5 n h g q k) = Ideal.div 0 (∑ j, val_main_v57 (F := Ideal) x0 (ix5 n h g q j)) := by
    unfold val_main_v130
    pointwise [val_main_v129, val_main_v128, val_main_cst_21, val_main_v58, val_main_cst_7]
    rw [Fin.sum_univ_one, e127]
  unfold val_main_v132
  pointwise [val_main_v131]
  rw [v118_apply, e130]
  have z : Ideal.div 0 (∑ j, val_main_v57 (F := Ideal) x0 (ix5 n h g q j)) * val_main_v57 (F := Ideal) x0 (ix5 n h g q k) = 0 := by
    by_cases hz : (∑ j, val_main_v57 (F := Ideal) x0 (ix5 n h g q j)) = 0
    · rw [(Finset.sum_eq_zero_iff_of_nonneg fun j _ => v57_nonneg x0 n h g q j).mp hz k (Finset.mem_univ k), mul_zero]
    · unfold Ideal.div
      rw [if_neg hz, zero_mul, zero_mul]
  rw [z, add_zero]

/-- The scores' gradient, nothing where a position does not attend. -/
theorem v136_apply (h0 : rowLeak (rowS x0 n h g q) (rowσ x1 h g) (rowG x0 x2 n h g q) = 0) :
    val_main_v136 (F := Ideal) x0 x1 x2 (ix5 n h g q k)
      = if valid n.val q k then rowRaw (rowS x0 n h g q) (rowσ x1 h g) (rowG x0 x2 n h g q) k * eighth else 0 := by
  unfold val_main_v136
  unfold val_main_v134
  unfold val_main_v51_1
  pointwise [val_main_v135, val_main_call1_v0, val_main_call1_cst, val_main_cst_22, val_main_call0_v2]
  rw [v50_apply, Cert.Kernel17Ideal.Hand.select_ofBool, v132_apply x0 x1 x2 n h g q k h0]
  rfl

/-- The gradient of the queries. -/
theorem v151_apply (r : Fin 4096) (j : Fin 1024) : val_main_v151 (F := Ideal) x0 x1 x2 (ix2 r j)
    = ∑ k, val_main_v136 (F := Ideal) x0 x1 x2 (ix5 ⟨r.val / 128, by omega⟩ ⟨j.val / 512, by omega⟩ ⟨j.val / 64 % 8, by omega⟩ ⟨r.val % 128, by omega⟩ k)
        * key (keysValues x0 (r.val / 128)) (before x0 (r.val / 128)) ⟨j.val / 512, by omega⟩ k ⟨j.val % 64, by omega⟩ := by
  unfold val_main_v151
  pointwise [val_main_v150, val_main_v139, val_main_v138, val_main_v137]
  simp only [v13_apply]

/-- The gradient of the keys. -/
theorem v140_apply (d : Fin 64) : val_main_v140 (F := Ideal) x0 x1 x2 (ix4 n h k d)
    = ∑ g : Fin 8, ∑ q : Fin 128, val_main_v136 (F := Ideal) x0 x1 x2 (ix5 n h g q k) * queries x0 n.val (ix2 (pos (stacked g q)) (col h (stacked g q) d)) := by
  unfold val_main_v140
  pointwise [val_main_v137]
  rw [Finset.sum_comm]
  simp only [v10_apply]

theorem v152_apply (r : Fin 4096) (j : Fin 256) : val_main_v152 (F := Ideal) x0 x1 x2 (ix2 r j)
    = if hj : j.val < 128 then val_main_v140 (F := Ideal) x0 x1 x2 (ix4 ⟨r.val / 128, by omega⟩ ⟨j.val / 64, by omega⟩ ⟨128 + r.val % 128, by omega⟩ ⟨j.val % 64, by omega⟩)
      else val_main_v101 (F := Ideal) x0 x1 x2 (ix4 ⟨r.val / 128, by omega⟩ ⟨(j.val - 128) / 64, by omega⟩ ⟨(j.val - 128) % 64, by omega⟩ ⟨128 + r.val % 128, by omega⟩) := by
  unfold val_main_v152
  pointwise [val_main_v148, val_main_v144, val_main_v147, val_main_v143, val_main_v141, val_main_v102]

theorem v153_apply (r : Fin 4096) (j : Fin 256) : val_main_v153 (F := Ideal) x0 x1 x2 (ix2 r j)
    = if hj : j.val < 128 then val_main_v140 (F := Ideal) x0 x1 x2 (ix4 ⟨r.val / 128, by omega⟩ ⟨j.val / 64, by omega⟩ ⟨r.val % 128, by omega⟩ ⟨j.val % 64, by omega⟩)
      else val_main_v101 (F := Ideal) x0 x1 x2 (ix4 ⟨r.val / 128, by omega⟩ ⟨(j.val - 128) / 64, by omega⟩ ⟨(j.val - 128) % 64, by omega⟩ ⟨r.val % 128, by omega⟩) := by
  unfold val_main_v153
  pointwise [val_main_v149, val_main_v145, val_main_v146, val_main_v142, val_main_v141, val_main_v102]

/-- A sum over the blocks and positions, head by head. -/
theorem reduce_rows (v : (⟨5, ![32, 2, 8, 128, 1]⟩ : Shape).Idx → EReal) (w : EReal) :
    Ideal.hostReduceAdd Cert.Reference17Ideal.Gen.reducesTo_S32x2x8x128x1_S2x8x1_d0_3 v w (ix3 h g 0) = w + ∑ n : Fin 32, ∑ q : Fin 128, v (ix5 n h g q 0) := by
  refine congrArg (w + ·) ?_
  refine (Finset.sum_filter_eq_sum_of_fiber _ (fun k : Fin 32 × Fin 128 => (ix5 k.1 h g k.2 0 : (⟨5, ![32, 2, 8, 128, 1]⟩ : Shape).Idx))
    (fun _ _ e => Prod.ext (congrFun e 0) (congrFun e 3)) (fun i => ?_) v).trans ?_
  · constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨k, rfl⟩
      funext b
      apply Fin.ext
      match b with
      | ⟨0, _⟩ => rfl
      | ⟨1, _⟩ => rfl
      | ⟨2, _⟩ => rfl
  · simp only [Fintype.sum_prod_type]

/-- The gradient of the sinks, where nothing reaches the maxima. -/
theorem v154_apply (j : Fin 16) (h0 : ∀ n h g q, rowLeak (rowS x0 n h g q) (rowσ x1 h g) (rowG x0 x2 n h g q) = 0) :
    val_main_v154 (F := Ideal) x0 x1 x2 (ix2 0 j)
      = ∑ n : Fin 32, ∑ q : Fin 128, rowUp (rowS x0 n ⟨j.val / 8, by omega⟩ ⟨j.val % 8, by omega⟩ q) (rowσ x1 ⟨j.val / 8, by omega⟩ ⟨j.val % 8, by omega⟩)
            (rowG x0 x2 n ⟨j.val / 8, by omega⟩ ⟨j.val % 8, by omega⟩ q)
          * Ideal.exp (rowσ x1 ⟨j.val / 8, by omega⟩ ⟨j.val % 8, by omega⟩
              - rowTop (rowS x0 n ⟨j.val / 8, by omega⟩ ⟨j.val % 8, by omega⟩ q) (rowσ x1 ⟨j.val / 8, by omega⟩ ⟨j.val % 8, by omega⟩)) := by
  have e111 : ∀ n h g q, val_main_v111 (F := Ideal) x0 x1 x2 (ix5 n h g q 0) = rowUp (rowS x0 n h g q) (rowσ x1 h g) (rowG x0 x2 n h g q)
      * Ideal.exp (rowσ x1 h g - rowTop (rowS x0 n h g q) (rowσ x1 h g)) := fun n h g q => by
    unfold val_main_v111
    pointwise []
    rw [v108_apply, v87_apply]
  have e112 : ∀ h g, val_main_v112 (F := Ideal) x0 x1 x2 (ix3 h g 0) = ∑ n : Fin 32, ∑ q : Fin 128, val_main_v111 (F := Ideal) x0 x1 x2 (ix5 n h g q 0) := fun h g => by
    refine (reduce_rows h g (val_main_v111 (F := Ideal) x0 x1 x2) (val_main_cst_17 (F := Ideal) (Shape.Idx.first Cert.Reference17Ideal.Gen.h_S_))).trans ?_
    rw [show val_main_cst_17 (F := Ideal) (Shape.Idx.first Cert.Reference17Ideal.Gen.h_S_) = (0 : EReal) by unfold val_main_cst_17; pointwise [], zero_add]
  have e124 : ∀ h g, val_main_v124 (F := Ideal) x0 x1 x2 (ix3 h g 0) = 0 := fun h g => by
    refine (reduce_rows h g (val_main_v123 (F := Ideal) x0 x1 x2) (val_main_cst_20 (F := Ideal) (Shape.Idx.first Cert.Reference17Ideal.Gen.h_S_))).trans ?_
    rw [show val_main_cst_20 (F := Ideal) (Shape.Idx.first Cert.Reference17Ideal.Gen.h_S_) = (0 : EReal) by unfold val_main_cst_20; pointwise [], zero_add]
    refine Finset.sum_eq_zero fun n _ => Finset.sum_eq_zero fun q _ => ?_
    unfold val_main_v123
    pointwise []
    rw [v122_apply, h0, zero_mul]
  unfold val_main_v154
  pointwise [val_main_v133, val_main_v126, val_main_v125, val_main_v113]
  rw [e124, add_zero, e112]
  simp only [e111]

end Cert.Reference17Ideal.Hand

end
-- ==== Proof.AttnMatch.lean ====
module

public import proofs.«01_k».proof.Proof.AttnBack

@[expose] public section

noncomputable section

namespace Cert.Attn

open Idealize.ShloMosaic
open Cert.KernelIdeal.Hand (IsReal)

/-! What a block computes does not depend on the previous block's rows that no position attends to. -/

section swap

variable {n : Nat} {x0 : (⟨1, ![16]⟩ : Shape).Idx → EReal} {x1 : (⟨2, ![128, 1024]⟩ : Shape).Idx → EReal}
  {x2 x3 x3' : (⟨2, ![128, 256]⟩ : Shape).Idx → EReal} {x4 x5 : (⟨2, ![128, 1024]⟩ : Shape).Idx → EReal}
  (hb : ∀ (k c : Fin 256), (128 ≤ k.val ∨ 0 < n) → band x2 x3 k c = band x2 x3' k c)

include hb in
theorem score_swap (h : Fin 2) (r : Fin 1024) : score n x1 x2 x3 h r = score n x1 x2 x3' h r := by
  funext k
  unfold score
  by_cases hv : valid n (pos r) k
  · rw [if_pos hv, if_pos hv]
    exact congrArg (· * eighth) (Finset.sum_congr rfl fun d _ => congrArg (_ * ·) (hb k _ hv.2.2))
  · rw [if_neg hv, if_neg hv]

include hb in
theorem prob_swap (h : Fin 2) (r : Fin 1024) (k : Fin 256) : prob n x0 x1 x2 x3 h r k = prob n x0 x1 x2 x3' h r k := by
  unfold prob
  rw [score_swap hb]

include hb in
theorem sinkSum_swap (h : Fin 2) (g : Fin 8) : sinkSum n x0 x1 x2 x3 x4 x5 h g = sinkSum n x0 x1 x2 x3' x4 x5 h g := by
  unfold sinkSum sinkTerm
  simp only [score_swap hb]

include hb in
theorem dvalue_swap (h : Fin 2) (k : Fin 256) (d : Fin 64) : dvalue n x0 x1 x2 x3 x5 h k d = dvalue n x0 x1 x2 x3' x5 h k d := by
  unfold dvalue
  simp only [prob_swap hb]

variable (h0 : ∀ (h : Fin 2) (r : Fin 1024) (k : Fin 256), ¬valid n (pos r) k → prob n x0 x1 x2 x3 h r k = 0)

include h0 in
theorem dscore_masked (h : Fin 2) (r : Fin 1024) (k : Fin 256) (hv : ¬valid n (pos r) k) : dscore n x0 x1 x2 x3 x4 x5 h r k = 0 := by
  unfold dscore
  rw [h0 h r k hv, zero_mul, zero_mul]

include hb h0 in
theorem dscore_swap (h : Fin 2) (r : Fin 1024) (k : Fin 256) : dscore n x0 x1 x2 x3 x4 x5 h r k = dscore n x0 x1 x2 x3' x4 x5 h r k := by
  by_cases hv : valid n (pos r) k
  · unfold dscore
    rw [prob_swap hb]
    refine congrArg (fun e => prob n x0 x1 x2 x3' h r k * (e - delta x4 x5 h r) * eighth) (Finset.sum_congr rfl fun d _ => congrArg (_ * ·) (hb k _ hv.2.2))
  · rw [dscore_masked h0 h r k hv, dscore_masked (fun h r k hv => (prob_swap hb h r k).symm.trans (h0 h r k hv)) h r k hv]

include hb h0 in
theorem dkey_swap (h : Fin 2) (k : Fin 256) (d : Fin 64) : dkey n x0 x1 x2 x3 x4 x5 h k d = dkey n x0 x1 x2 x3' x4 x5 h k d := by
  unfold dkey
  simp only [dscore_swap hb h0]

include hb h0 in
theorem dquery_swap (h : Fin 2) (r : Fin 1024) (d : Fin 64) : dquery n x0 x1 x2 x3 x4 x5 h r d = dquery n x0 x1 x2 x3' x4 x5 h r d := by
  unfold dquery
  refine Finset.sum_congr rfl fun k _ => ?_
  rw [← dscore_swap hb h0]
  by_cases hv : valid n (pos r) k
  · exact congrArg (_ * ·) (hb k _ hv.2.2)
  · rw [dscore_masked h0 h r k hv, zero_mul, zero_mul]

end swap

end Cert.Attn

namespace Cert.Reference17Ideal.Hand

open Idealize.ShloMosaic Idealize.ShloMosaic.TcCoe Idealize.SL.Sem Cert.Reference17Ideal Cert.Reference17Ideal.Read Cert.Attn
open Cert.KernelIdeal.Hand (IsReal)

/-! The reference's backward is the kernel's. -/

variable (x0 : S4096x2304.Idx → EReal) (x1 : S16.Idx → EReal) (x2 : S4096x1024.Idx → EReal)

/-- The forward's output. -/
theorem v96_apply (n : Fin 32) (h : Fin 2) (g : Fin 8) (q : Fin 128) (d : Fin 64) :
    val_main_v96 (F := Ideal) x0 x1 (ix2 (rowAt n.val q) (col h (stacked g q) d))
      = ∑ k, value (keysValues x0 n.val) (before x0 n.val) h k d * rowP (rowS x0 n h g q) (rowσ x1 h g) k := by
  have e : ∀ (r : Fin 4096) (j : Fin 1024), val_main_v96 (F := Ideal) x0 x1 (ix2 r j)
      = ∑ k, val_main_v16 (F := Ideal) x0 (ix4 ⟨r.val / 128, by omega⟩ k ⟨j.val / 512, by omega⟩ ⟨j.val % 64, by omega⟩)
          * val_main_v90 (F := Ideal) x0 x1 (ix5 ⟨r.val / 128, by omega⟩ ⟨j.val / 512, by omega⟩ ⟨j.val / 64 % 8, by omega⟩ ⟨r.val % 128, by omega⟩ k) := fun r j => by
    unfold val_main_v96
    pointwise [val_main_v95, val_main_v94]
  have hj : (col h (stacked g q) d).val = h.val * 512 + g.val * 64 + d.val := by
    show h.val * 512 + (stacked g q).val / 128 * 64 + d.val = _
    rw [group_stacked]
  have hr : (rowAt n.val q).val = n.val * 128 + q.val := by show n.val % 32 * 128 + q.val = _; omega
  have a0 : (⟨(rowAt n.val q).val / 128, by omega⟩ : Fin 32) = n := Fin.ext (by show (rowAt n.val q).val / 128 = n.val; omega)
  have a1 : (⟨(rowAt n.val q).val % 128, by omega⟩ : Fin 128) = q := Fin.ext (by show (rowAt n.val q).val % 128 = q.val; omega)
  have a2 : (⟨(col h (stacked g q) d).val / 512, by omega⟩ : Fin 2) = h := Fin.ext (by show (col h (stacked g q) d).val / 512 = h.val; omega)
  have a3 : (⟨(col h (stacked g q) d).val / 64 % 8, by omega⟩ : Fin 8) = g := Fin.ext (by show (col h (stacked g q) d).val / 64 % 8 = g.val; omega)
  have a4 : (⟨(col h (stacked g q) d).val % 64, by omega⟩ : Fin 64) = d := Fin.ext (by show (col h (stacked g q) d).val % 64 = d.val; omega)
  rw [e, a0, a1, a2, a3, a4]
  simp only [v16_apply, v90_apply]

variable (h0 : ∀ i, IsReal (x0 i)) (h1 : ∀ i, IsReal (x1 i)) (h2 : ∀ i, IsReal (x2 i))

include h0 in
theorem band_real (n : Nat) (k c : Fin 256) : IsReal (band (keysValues x0 n) (before x0 n) k c) := by
  unfold band
  by_cases hk : k.val < 128
  · rw [dif_pos hk]
    by_cases hn : n = 0
    · exact ⟨0, (before_zero x0 hn _).trans EReal.coe_zero.symm⟩
    · rw [before_later x0 hn]; exact h0 _
  · rw [dif_neg hk]; exact h0 _

theorem eighth_real : IsReal eighth := by
  refine ⟨1 / 8, ?_⟩
  unfold eighth
  simp [Ideal.ofBits, Ideal.ieee, -EReal.coe_mul]; norm_num

include h0 in
theorem score_real (n : Nat) (h : Fin 2) (r : Fin 1024) (k : Fin 256) :
    score n (queries x0 n) (keysValues x0 n) (before x0 n) h r k = ⊥ ∨ IsReal (score n (queries x0 n) (keysValues x0 n) (before x0 n) h r k) := by
  unfold score
  by_cases hv : valid n (pos r) k
  · rw [if_pos hv]
    exact Or.inr ((sum_real _ _ fun d => IsReal.mul (h0 _) (band_real x0 h0 n k _)).mul eighth_real)
  · rw [if_neg hv]
    exact Or.inl rfl

include h0 h1 in
theorem prob_masked (n : Nat) (h : Fin 2) (r : Fin 1024) (k : Fin 256) (hv : ¬valid n (pos r) k) :
    prob n x1 (queries x0 n) (keysValues x0 n) (before x0 n) h r k = 0 := by
  refine rowP_masked _ _ (score_real x0 h0 n h r) (h1 _) k ?_
  unfold score
  rw [if_neg hv]

section row

variable (n : Fin 32) (h : Fin 2) (g : Fin 8) (q : Fin 128)

theorem rowS_eq : rowS x0 n h g q = score n.val (queries x0 n.val) (keysValues x0 n.val) (before x0 n.val) h (stacked g q) := funext fun k => v51_apply x0 n q h g k

theorem rowσ_eq : rowσ x1 h g = x1 (ix1 (headOf h (stacked g q))) := by
  unfold rowσ
  refine congrArg (fun i => x1 (ix1 i)) (Fin.ext ?_)
  show h.val * 8 + g.val = h.val * 8 + (stacked g q).val / 128
  rw [group_stacked]

theorem cot_rows (d : Fin 64) : rowsOf x2 n.val (ix2 (pos (stacked g q)) (col h (stacked g q) d)) = cot x2 n h g q d := by
  rw [pos_stacked]
  rfl

include h0 h2 in
theorem rowG_real (k : Fin 256) : IsReal (rowG x0 x2 n h g q k) := by
  rw [v100_apply]
  exact sum_real _ _ fun d => IsReal.mul (h2 _) (band_real x0 h0 n.val k _)

include h0 h1 h2 in
theorem delta_eq : delta (rowsOf (val_main_v96 (F := Ideal) x0 x1) n.val) (rowsOf x2 n.val) h (stacked g q)
    = ∑ k, rowP (rowS x0 n h g q) (rowσ x1 h g) k * rowG x0 x2 n h g q k := by
  have hs : ∀ k, rowS x0 n h g q k = ⊥ ∨ IsReal (rowS x0 n h g q k) := by rw [rowS_eq]; exact score_real x0 h0 n.val h (stacked g q)
  simp only [v100_apply]
  rw [← delta_swap (rowP (rowS x0 n h g q) (rowσ x1 h g)) (cot x2 n h g q) (value (keysValues x0 n.val) (before x0 n.val) h) (fun k => rowP_real _ _ hs (h1 _) k) (fun d => h2 _) (fun k d => band_real x0 h0 n.val k _)]
  unfold delta
  refine Finset.sum_congr rfl fun d _ => ?_
  rw [cot_rows, ← v96_apply, pos_stacked]
  rfl

include h0 h1 in
theorem prob_eq (k : Fin 256) : rowP (rowS x0 n h g q) (rowσ x1 h g) k
    = prob n.val x1 (queries x0 n.val) (keysValues x0 n.val) (before x0 n.val) h (stacked g q) k := by
  rw [rowS_eq, rowσ_eq x1 h g q]
  rfl

include h0 h1 h2 in
theorem closed : rowLeak (rowS x0 n h g q) (rowσ x1 h g) (rowG x0 x2 n h g q) = 0
    ∧ (∀ k, rowRaw (rowS x0 n h g q) (rowσ x1 h g) (rowG x0 x2 n h g q) k = rowP (rowS x0 n h g q) (rowσ x1 h g) k
        * (rowG x0 x2 n h g q k - ∑ j, rowP (rowS x0 n h g q) (rowσ x1 h g) j * rowG x0 x2 n h g q j))
    ∧ rowUp (rowS x0 n h g q) (rowσ x1 h g) (rowG x0 x2 n h g q) * Ideal.exp (rowσ x1 h g - rowTop (rowS x0 n h g q) (rowσ x1 h g))
        = -(rowSink (rowS x0 n h g q) (rowσ x1 h g) * ∑ j, rowP (rowS x0 n h g q) (rowσ x1 h g) j * rowG x0 x2 n h g q j) :=
  row_closed _ _ _ (by rw [rowS_eq]; exact score_real x0 h0 n.val h (stacked g q)) (h1 _) (rowG_real x0 x2 h0 h2 n h g q)

include h0 h1 h2 in
/-- The scores' gradient. -/
theorem v136_eq (k : Fin 256) : val_main_v136 (F := Ideal) x0 x1 x2 (ix5 n h g q k)
    = dscore n.val x1 (queries x0 n.val) (keysValues x0 n.val) (before x0 n.val) (rowsOf (val_main_v96 (F := Ideal) x0 x1) n.val) (rowsOf x2 n.val) h (stacked g q) k := by
  obtain ⟨c1, c2, -⟩ := closed x0 x1 x2 h0 h1 h2 n h g q
  rw [v136_apply x0 x1 x2 n h g q k c1]
  by_cases hv : valid n.val q k
  · rw [if_pos hv, c2 k, ← delta_eq x0 x1 x2 h0 h1 h2, prob_eq x0 x1 h0 h1, v100_apply]
    unfold dscore
    simp only [cot_rows]
  · rw [if_neg hv]
    exact (dscore_masked (prob_masked x0 x1 h0 h1 n.val) h (stacked g q) k (by rw [pos_stacked]; exact hv)).symm

include h0 h1 h2 in
theorem sinkTerm_eq : rowUp (rowS x0 n h g q) (rowσ x1 h g) (rowG x0 x2 n h g q) * Ideal.exp (rowσ x1 h g - rowTop (rowS x0 n h g q) (rowσ x1 h g))
    = -sinkTerm n.val x1 (queries x0 n.val) (keysValues x0 n.val) (before x0 n.val) (rowsOf (val_main_v96 (F := Ideal) x0 x1) n.val) (rowsOf x2 n.val) h (stacked g q) := by
  obtain ⟨-, -, c3⟩ := closed x0 x1 x2 h0 h1 h2 n h g q
  rw [c3, ← delta_eq x0 x1 x2 h0 h1 h2, rowS_eq, rowσ_eq x1 h g q]
  rfl

include h0 h1 h2 in
theorem sinkTerm_real : IsReal (sinkTerm n.val x1 (queries x0 n.val) (keysValues x0 n.val) (before x0 n.val) (rowsOf (val_main_v96 (F := Ideal) x0 x1) n.val) (rowsOf x2 n.val) h (stacked g q)) := by
  unfold sinkTerm
  rw [delta_eq x0 x1 x2 h0 h1 h2]
  refine IsReal.mul (rowSink_real _ _ (score_real x0 h0 n.val h (stacked g q)) (h1 _)) (sum_real _ _ fun k => IsReal.mul ?_ (rowG_real x0 x2 h0 h2 n h g q k))
  exact rowP_real _ _ (by rw [rowS_eq]; exact score_real x0 h0 n.val h (stacked g q)) (h1 _) k

end row

/-- The previous block's rows, where attended to. -/
theorem band_before (n : Nat) (k c : Fin 256) (hk : 128 ≤ k.val ∨ 0 < n) :
    band (keysValues x0 n) (before x0 n) k c = band (keysValues x0 n) (keysValues x0 (n - 1)) k c := by
  unfold band
  by_cases h : k.val < 128
  · rw [dif_pos h, dif_pos h]
    exact before_later x0 (by omega) _
  · rw [dif_neg h, dif_neg h]

include h0 h1 h2 in
/-- The queries' gradient. -/
theorem queries_eq (r : Fin 4096) (j : Fin 1024) : val_main_v151 (F := Ideal) x0 x1 x2 (ix2 r j)
    = Cert.Kernel17Ideal.Hand.dqueryAt (r.val / 128) x1 (queries x0 (r.val / 128)) (keysValues x0 (r.val / 128)) (keysValues x0 (r.val / 128 - 1))
        (rowsOf (val_main_v96 (F := Ideal) x0 x1) (r.val / 128)) (rowsOf x2 (r.val / 128)) ⟨r.val % 128, by omega⟩ j := by
  rw [v151_apply]
  simp only [v136_eq x0 x1 x2 h0 h1 h2]
  unfold Cert.Kernel17Ideal.Hand.dqueryAt
  rw [← dquery_swap (band_before x0 (r.val / 128)) (prob_masked x0 x1 h0 h1 (r.val / 128))]
  have e : (⟨j.val % 512 / 64 * 128 + r.val % 128, by omega⟩ : Fin 1024) = stacked ⟨j.val / 64 % 8, by omega⟩ ⟨r.val % 128, by omega⟩ :=
    Fin.ext (by show j.val % 512 / 64 * 128 + r.val % 128 = j.val / 64 % 8 * 128 + r.val % 128; omega)
  rw [e]
  rfl

include h0 h1 h2 in
/-- The gradient of the keys and values of a block and the block before it. -/
theorem band_eq (n : Fin 32) (k j : Fin 256) (a b : Fin 2) (d e : Fin 64) (ha : j.val < 128 → a.val = j.val / 64) (hb : ¬j.val < 128 → b.val = (j.val - 128) / 64)
    (hd : j.val < 128 → d.val = j.val % 64) (he : ¬j.val < 128 → e.val = (j.val - 128) % 64) :
    (if j.val < 128 then val_main_v140 (F := Ideal) x0 x1 x2 (ix4 n a k d) else val_main_v101 (F := Ideal) x0 x1 x2 (ix4 n b e k))
    = Cert.Kernel17Ideal.Hand.dbandAt n.val x1 (queries x0 n.val) (keysValues x0 n.val) (keysValues x0 (n.val - 1))
        (rowsOf (val_main_v96 (F := Ideal) x0 x1) n.val) (rowsOf x2 n.val) k j := by
  unfold Cert.Kernel17Ideal.Hand.dbandAt
  by_cases hj : j.val < 128
  · rw [if_pos hj, if_pos hj, v140_apply]
    have ea : a = ⟨j.val % 128 / 64, by omega⟩ := Fin.ext (by show a.val = j.val % 128 / 64; have := ha hj; omega)
    have ed : d = ⟨j.val % 64, by omega⟩ := Fin.ext (hd hj)
    rw [← dkey_swap (band_before x0 n.val) (prob_masked x0 x1 h0 h1 n.val), ← ea, ← ed]
    unfold dkey
    rw [sum_stacked]
    simp only [v136_eq x0 x1 x2 h0 h1 h2]
    rfl
  · rw [if_neg hj, if_neg hj, v101_apply]
    have eb : b = ⟨j.val % 128 / 64, by omega⟩ := Fin.ext (by show b.val = j.val % 128 / 64; have := hb hj; omega)
    have ee : e = ⟨j.val % 64, by omega⟩ := Fin.ext (by show e.val = j.val % 64; have := he hj; omega)
    rw [← dvalue_swap (band_before x0 n.val), ← eb, ← ee]
    unfold dvalue
    rw [sum_stacked]
    refine Finset.sum_congr rfl fun g _ => Finset.sum_congr rfl fun q _ => ?_
    rw [prob_eq x0 x1 h0 h1, mul_comm, ← cot_rows]
    rfl

/-- The difference of nothing and a sum of real numbers. -/
theorem zero_sub_sum (f : Fin 128 → EReal) (hf : ∀ q, IsReal (f q)) : 0 - ∑ q, f q = ∑ q, -f q := by
  choose r hr using hf
  simp only [hr, ← coe_sum, ← EReal.coe_neg, ← EReal.coe_zero, ← EReal.coe_sub]
  rw [Finset.sum_neg_distrib, zero_sub]

include h0 h1 h2 in
/-- The sinks' gradient. -/
theorem sinks_eq (j : Fin 16) : val_main_v154 (F := Ideal) x0 x1 x2 (ix2 0 j)
    = ∑ n ∈ Finset.range 32, Cert.Kernel17Ideal.Hand.sinkCol (n % 32) x1 (queries x0 n) (keysValues x0 n) (keysValues x0 (n - 1))
        (rowsOf (val_main_v96 (F := Ideal) x0 x1) n) (rowsOf x2 n) j := by
  rw [v154_apply x0 x1 x2 j fun n h g q => (closed x0 x1 x2 h0 h1 h2 n h g q).1, Finset.sum_range]
  refine Finset.sum_congr rfl fun n _ => ?_
  rw [Nat.mod_eq_of_lt n.isLt]
  unfold Cert.Kernel17Ideal.Hand.sinkCol
  rw [← sinkSum_swap (band_before x0 n.val)]
  unfold sinkSum
  refine Eq.trans ?_ (zero_sub_sum _ fun q => sinkTerm_real x0 x1 x2 h0 h1 h2 n ⟨j.val / 8, by omega⟩ ⟨j.val % 8, by omega⟩ q).symm
  exact Finset.sum_congr rfl fun q _ => sinkTerm_eq x0 x1 x2 h0 h1 h2 n _ _ q

end Cert.Reference17Ideal.Hand

end
-- ==== Proof.AttnClaims.lean ====
module

public import proofs.«01_k».proof.Defs
public import proofs.«01_k».proof.Proof.AttnMatch
public import proofs.«01_k».proof.Proof.GateClaims
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal
public import proofs.«01_k».proof.Proof.Gen.Reference17Ideal.Run

@[expose] public section

noncomputable section

namespace Cert.Kernel17Ideal.Hand

open Idealize.ShloMosaic Idealize.ShloMosaic.TcCoe Idealize.SL.Sem Cert.Kernel17Ideal Cert.Kernel17Ideal.Gen Cert.Attn
open Cert.Reference17Ideal.Read Cert.Reference17Ideal.Hand
open Cert.KernelIdeal.Hand (IsReal)

/-- The forward output the host prepares is the one the reference's backward passes through. -/
theorem out_eq (x0 : S4096x2304.Idx → EReal) (x1 : S16.Idx → EReal) :
    outWide (val_main_v51_0 (F := Ideal) x0) (val_main_v16 (F := Ideal) x0) x1 = val_main_v96 (F := Ideal) x0 x1 := by
  unfold outWide denWide expWide topWide sinkWide
  unfold val_main_v96 val_main_v95 val_main_v94 val_main_v90 val_main_v89 val_main_v88 val_main_v87 val_main_v86 val_main_v85 val_main_v84 val_main_v83
    val_main_v82 val_main_v81 val_main_v80 val_main_v61 val_main_v60 val_main_v59 val_main_v53 val_main_v52 val_main_cst_6 val_main_cst_14
  rfl

section arrays

variable (m : (ℓ : Loc nD τ sig) → Buf (Elt Ideal) ℓ) (c : Dev nD) (x0 : S4096x2304.Idx → EReal) (x1 : S16.Idx → EReal) (x2 : S4096x1024.Idx → EReal)
  (e0 : m ((c : Thread nD τ).loc main_arg0) = x0) (e1 : m ((c : Thread nD τ).loc main_arg1) = x1) (e2 : m ((c : Thread nD τ).loc main_arg2) = x2)
  (h0 : ∀ i, IsReal (x0 i)) (h1 : ∀ i, IsReal (x1 i)) (h2 : ∀ i, IsReal (x2 i))

include e0 e1 in
theorem out_V : V m c main_v71 = val_main_v96 (F := Ideal) x0 x1 := by
  subst e0 e1
  exact (V_v71 m c).trans (out_eq _ _)

include e0 e1 e2 h0 h1 h2 in
theorem dq_eq : (dats m 0 c).arrAt 6 cfg0.N = val_main_v151 (F := Ideal) x0 x1 x2 := by
  rw [arr6]
  funext y
  obtain ⟨r, j, rfl⟩ : ∃ (r : Fin 4096) (j : Fin 1024), y = ix2 r j := ⟨y 0, y 1, eq_ix2 y⟩
  rw [queries_eq x0 x1 x2 h0 h1 h2]
  show dqAll m c (r.val / 128) ⟨r.val % 128, _⟩ j = _
  unfold dqAll
  rw [V_main_arg0, V_main_arg1, V_main_arg2, out_V m c x0 x1 e0 e1, e0, e1, e2]

include e0 e1 e2 h0 h1 h2 in
theorem dcur_eq : (dats m 0 c).arrAt 7 cfg0.N = val_main_v152 (F := Ideal) x0 x1 x2 := by
  rw [arr7]
  funext y
  obtain ⟨r, j, rfl⟩ : ∃ (r : Fin 4096) (j : Fin 256), y = ix2 r j := ⟨y 0, y 1, eq_ix2 y⟩
  show dcurAll m c (r.val / 128) ⟨r.val % 128, _⟩ j = _
  unfold dcurAll
  rw [V_main_arg0, V_main_arg1, V_main_arg2, out_V m c x0 x1 e0 e1, e0, e1, e2, v152_apply]
  by_cases hj : j.val < 128
  · rw [dif_pos hj]
    refine ((band_eq x0 x1 x2 h0 h1 h2 ⟨r.val / 128, by omega⟩ ⟨128 + r.val % 128, by omega⟩ j ⟨j.val / 64, by omega⟩ 0 ⟨j.val % 64, by omega⟩ ⟨(j.val - 128) % 64, by omega⟩
      (fun _ => rfl) (fun h => absurd hj h) (fun _ => rfl) (fun _ => rfl)).symm.trans ?_)
    rw [if_pos hj]
  · rw [dif_neg hj]
    refine ((band_eq x0 x1 x2 h0 h1 h2 ⟨r.val / 128, by omega⟩ ⟨128 + r.val % 128, by omega⟩ j 0 ⟨(j.val - 128) / 64, by omega⟩ ⟨j.val % 64, by omega⟩ ⟨(j.val - 128) % 64, by omega⟩
      (fun h => absurd h hj) (fun _ => rfl) (fun _ => rfl) (fun _ => rfl)).symm.trans ?_)
    rw [if_neg hj]

include e0 e1 e2 h0 h1 h2 in
theorem dprev_eq : (dats m 0 c).arrAt 8 cfg0.N = val_main_v153 (F := Ideal) x0 x1 x2 := by
  rw [arr8]
  funext y
  obtain ⟨r, j, rfl⟩ : ∃ (r : Fin 4096) (j : Fin 256), y = ix2 r j := ⟨y 0, y 1, eq_ix2 y⟩
  show dprevAll m c (r.val / 128) ⟨r.val % 128, _⟩ j = _
  unfold dprevAll
  rw [V_main_arg0, V_main_arg1, V_main_arg2, out_V m c x0 x1 e0 e1, e0, e1, e2, v153_apply]
  have ek : (⟨0 + (⟨r.val % 128, by omega⟩ : Fin 128).val, by omega⟩ : Fin 256) = ⟨r.val % 128, by omega⟩ := Fin.ext (Nat.zero_add _)
  rw [ek]
  by_cases hj : j.val < 128
  · rw [dif_pos hj]
    refine ((band_eq x0 x1 x2 h0 h1 h2 ⟨r.val / 128, by omega⟩ ⟨r.val % 128, by omega⟩ j ⟨j.val / 64, by omega⟩ 0 ⟨j.val % 64, by omega⟩ ⟨(j.val - 128) % 64, by omega⟩
      (fun _ => rfl) (fun h => absurd hj h) (fun _ => rfl) (fun _ => rfl)).symm.trans ?_)
    rw [if_pos hj]
  · rw [dif_neg hj]
    refine ((band_eq x0 x1 x2 h0 h1 h2 ⟨r.val / 128, by omega⟩ ⟨r.val % 128, by omega⟩ j 0 ⟨(j.val - 128) / 64, by omega⟩ ⟨j.val % 64, by omega⟩ ⟨(j.val - 128) % 64, by omega⟩
      (fun h => absurd h hj) (fun _ => rfl) (fun _ => rfl) (fun _ => rfl)).symm.trans ?_)
    rw [if_neg hj]

include e0 e1 e2 h0 h1 h2 in
theorem dsinks_eq : (dats m 0 c).arrAt 9 cfg0.N = val_main_v154 (F := Ideal) x0 x1 x2 := by
  rw [arr9]
  funext y
  obtain ⟨z, j, rfl⟩ : ∃ (z : Fin 1) (j : Fin 16), y = ix2 z j := ⟨y 0, y 1, eq_ix2 y⟩
  obtain rfl : z = 0 := Subsingleton.elim _ _
  rw [sinks_eq x0 x1 x2 h0 h1 h2]
  show sinkAll m c j = _
  unfold sinkAll addS
  rw [V_main_arg0, V_main_arg1, V_main_arg2, out_V m c x0 x1 e0 e1, e0, e1, e2]

end arrays

end Cert.Kernel17Ideal.Hand

namespace Cert.AttnClaims

open Idealize.ShloMosaic Idealize.SL.Sem Cert.Kernel17Ideal.Hand
open Cert.KernelIdeal.Hand (IsReal)

/-- The shapes the precondition's operations take fit. -/
theorem preFacts : Cert.Pre_finite_attn.Facts where
  bitsLt_bf16_f32 := by decide
  bcast_S_S4096x2304 := by decide
  bcast_S_S16 := by decide
  bcast_S_S4096x1024 := by decide

/-- The mask is the literal it stands for. -/
theorem preserves : Cert.preserves_Kernel17_Kernel17Ideal :=
  IdealRules.named_const.statement Cert.Kernel17Ideal.κ "mask" .f32 0xF149F2CA#32 ⊥ rfl

/-- The reference runs, leaves its arguments as they were and every counter at zero. -/
theorem reference (m : (ℓ : Loc Cert.Reference17Ideal.nD Cert.Reference17Ideal.τ Cert.Reference17Ideal.sig) → Buf (Elt Ideal) ℓ)
    (ρ : Dev Cert.Reference17Ideal.nD → PrngReg) :
    θ_run (Cert.Reference17Ideal.defs (F := Ideal)) (onTc (τ := Cert.Reference17Ideal.τ) (Cert.Reference17Ideal.main (F := Ideal)))
      ⟨m, fun _ => 0, ρ⟩ (fun r => (∀ c : Dev Cert.Reference17Ideal.nD,
        r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
        ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
        ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
        ∧ r.2.sem = fun _ => 0) :=
  (θ_run _ _ _).mono (fun _ h => ⟨fun c => (h c).2.2.2.2, sem_eq_zero_of_no_sems (by decide) _⟩) (Cert.Reference17Ideal.Value.run m ρ)

attribute [local instance] preFacts in
/-- The precondition says that the arguments hold real numbers. -/
theorem reals (x0 : Cert.Pre_finite_attn.S4096x2304.Idx → EReal) (x1 : Cert.Pre_finite_attn.S16.Idx → EReal) (x2 : Cert.Pre_finite_attn.S4096x1024.Idx → EReal)
    (h0 : (Cert.Pre_finite_attn.fn (F := Ideal) x0 x1 x2).1 = fun _ => 1#1)
    (h1 : (Cert.Pre_finite_attn.fn (F := Ideal) x0 x1 x2).2.1 = fun _ => 1#1)
    (h2 : (Cert.Pre_finite_attn.fn (F := Ideal) x0 x1 x2).2.2 = fun _ => 1#1) :
    (∀ i, IsReal (x0 i)) ∧ (∀ i, IsReal (x1 i)) ∧ ∀ i, IsReal (x2 i) :=
  ⟨fun i => GateClaims.real_of_test _ (congrFun h0 i), fun i => GateClaims.real_of_test _ (congrFun h1 i), fun i => GateClaims.real_of_test _ (congrFun h2 i)⟩

/-- The attention's backward launch computes the gradients the plain reference defines, of arguments that are real numbers. -/
theorem algebraic [hPre : Cert.Pre_finite_attn.Facts] : Cert.algebraic_Kernel17Ideal_Reference17Ideal_pre_finite_attn := by
  intro m ρ m' ρ' hpre hagree
  refine ⟨_, _, _, _, Cert.Kernel17Ideal.Value.run_blocks m ρ, (θ_run _ _ _).mono (fun _ h c => ?_) (Cert.Reference17Ideal.Value.run m' ρ')⟩
  obtain ⟨r0, r1, r2, r3, hargs⟩ := h c
  obtain ⟨a0, a1, a2⟩ := hagree c
  have b0 := (StableHlo.launchContents_devRef m' c Cert.Reference17Ideal.main_arg0).trans a0
  have b1 := (StableHlo.launchContents_devRef m' c Cert.Reference17Ideal.main_arg1).trans a1
  have b2 := (StableHlo.launchContents_devRef m' c Cert.Reference17Ideal.main_arg2).trans a2
  obtain ⟨p0, p1, p2⟩ := hpre c
  obtain ⟨h0, h1, h2⟩ := reals _ _ _ p0 p1 p2
  refine ⟨r0.trans ?_, r1.trans ?_, r2.trans ?_, r3.trans ?_, hargs⟩
  · refine (Cert.Reference17Ideal.Read.val_main_v151_eq (StableHlo.launchContents m' c)).trans ?_
    rw [b0, b1, b2]
    exact (dq_eq m c _ _ _ rfl rfl rfl h0 h1 h2).symm
  · refine (Cert.Reference17Ideal.Read.val_main_v152_eq (StableHlo.launchContents m' c)).trans ?_
    rw [b0, b1, b2]
    exact (dcur_eq m c _ _ _ rfl rfl rfl h0 h1 h2).symm
  · refine (Cert.Reference17Ideal.Read.val_main_v153_eq (StableHlo.launchContents m' c)).trans ?_
    rw [b0, b1, b2]
    exact (dprev_eq m c _ _ _ rfl rfl rfl h0 h1 h2).symm
  · refine (Cert.Reference17Ideal.Read.val_main_v154_eq (StableHlo.launchContents m' c)).trans ?_
    rw [b0, b1, b2]
    exact (dsinks_eq m c _ _ _ rfl rfl rfl h0 h1 h2).symm

end Cert.AttnClaims

end
-- ==== Proof.AttnFwdBlock.lean ====
module

public import proofs.«01_k».proof.Proof.AttnMask
public import proofs.«01_k».proof.Proof.Gen.Kernel18Ideal.Frame
public import Idealize.ShloMosaic.Lib.Pipeline.ReadBack

@[expose] public section

noncomputable section

namespace Cert.Attn

open Idealize.ShloMosaic

section block

variable (n : Nat) (x0 : (⟨1, ![16]⟩ : Shape).Idx → EReal) (x1 : (⟨2, ![128, 1024]⟩ : Shape).Idx → EReal) (x2 x3 : (⟨2, ![128, 256]⟩ : Shape).Idx → EReal)

/-- The attention's output in a stacked row. -/
def output (h : Fin 2) (r : Fin 1024) (d : Fin 64) : EReal := ∑ k, prob n x0 x1 x2 x3 h r k * value x2 x3 h k d

/-- The attention's output at a position and a column. -/
def outputAt (q : Fin 128) (j : Fin 1024) : EReal :=
  output n x0 x1 x2 x3 ⟨j.val / 512, by omega⟩ ⟨j.val % 512 / 64 * 128 + q.val, by omega⟩ ⟨j.val % 64, by omega⟩

end block

end Cert.Attn

namespace Cert.Kernel18Ideal.Hand

open Idealize.ShloMosaic Idealize.SL.Sem Cert.Kernel18Ideal Cert.Kernel18Ideal.Gen Cert.Attn
open Cert.Kernel17Ideal.Hand (rem128 window start select_ofBool negInf)

/-! What the forward body leaves of each query head. -/

theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- The mask. -/
theorem pay2_apply (i : grid0.Coords) (q : Fin 128) (k : Fin 256) :
    k0_pay2 i (ix2 q k) = BitVec.ofBool (decide (valid (i 0).val q k)) := by
  have hp : pos (⟨q.val, by omega⟩ : Fin 1024) = q := Fin.ext (Nat.mod_eq_of_lt q.isLt)
  have e := rem128 ⟨q.val, by omega⟩
  rw [hp] at e
  pointwise [k0_pay2]
  rw [e, window, start (i 0)]
  unfold valid
  simp only [IntOp.andi, ← and_assoc, Bool.decide_and]
  generalize decide (128 ≤ k.val ∨ 0 < (i 0).val) = a
  generalize (decide (q.val < k.val) && decide (k.val ≤ q.val + 128)) = b
  revert a b; decide

theorem mask_eq : (Named.named κ "mask" (φ := .f32) 0xF149F2CA#32 : Ideal .f32) = (⊥ : EReal) := IdealRules.named_const.ideal_named_scalar _ _ _ _ rfl

/-- One head's scores. -/
def headScore (M : IVec S128x256 1) (a : FVec Ideal S128x64 .bf16) (b : FVec Ideal S256x64 .bf16) : FVec Ideal S128x256 .f32 :=
  select M (mulf (matmul dot_S128x64_S256x64_S128x256_1_1_0_0_n_n none a b (constant S128x256 .f32 0x00000000#32)) (broadcast S128x256 (Scalar.ofBits .f32 0x3E000000#32)))
    (broadcast S128x256 (Named.named κ "mask" 0xF149F2CA#32))

/-- Their maxima, the sink among them. -/
def headTop (s : FVec Ideal S128x256 .f32) (w : Elt Ideal .f32) : FVec Ideal S128x1 .f32 :=
  maximumf (shapeCast S128x1 (multiReduction .maximumf [1] S128 s 0xFF800000#32 reduces_S128x256_S128 (.inl rfl) rfl) shapeCasts_S128_S128x1) (broadcast S128x1 w)

/-- Their exponentials. -/
def headExp (s : FVec Ideal S128x256 .f32) (w : Elt Ideal .f32) : FVec Ideal S128x256 .f32 :=
  exp (subf s (broadcastTo S128x256 (headTop s w) broadcasts_S128x1_S128x256))

/-- The sums of the exponentials, the sink's among them. -/
def headDen (s : FVec Ideal S128x256 .f32) (w : Elt Ideal .f32) : FVec Ideal S128x1 .f32 :=
  addf (shapeCast S128x1 (multiReduction .add [1] S128 (headExp s w) 0x00000000#32 reduces_S128x256_S128 (.inl rfl) rfl) shapeCasts_S128_S128x1)
    (exp (subf (broadcast S128x1 w) (headTop s w)))

/-- The head's output. -/
def headOut (s : FVec Ideal S128x256 .f32) (w : Elt Ideal .f32) (v : FVec Ideal S256x64 .bf16) : FVec Ideal S128x64 .bf16 :=
  truncf .bf16 (matmul dot_S128x256_S256x64_S128x64_1_0_0_1_n_n none
    (truncf .bf16 (divf (headExp s w) (broadcastTo S128x256 (headDen s w) broadcasts_S128x1_S128x256)) bitsLt_bf16_f32) v (constant S128x64 .f32 0x00000000#32)) bitsLt_bf16_f32

section head

variable (i : grid0.Coords) (s : FVec Ideal S128x256 .f32) (w : EReal) (a : FVec Ideal S128x64 .bf16) (b v : FVec Ideal S256x64 .bf16) (q : Fin 128)

theorem headScore_apply (k : Fin 256) : headScore (k0_pay2 i) a b (ix2 q k) = if valid (i 0).val q k then (∑ d, a (ix2 q d) * b (ix2 k d)) * eighth else ⊥ := by
  pointwise [headScore]
  rw [pay2_apply, select_ofBool, mask_eq]
  rfl

theorem headTop_apply (z : Fin 1) : headTop s w (ix2 q z) = rowTop (fun k => s (ix2 q k)) w := by
  pointwise [headTop]
  simp only [negInf]
  rfl

theorem headExp_apply (k : Fin 256) : headExp s w (ix2 q k) = Ideal.exp (s (ix2 q k) - rowTop (fun k => s (ix2 q k)) w) := by
  pointwise [headExp]
  rw [headTop_apply]

theorem headDen_apply (z : Fin 1) : headDen s w (ix2 q z) = rowDen (fun k => s (ix2 q k)) w := by
  pointwise [headDen]
  simp only [headExp_apply, headTop_apply]
  rfl

theorem headOut_apply (d : Fin 64) : headOut s w v (ix2 q d) = ∑ k, rowP (fun k => s (ix2 q k)) w k * v (ix2 k d) := by
  pointwise [headOut]
  simp only [headExp_apply, headDen_apply]
  rfl

end head

end Cert.Kernel18Ideal.Hand

end
-- ==== Proof.AttnFwdOut.lean ====
module

public import proofs.«01_k».proof.Proof.AttnFwdBlock
public import proofs.«01_k».proof.Proof.AttnBlock

@[expose] public section

noncomputable section

namespace Cert.Kernel18Ideal.Hand

open Idealize.ShloMosaic Idealize.SL.Sem Cert.Kernel18Ideal Cert.Kernel18Ideal.Gen Cert.Attn
open Cert.Kernel17Ideal.Hand (IsKey IsValue IsWord isWord_ld ld_whole)

/-! What the forward body leaves in its output. -/

section keys

variable (x1 : Vec Ideal S128x1024 .bf16) (x2 x3 : Vec Ideal S128x256 .bf16)

theorem ld_keys (x : Vec Ideal S128x256 .bf16) (inb : ∀ a, (![0, 0] : Fin 2 → Nat) a + (![128, 256] : Fin 2 → Nat) a ≤ S128x256.size a) :
    View.ld x (Rect.unit (s := S128x256) ![0, 0] ![128, 256] inb) = x := ld_whole x inb

theorem ld_queries (inb : ∀ a, (![0, 0] : Fin 2 → Nat) a + (![128, 1024] : Fin 2 → Nat) a ≤ S128x1024.size a) :
    View.ld x1 (Rect.unit (s := S128x1024) ![0, 0] ![128, 1024] inb) = x1 := by
  funext y
  show x1 _ = x1 _
  congr 1
  funext a
  apply Fin.ext
  match a with
  | ⟨0, _⟩ => show 0 + 1 * (y 0).val = (y 0).val; omega
  | ⟨1, _⟩ => show 0 + 1 * (y 1).val = (y 1).val; omega

theorem key0 : IsKey x2 x3 0 (k0_pay3 (F := Ideal) x2 x3) := by
  intro k d
  unfold key band
  pointwise [k0_pay3]

theorem value0 : IsValue x2 x3 0 (k0_pay4 (F := Ideal) x2 x3) := by
  intro k d
  unfold value band
  pointwise [k0_pay4]

theorem key1 : IsKey x2 x3 1 (k0_pay20 (F := Ideal) x2 x3) := by
  intro k d
  unfold key band
  pointwise [k0_pay20]

theorem value1 : IsValue x2 x3 1 (k0_pay21 (F := Ideal) x2 x3) := by
  intro k d
  unfold value band
  pointwise [k0_pay21]

end keys

section heads

variable (n : Nat) (x0 : Vec Ideal S16 .f32) (x1 : Vec Ideal S128x1024 .bf16) (x2 x3 : Vec Ideal S128x256 .bf16)

/-- `p` is the output of query head `g` of head `h`. -/
def IsHead (h : Fin 2) (g : Fin 8) (p : FVec Ideal S128x64 .bf16) : Prop :=
  ∀ (q : Fin 128) (d : Fin 64), p (ix2 q d) = output n x0 x1 x2 x3 h ⟨g.val * 128 + q.val, by omega⟩ d

/-- The body's tower of one query head. -/
theorem isHead (i : grid0.Coords) (h : Fin 2) (g : Fin 8) (o : Nat) (ho : o = h.val * 512 + g.val * 64) (sl : S128x1024.Slices ![0, o] S128x64)
    {b v : FVec Ideal S256x64 .bf16} {w : EReal} (hb : IsKey x2 x3 h b) (hv : IsValue x2 x3 h v) (hw : IsWord x0 h g w) :
    IsHead (i 0).val x0 x1 x2 x3 h g (headOut (headScore (k0_pay2 i) (extractStridedSlice S128x64 ![0, o] x1 sl) b) w v) := by
  intro q d
  have hp : pos (⟨g.val * 128 + q.val, by omega⟩ : Fin 1024) = q := Fin.ext (by show (g.val * 128 + q.val) % 128 = q.val; omega)
  have hh : headOf h ⟨g.val * 128 + q.val, by omega⟩ = ⟨h.val * 8 + g.val, by omega⟩ :=
    Fin.ext (by show h.val * 8 + (g.val * 128 + q.val) / 128 = h.val * 8 + g.val; omega)
  have hs : ∀ k, headScore (k0_pay2 i) (extractStridedSlice S128x64 ![0, o] x1 sl) b (ix2 q k) = score (i 0).val x1 x2 x3 h ⟨g.val * 128 + q.val, by omega⟩ k := by
    intro k
    rw [headScore_apply]
    unfold score
    rw [hp]
    refine if_congr Iff.rfl (congrArg (· * eighth) (Finset.sum_congr rfl fun e _ => ?_)) rfl
    rw [hb]
    congr 1
    show x1 _ = x1 _
    congr 1
    funext a
    apply Fin.ext
    match a with
    | ⟨0, _⟩ => exact Nat.zero_add _
    | ⟨1, _⟩ => show o + e.val = h.val * 512 + (g.val * 128 + q.val) / 128 * 64 + e.val; omega
  rw [headOut_apply]
  unfold output prob
  rw [hh, ← (show w = _ from hw), funext hs]
  exact Finset.sum_congr rfl fun k _ => congrArg _ (hv k d)

theorem outputAt_emb (h : Fin 2) (g : Fin 8) (o : Nat) (ho : o = h.val * 512 + g.val * 64)
    (inb : ∀ a, (![0, o] : Fin 2 → Nat) a + (⟨2, ![128, 64]⟩ : Shape).size a ≤ S128x1024.size a) (q : Fin 128) (d : Fin 64) :
    output n x0 x1 x2 x3 h ⟨g.val * 128 + q.val, by omega⟩ d
      = outputAt n x0 x1 x2 x3 ((Rect.unit (s := S128x1024) ![0, o] (⟨2, ![128, 64]⟩ : Shape).size inb).emb (ix2 q d) 0)
          ((Rect.unit (s := S128x1024) ![0, o] (⟨2, ![128, 64]⟩ : Shape).size inb).emb (ix2 q d) 1) := by
  have e0 : (Rect.unit (s := S128x1024) ![0, o] (⟨2, ![128, 64]⟩ : Shape).size inb).emb (ix2 q d) 0 = q :=
    Fin.ext (show 0 + 1 * q.val = q.val by omega)
  have e1 : (Rect.unit (s := S128x1024) ![0, o] (⟨2, ![128, 64]⟩ : Shape).size inb).emb (ix2 q d) 1 = (⟨o + d.val, by omega⟩ : Fin 1024) :=
    Fin.ext (show o + 1 * d.val = o + d.val by omega)
  rw [e0, e1]
  unfold outputAt
  congr 1 <;> apply Fin.ext <;> dsimp only <;> omega

/-- The output at one place. -/
abbrev outputG (y : S128x1024.Idx) : Elt Ideal .bf16 := outputAt n x0 x1 x2 x3 (y 0) (y 1)

theorem piece (h : Fin 2) (g : Fin 8) {p : FVec Ideal S128x64 .bf16} (hp : IsHead n x0 x1 x2 x3 h g p) (o : Nat) (ho : o = h.val * 512 + g.val * 64) (inb)
    (y : S128x64.Idx) : p y = outputG n x0 x1 x2 x3 ((Rect.unit (s := S128x1024) ![0, o] S128x64.size inb).emb y) := by
  rw [eq_ix2 y]
  exact (hp _ _).trans (outputAt_emb n x0 x1 x2 x3 h g o ho inb _ _)

/-- The output as the body writes it: by query head, last first. -/
theorem pieces {p0 p1 p2 p3 p4 p5 p6 p7 p8 p9 p10 p11 p12 p13 p14 p15 : FVec Ideal S128x64 .bf16}
    (h0 : IsHead n x0 x1 x2 x3 0 0 p0) (h1 : IsHead n x0 x1 x2 x3 0 1 p1) (h2 : IsHead n x0 x1 x2 x3 0 2 p2) (h3 : IsHead n x0 x1 x2 x3 0 3 p3)
    (h4 : IsHead n x0 x1 x2 x3 0 4 p4) (h5 : IsHead n x0 x1 x2 x3 0 5 p5) (h6 : IsHead n x0 x1 x2 x3 0 6 p6) (h7 : IsHead n x0 x1 x2 x3 0 7 p7)
    (h8 : IsHead n x0 x1 x2 x3 1 0 p8) (h9 : IsHead n x0 x1 x2 x3 1 1 p9) (h10 : IsHead n x0 x1 x2 x3 1 2 p10) (h11 : IsHead n x0 x1 x2 x3 1 3 p11)
    (h12 : IsHead n x0 x1 x2 x3 1 4 p12) (h13 : IsHead n x0 x1 x2 x3 1 5 p13) (h14 : IsHead n x0 x1 x2 x3 1 6 p14) (h15 : IsHead n x0 x1 x2 x3 1 7 p15) (q : Fin 128) (j : Fin 1024) :
    View.canon (Val := Elt Ideal) (s := S128x1024) (e := .bf16)
      [⟨Rect.unit ![0, 960] S128x64.size inb_S128x1024_S128x64_0_960, p15⟩,
        ⟨Rect.unit ![0, 896] S128x64.size inb_S128x1024_S128x64_0_896, p14⟩,
        ⟨Rect.unit ![0, 832] S128x64.size inb_S128x1024_S128x64_0_832, p13⟩,
        ⟨Rect.unit ![0, 768] S128x64.size inb_S128x1024_S128x64_0_768, p12⟩,
        ⟨Rect.unit ![0, 704] S128x64.size inb_S128x1024_S128x64_0_704, p11⟩,
        ⟨Rect.unit ![0, 640] S128x64.size inb_S128x1024_S128x64_0_640, p10⟩,
        ⟨Rect.unit ![0, 576] S128x64.size inb_S128x1024_S128x64_0_576, p9⟩,
        ⟨Rect.unit ![0, 512] S128x64.size inb_S128x1024_S128x64_0_512, p8⟩,
        ⟨Rect.unit ![0, 448] S128x64.size inb_S128x1024_S128x64_0_448, p7⟩,
        ⟨Rect.unit ![0, 384] S128x64.size inb_S128x1024_S128x64_0_384, p6⟩,
        ⟨Rect.unit ![0, 320] S128x64.size inb_S128x1024_S128x64_0_320, p5⟩,
        ⟨Rect.unit ![0, 256] S128x64.size inb_S128x1024_S128x64_0_256, p4⟩,
        ⟨Rect.unit ![0, 192] S128x64.size inb_S128x1024_S128x64_0_192, p3⟩,
        ⟨Rect.unit ![0, 128] S128x64.size inb_S128x1024_S128x64_0_128, p2⟩,
        ⟨Rect.unit ![0, 64] S128x64.size inb_S128x1024_S128x64_0_64, p1⟩,
        ⟨Rect.unit ![0, 0] S128x64.size inb_S128x1024_S128x64_0_0, p0⟩] (ix2 q j) = outputAt n x0 x1 x2 x3 q j := by
  refine canon_of_piecesOf (s := S128x1024) (e := .bf16) (outputG n x0 x1 x2 x3) _ ?_ (ix2 q j) ?_
  rotate_left
  · exact View.cover_of_tiledL (s := S128x1024) _ S128x64.size (by sl_kernel_rfl) _
  exact ⟨piece n x0 x1 x2 x3 1 7 h15 960 rfl inb_S128x1024_S128x64_0_960,
    piece n x0 x1 x2 x3 1 6 h14 896 rfl inb_S128x1024_S128x64_0_896,
    piece n x0 x1 x2 x3 1 5 h13 832 rfl inb_S128x1024_S128x64_0_832,
    piece n x0 x1 x2 x3 1 4 h12 768 rfl inb_S128x1024_S128x64_0_768,
    piece n x0 x1 x2 x3 1 3 h11 704 rfl inb_S128x1024_S128x64_0_704,
    piece n x0 x1 x2 x3 1 2 h10 640 rfl inb_S128x1024_S128x64_0_640,
    piece n x0 x1 x2 x3 1 1 h9 576 rfl inb_S128x1024_S128x64_0_576,
    piece n x0 x1 x2 x3 1 0 h8 512 rfl inb_S128x1024_S128x64_0_512,
    piece n x0 x1 x2 x3 0 7 h7 448 rfl inb_S128x1024_S128x64_0_448,
    piece n x0 x1 x2 x3 0 6 h6 384 rfl inb_S128x1024_S128x64_0_384,
    piece n x0 x1 x2 x3 0 5 h5 320 rfl inb_S128x1024_S128x64_0_320,
    piece n x0 x1 x2 x3 0 4 h4 256 rfl inb_S128x1024_S128x64_0_256,
    piece n x0 x1 x2 x3 0 3 h3 192 rfl inb_S128x1024_S128x64_0_192,
    piece n x0 x1 x2 x3 0 2 h2 128 rfl inb_S128x1024_S128x64_0_128,
    piece n x0 x1 x2 x3 0 1 h1 64 rfl inb_S128x1024_S128x64_0_64,
    piece n x0 x1 x2 x3 0 0 h0 0 rfl inb_S128x1024_S128x64_0_0, trivial⟩

end heads

section towers

variable (M : IVec S128x256 1) (x : Vec Ideal S128x1024 .bf16) (x2 x3 : Vec Ideal S128x256 .bf16) (b v : FVec Ideal S256x64 .bf16) (w : Elt Ideal .f32)

theorem tower0  :
    k0_pay6 M v w (k0_pay5 x x2 x3) = headOut (headScore M (extractStridedSlice S128x64 ![0, 0] x slices_S128x1024_o0_0_S128x64) (k0_pay3 x2 x3)) w v := rfl

theorem tower1  :
    k0_pay8 v (k0_pay7 M x b w) = headOut (headScore M (extractStridedSlice S128x64 ![0, 64] x slices_S128x1024_o0_64_S128x64) b) w v := rfl

theorem tower2  :
    k0_pay9 M x b v w = headOut (headScore M (extractStridedSlice S128x64 ![0, 128] x slices_S128x1024_o0_128_S128x64) b) w v := rfl

theorem tower3  :
    k0_pay13 v w (k0_pay10 M x b) (k0_pay11 M x b w) (k0_pay12 M x b w) = headOut (headScore M (extractStridedSlice S128x64 ![0, 192] x slices_S128x1024_o0_192_S128x64) b) w v := rfl

theorem tower4  :
    k0_pay14 M x b v w = headOut (headScore M (extractStridedSlice S128x64 ![0, 256] x slices_S128x1024_o0_256_S128x64) b) w v := rfl

theorem tower5  :
    k0_pay16 M v w (k0_pay15 x b) = headOut (headScore M (extractStridedSlice S128x64 ![0, 320] x slices_S128x1024_o0_320_S128x64) b) w v := rfl

theorem tower6  :
    k0_pay18 v (k0_pay17 M x b w) = headOut (headScore M (extractStridedSlice S128x64 ![0, 384] x slices_S128x1024_o0_384_S128x64) b) w v := rfl

theorem tower7  :
    k0_pay19 M x b v w = headOut (headScore M (extractStridedSlice S128x64 ![0, 448] x slices_S128x1024_o0_448_S128x64) b) w v := rfl

theorem tower8  :
    k0_pay23 v w (k0_pay22 M x x2 x3) = headOut (headScore M (extractStridedSlice S128x64 ![0, 512] x slices_S128x1024_o0_512_S128x64) (k0_pay20 x2 x3)) w v := rfl

theorem tower9  :
    k0_pay24 M x b v w = headOut (headScore M (extractStridedSlice S128x64 ![0, 576] x slices_S128x1024_o0_576_S128x64) b) w v := rfl

theorem tower10  :
    k0_pay25 M x b v w = headOut (headScore M (extractStridedSlice S128x64 ![0, 640] x slices_S128x1024_o0_640_S128x64) b) w v := rfl

theorem tower11  :
    k0_pay30 v (k0_pay28 M x b w) (k0_pay29 M x b w) = headOut (headScore M (extractStridedSlice S128x64 ![0, 704] x slices_S128x1024_o0_704_S128x64) b) w v := rfl

theorem tower12  :
    k0_pay31 M x b v w = headOut (headScore M (extractStridedSlice S128x64 ![0, 768] x slices_S128x1024_o0_768_S128x64) b) w v := rfl

theorem tower13  :
    k0_pay33 v w (k0_pay32 M x b) = headOut (headScore M (extractStridedSlice S128x64 ![0, 832] x slices_S128x1024_o0_832_S128x64) b) w v := rfl

theorem tower14  :
    k0_pay34 M x b v w = headOut (headScore M (extractStridedSlice S128x64 ![0, 896] x slices_S128x1024_o0_896_S128x64) b) w v := rfl

theorem tower15  :
    k0_pay1 M x b v w = headOut (headScore M (extractStridedSlice S128x64 ![0, 960] x slices_S128x1024_o0_960_S128x64) b) w v := rfl

end towers

section out

variable (c : Dev nD) (i : grid0.Coords) (arg1 : Memref sig .tc .smem S16 .f32) (harg1 : arg1.IsWhole) (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x1024 .bf16) (harg5 : arg5.IsWhole)
  (x0 : Vec Ideal S16 .f32) (x1 : Vec Ideal S128x1024 .bf16) (x2 x3 : Vec Ideal S128x256 .bf16)

theorem out0_A_4_apply (q : Fin 128) (j : Fin 1024) :
    out0_A_4 c i arg1 harg1 arg2 harg2 arg3 harg3 arg4 harg4 arg5 harg5 x0 x1 x2 x3 (ix2 q j) = outputAt (i 0).val x0 x1 x2 x3 q j := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp (disch := decide) only [View.readAt_eq_ld, harg1.read_unread, harg2.read_unread, harg3.read_unread, harg4.read_unread]
  refine pieces (i 0).val x0 x1 x2 x3 ?_ ?_ ?_ ?_ ?_ ?_ ?_ ?_ ?_ ?_ ?_ ?_ ?_ ?_ ?_ ?_ q j
  all_goals simp only [ld_queries, ld_keys, tower0, tower1, tower2, tower3, tower4, tower5, tower6, tower7, tower8, tower9, tower10, tower11, tower12, tower13, tower14, tower15]
  · exact isHead x0 x1 x2 x3 i 0 0 0 rfl slices_S128x1024_o0_0_S128x64 (key0 x2 x3) (value0 x2 x3) (isWord_ld x0 0 0 0 rfl _ _)
  · exact isHead x0 x1 x2 x3 i 0 1 64 rfl slices_S128x1024_o0_64_S128x64 (key0 x2 x3) (value0 x2 x3) (isWord_ld x0 0 1 1 rfl _ _)
  · exact isHead x0 x1 x2 x3 i 0 2 128 rfl slices_S128x1024_o0_128_S128x64 (key0 x2 x3) (value0 x2 x3) (isWord_ld x0 0 2 2 rfl _ _)
  · exact isHead x0 x1 x2 x3 i 0 3 192 rfl slices_S128x1024_o0_192_S128x64 (key0 x2 x3) (value0 x2 x3) (isWord_ld x0 0 3 3 rfl _ _)
  · exact isHead x0 x1 x2 x3 i 0 4 256 rfl slices_S128x1024_o0_256_S128x64 (key0 x2 x3) (value0 x2 x3) (isWord_ld x0 0 4 4 rfl _ _)
  · exact isHead x0 x1 x2 x3 i 0 5 320 rfl slices_S128x1024_o0_320_S128x64 (key0 x2 x3) (value0 x2 x3) (isWord_ld x0 0 5 5 rfl _ _)
  · exact isHead x0 x1 x2 x3 i 0 6 384 rfl slices_S128x1024_o0_384_S128x64 (key0 x2 x3) (value0 x2 x3) (isWord_ld x0 0 6 6 rfl _ _)
  · exact isHead x0 x1 x2 x3 i 0 7 448 rfl slices_S128x1024_o0_448_S128x64 (key0 x2 x3) (value0 x2 x3) (isWord_ld x0 0 7 7 rfl _ _)
  · exact isHead x0 x1 x2 x3 i 1 0 512 rfl slices_S128x1024_o0_512_S128x64 (key1 x2 x3) (value1 x2 x3) (isWord_ld x0 1 0 8 rfl _ _)
  · exact isHead x0 x1 x2 x3 i 1 1 576 rfl slices_S128x1024_o0_576_S128x64 (key1 x2 x3) (value1 x2 x3) (isWord_ld x0 1 1 9 rfl _ _)
  · exact isHead x0 x1 x2 x3 i 1 2 640 rfl slices_S128x1024_o0_640_S128x64 (key1 x2 x3) (value1 x2 x3) (isWord_ld x0 1 2 10 rfl _ _)
  · exact isHead x0 x1 x2 x3 i 1 3 704 rfl slices_S128x1024_o0_704_S128x64 (key1 x2 x3) (value1 x2 x3) (isWord_ld x0 1 3 11 rfl _ _)
  · exact isHead x0 x1 x2 x3 i 1 4 768 rfl slices_S128x1024_o0_768_S128x64 (key1 x2 x3) (value1 x2 x3) (isWord_ld x0 1 4 12 rfl _ _)
  · exact isHead x0 x1 x2 x3 i 1 5 832 rfl slices_S128x1024_o0_832_S128x64 (key1 x2 x3) (value1 x2 x3) (isWord_ld x0 1 5 13 rfl _ _)
  · exact isHead x0 x1 x2 x3 i 1 6 896 rfl slices_S128x1024_o0_896_S128x64 (key1 x2 x3) (value1 x2 x3) (isWord_ld x0 1 6 14 rfl _ _)
  · exact isHead x0 x1 x2 x3 i 1 7 960 rfl slices_S128x1024_o0_960_S128x64 (key1 x2 x3) (value1 x2 x3) (isWord_ld x0 1 7 15 rfl _ _)

end out

end Cert.Kernel18Ideal.Hand

end
-- ==== Proof.AttnFwdMatch.lean ====
module

public import proofs.«01_k».proof.Proof.AttnMatch
public import proofs.«01_k».proof.Proof.AttnFwdBlock

@[expose] public section

noncomputable section

namespace Cert.Attn

open Idealize.ShloMosaic

/-! The first block's output does not depend on the rows before the sequence's start, whatever the arguments hold. -/

theorem exp_nonneg (x : EReal) : 0 ≤ Ideal.exp x := by
  induction x using EReal.rec with
  | bot => exact le_refl _
  | coe r => exact EReal.coe_nonneg.mpr (Real.exp_pos r).le
  | top => exact le_top

/-- A sum of multiples of minus infinity is zero or an infinity. -/
theorem bot_sum {ι : Type} (t : Finset ι) (v : ι → EReal) : (∑ k ∈ t, ⊥ * v k = ⊥) ∨ (∑ k ∈ t, ⊥ * v k = 0) ∨ (∑ k ∈ t, ⊥ * v k = ⊤) := by
  classical
  induction t using Finset.induction_on with
  | empty => exact Or.inr (Or.inl Finset.sum_empty)
  | insert a t ha ih =>
    rw [Finset.sum_insert ha]
    rcases lt_trichotomy (v a) 0 with h | h | h
    · rw [EReal.bot_mul_of_neg h]
      rcases ih with e | e | e <;> rw [e]
      · exact Or.inl (EReal.add_bot _)
      · exact Or.inr (Or.inr (add_zero _))
      · exact Or.inr (Or.inr rfl)
    · rw [h, mul_zero, zero_add]
      exact ih
    · rw [EReal.bot_mul_of_pos h, EReal.bot_add]
      exact Or.inl rfl

/-- Such a sum taken twice is the sum. -/
theorem bot_sum_twice {ι : Type} (t : Finset ι) (v : ι → EReal) : (∑ k ∈ t, ⊥ * v k) + ∑ k ∈ t, ⊥ * v k = ∑ k ∈ t, ⊥ * v k := by
  rcases bot_sum t v with e | e | e <;> rw [e]
  · exact EReal.add_bot _
  · exact add_zero _
  · rfl

section row

variable (s : Fin 256 → EReal) (σ : EReal)

/-- Where a row's exponentials have a sum, a masked key has probability nothing. -/
theorem rowP_zero (hd : rowDen s σ ≠ 0) (k : Fin 256) (hk : s k = ⊥) : rowP s σ k = 0 := by
  unfold rowP Ideal.div
  rw [if_neg hd, hk, EReal.bot_sub]
  exact zero_mul _

/-- Where they have none, every key has the quotient of nothing by nothing. -/
theorem rowP_bot (hd : rowDen s σ = 0) (k : Fin 256) : rowP s σ k = ⊥ := by
  have h0 : ∑ k, Ideal.exp (s k - rowTop s σ) = 0 :=
    le_antisymm ((le_add_of_nonneg_right (exp_nonneg _)).trans hd.le) (Finset.sum_nonneg fun k _ => exp_nonneg _)
  have hk : Ideal.exp (s k - rowTop s σ) = 0 := (Finset.sum_eq_zero_iff_of_nonneg fun k _ => exp_nonneg _).mp h0 k (Finset.mem_univ k)
  unfold rowP Ideal.div
  rw [if_pos hd, hk, if_neg (lt_irrefl _)]

end row

section first

variable {x0 : (⟨1, ![16]⟩ : Shape).Idx → EReal} {x1 : (⟨2, ![128, 1024]⟩ : Shape).Idx → EReal} {x2 x3 x3' : (⟨2, ![128, 256]⟩ : Shape).Idx → EReal}

theorem value_early (h : Fin 2) (k : Fin 128) (d : Fin 64) : value x2 x3 h (Fin.castAdd 128 k) d = x3 (ix2 k ⟨128 + h.val * 64 + d.val, by omega⟩) :=
  dif_pos k.isLt

theorem value_late (h : Fin 2) (k : Fin 128) (d : Fin 64) : value x2 x3 h (Fin.natAdd 128 k) d = x2 (ix2 k ⟨128 + h.val * 64 + d.val, by omega⟩) := by
  refine (dif_neg (by show ¬128 + k.val < 128; omega)).trans (congrArg (fun i => x2 (ix2 i _)) (Fin.ext ?_))
  show 128 + k.val - 128 = k.val
  omega

/-- The first block's output with its own rows in the place of the previous block's, and with nothing there. -/
theorem output_first (hz : ∀ y, x3' y = 0) (h : Fin 2) (r : Fin 1024) (d : Fin 64) : output 0 x0 x1 x2 x2 h r d = output 0 x0 x1 x2 x3' h r d := by
  have hb : ∀ (k c : Fin 256), (128 ≤ k.val ∨ 0 < 0) → band x2 x2 k c = band x2 x3' k c := fun k c hk => by
    have h128 : ¬k.val < 128 := by omega
    unfold band
    rw [dif_neg h128, dif_neg h128]
  unfold output
  simp only [prob_swap hb]
  have split : ∀ f : Fin 256 → EReal, ∑ k, f k = (∑ k : Fin 128, f (Fin.castAdd 128 k)) + ∑ k : Fin 128, f (Fin.natAdd 128 k) := fun f => Fin.sum_univ_add (a := 128) (b := 128) f
  rw [split, split]
  simp only [value_early, value_late, hz, mul_zero, Finset.sum_const_zero, zero_add]
  by_cases hd : rowDen (score 0 x1 x2 x3' h r) (x0 (ix1 (headOf h r))) = 0
  · have e : ∀ k, prob 0 x0 x1 x2 x3' h r k = ⊥ := fun k => rowP_bot _ _ hd k
    simp only [e]
    exact bot_sum_twice _ _
  · have e : ∀ k : Fin 128, prob 0 x0 x1 x2 x3' h r (Fin.castAdd 128 k) = 0 := fun k => by
      refine rowP_zero _ _ hd _ ?_
      unfold score
      refine if_neg fun hv => ?_
      have h1 : 128 ≤ k.val ∨ 0 < 0 := hv.2.2
      omega
    simp only [e, zero_mul, Finset.sum_const_zero, zero_add]

end first

end Cert.Attn

namespace Cert.Reference17Ideal.Hand

open Idealize.ShloMosaic Cert.Reference17Ideal Cert.Reference17Ideal.Read Cert.Attn

variable (x0 : S4096x2304.Idx → EReal) (x1 : S16.Idx → EReal)

/-- A block's output with the previous block's rows, nothing before the first. -/
theorem output_before (n : Nat) (h : Fin 2) (r : Fin 1024) (d : Fin 64) :
    output n x1 (queries x0 n) (keysValues x0 n) (keysValues x0 (n - 1)) h r d = output n x1 (queries x0 n) (keysValues x0 n) (before x0 n) h r d := by
  by_cases hn : n = 0
  · subst hn
    exact output_first (before_zero x0 rfl) h r d
  · rw [show before x0 n = keysValues x0 (n - 1) from funext (before_later x0 hn)]

/-- The plain attention at a row and a column. -/
theorem output_eq (r : Fin 4096) (j : Fin 1024) : val_main_v96 (F := Ideal) x0 x1 (ix2 r j)
    = outputAt (r.val / 128) x1 (queries x0 (r.val / 128)) (keysValues x0 (r.val / 128)) (keysValues x0 (r.val / 128 - 1)) ⟨r.val % 128, by omega⟩ j := by
  unfold outputAt
  rw [output_before]
  have er : rowAt (⟨r.val / 128, by omega⟩ : Fin 32).val ⟨r.val % 128, by omega⟩ = r := Fin.ext (by show r.val / 128 % 32 * 128 + r.val % 128 = r.val; omega)
  have ec : col ⟨j.val / 512, by omega⟩ (stacked ⟨j.val / 64 % 8, by omega⟩ ⟨r.val % 128, by omega⟩) ⟨j.val % 64, by omega⟩ = j := Fin.ext (by
    show j.val / 512 * 512 + (stacked ⟨j.val / 64 % 8, by omega⟩ ⟨r.val % 128, by omega⟩).val / 128 * 64 + j.val % 64 = j.val
    rw [group_stacked]
    show j.val / 512 * 512 + j.val / 64 % 8 * 64 + j.val % 64 = j.val
    omega)
  have es : (⟨j.val % 512 / 64 * 128 + (⟨r.val % 128, by omega⟩ : Fin 128).val, by show j.val % 512 / 64 * 128 + r.val % 128 < 1024; omega⟩ : Fin 1024)
      = stacked ⟨j.val / 64 % 8, by omega⟩ ⟨r.val % 128, by omega⟩ := Fin.ext (by
    show j.val % 512 / 64 * 128 + r.val % 128 = j.val / 64 % 8 * 128 + r.val % 128
    omega)
  have e := v96_apply x0 x1 ⟨r.val / 128, by omega⟩ ⟨j.val / 512, by omega⟩ ⟨j.val / 64 % 8, by omega⟩ ⟨r.val % 128, by omega⟩ ⟨j.val % 64, by omega⟩
  rw [er, ec] at e
  rw [e, es]
  unfold output prob
  refine Finset.sum_congr rfl fun k _ => ?_
  rw [rowS_eq, rowσ_eq x1 ⟨j.val / 512, by omega⟩ ⟨j.val / 64 % 8, by omega⟩ ⟨r.val % 128, by omega⟩]
  exact mul_comm _ _

end Cert.Reference17Ideal.Hand

end
-- ==== Proof.AttnFwdClaims.lean ====
module

public import proofs.«01_k».proof.Defs
public import proofs.«01_k».proof.Proof.AttnFwdOut
public import proofs.«01_k».proof.Proof.AttnFwdMatch
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit

@[expose] public section

noncomputable section

namespace Cert.Reference18Ideal.Hand

open Idealize.ShloMosaic Cert.Reference18Ideal Cert.Reference18Ideal.Read

/-! The plain attention is the forward that the backward's reference passes through. -/

variable (x0 : S4096x2304.Idx → EReal) (x1 : S16.Idx → EReal)

theorem v20_eq : val_main_v20 (F := Ideal) x0 = Cert.Reference17Ideal.Read.val_main_v20 (F := Ideal) x0 := rfl

theorem v50_eq : val_main_v50 (F := Ideal) = Cert.Reference17Ideal.Read.val_main_v50 (F := Ideal) := rfl

theorem v51_eq : val_main_v51 (F := Ideal) x0 = Cert.Reference17Ideal.Read.val_main_v51_0 (F := Ideal) x0 := by
  unfold val_main_v51 Cert.Reference17Ideal.Read.val_main_v51_0 val_main_call0_v1 Cert.Reference17Ideal.Read.val_main_v51_1
  rw [v20_eq, v50_eq]
  rfl

theorem v16_eq : val_main_v16 (F := Ideal) x0 = Cert.Reference17Ideal.Read.val_main_v16 (F := Ideal) x0 := rfl

theorem v71_eq : val_main_v71 (F := Ideal) x0 x1 = Cert.Reference17Ideal.Read.val_main_v96 (F := Ideal) x0 x1 := by
  unfold val_main_v71 val_main_v70 val_main_v69 val_main_v68 val_main_v67 val_main_v66 val_main_v65 val_main_v64 val_main_v63 val_main_v62 val_main_v61
    val_main_v60 val_main_v59 val_main_v58 val_main_v57 val_main_v56 val_main_v55 val_main_v54 val_main_v53 val_main_v52 val_main_cst_6 val_main_cst_7
  rw [v51_eq, v16_eq]
  unfold Cert.Reference17Ideal.Read.val_main_v96 Cert.Reference17Ideal.Read.val_main_v95 Cert.Reference17Ideal.Read.val_main_v94
    Cert.Reference17Ideal.Read.val_main_v90 Cert.Reference17Ideal.Read.val_main_v89 Cert.Reference17Ideal.Read.val_main_v88
    Cert.Reference17Ideal.Read.val_main_v87 Cert.Reference17Ideal.Read.val_main_v86 Cert.Reference17Ideal.Read.val_main_v85
    Cert.Reference17Ideal.Read.val_main_v84 Cert.Reference17Ideal.Read.val_main_v83 Cert.Reference17Ideal.Read.val_main_v82
    Cert.Reference17Ideal.Read.val_main_v81 Cert.Reference17Ideal.Read.val_main_v80 Cert.Reference17Ideal.Read.val_main_v61
    Cert.Reference17Ideal.Read.val_main_v60 Cert.Reference17Ideal.Read.val_main_v59 Cert.Reference17Ideal.Read.val_main_v53
    Cert.Reference17Ideal.Read.val_main_v52 Cert.Reference17Ideal.Read.val_main_cst_6 Cert.Reference17Ideal.Read.val_main_cst_14
  rfl

end Cert.Reference18Ideal.Hand

namespace Cert.Kernel18Ideal.Hand

open Idealize.ShloMosaic Idealize.ShloMosaic.TcCoe Idealize.SL.Sem Cert.Kernel18Ideal Cert.Kernel18Ideal.Gen Cert.Attn
open Cert.Kernel17Ideal.Hand (atRow)
open Idealize.ShloMosaic.Pipeline (Dat)

/-! The output block by block. -/

theorem coords0 (t : Fin cfg0.N) : (grid0.coords t 0).val = t.val % 32 := by
  have e1 : (grid0.coords t 0).val = t.val / 1 % 32 := Pipeline.Grid.coords_val t 0 (by decide) rfl
  rw [e1, Nat.div_one]

/-- Where each window's block lies at a point. -/
theorem idx0 : ∀ t : Fin cfg0.N, win0_0.index t = ![0] ∧ win0_1.index t = ![t.val % 32, 1] ∧ win0_2.index t = ![t.val % 32, 8]
    ∧ win0_3.index t = ![(t.val - 1) % 32, 8] ∧ win0_4.index t = ![t.val % 32, 0] := by
  decide +kernel

variable (m : (ℓ : Loc nD τ sig) → Buf (Elt Ideal) ℓ) (c : Dev nD)

theorem blk0_0 (t : Fin cfg0.N) : iblk m c 0 t = V m c main_arg1 := by
  funext y
  obtain ⟨j, rfl⟩ : ∃ (j : Fin 16), y = ix1 j := ⟨y 0, eq_ix1 y⟩
  blk_ext [iblk, idx0 t]

theorem blk0_1 (t : Fin cfg0.N) : X0_1 m c t = queries (V m c main_arg0) t.val := by
  funext y
  obtain ⟨p, q, rfl⟩ : ∃ (p : Fin 128) (q : Fin 1024), y = ix2 p q := ⟨y 0, y 1, eq_ix2 y⟩
  unfold X0_1 Pipeline.Window.fill
  rw [dif_pos (moved0_1 t _)]
  unfold queries
  blk_ext [iblk, idx0 t, rowAt]

theorem blk0_2 (t : Fin cfg0.N) : iblk m c 2 t = keysValues (V m c main_arg0) t.val := by
  funext y
  obtain ⟨p, q, rfl⟩ : ∃ (p : Fin 128) (q : Fin 256), y = ix2 p q := ⟨y 0, y 1, eq_ix2 y⟩
  unfold keysValues
  blk_ext [iblk, idx0 t, rowAt]

theorem blk0_3 (t : Fin cfg0.N) : iblk m c 3 t = keysValues (V m c main_arg0) (t.val - 1) := by
  funext y
  obtain ⟨p, q, rfl⟩ : ∃ (p : Fin 128) (q : Fin 256), y = ix2 p q := ⟨y 0, y 1, eq_ix2 y⟩
  unfold keysValues
  blk_ext [iblk, idx0 t, rowAt]

/-- The output, block by block. -/
def outAll (n : Nat) (q : Fin 128) (j : Fin 1024) : EReal :=
  outputAt n (V m c main_arg1) (queries (V m c main_arg0) n) (keysValues (V m c main_arg0) n) (keysValues (V m c main_arg0) (n - 1)) q j

/-- After point `t` the output's block. -/
theorem outs4 (t : Fin cfg0.N) (q : Fin 128) (j : Fin 1024) : outsAt0 m c t (ix2 q j) = outAll m c t.val q j := by
  have hN : t.val < 32 := lt_of_lt_of_eq t.isLt N_0
  unfold outsAt0 outAll
  rw [out0_A_4_apply, coords0, blk0_0, blk0_1, blk0_2, blk0_3, Nat.mod_eq_of_lt hN]

/-- The output, as the region leaves it. -/
theorem arr4 : (dats m 0 c).arrAt 4 cfg0.N = fun y : S4096x1024.Idx => outAll m c ((y 0).val / 128) ⟨(y 0).val % 128, Nat.mod_lt _ (by decide)⟩ (y 1) := by
  refine (dats m 0 c).arrAt_eq_of_covers 4 _ (by decide +kernel) fun t hf y => ?_
  have hN : t.val < 32 := lt_of_lt_of_eq t.isLt N_0
  blk_simp
  rw [after0_4]
  obtain ⟨q, j, rfl⟩ : ∃ (q : Fin 128) (j : Fin 1024), y = ix2 q j := ⟨y 0, y 1, eq_ix2 y⟩
  refine (outs4 m c t q j).trans ?_
  refine atRow (outAll m c) ?_ ?_
  · have e0 : win0_4.index t 0 = t.val % 32 := by rw [(idx0 t).2.2.2.2]; rfl
    rw [e0]
    show t.val % 32 * 128 + q.val = t.val * 128 + q.val
    omega
  · blk_ext [idx0 t]

/-- The launch leaves the plain attention's output. -/
theorem out_eq (x0 : S4096x2304.Idx → EReal) (x1 : S16.Idx → EReal) (e0 : m ((c : Thread nD τ).loc main_arg0) = x0) (e1 : m ((c : Thread nD τ).loc main_arg1) = x1) :
    (dats m 0 c).arrAt 4 cfg0.N = Cert.Reference18Ideal.Read.val_main_v71 (F := Ideal) x0 x1 := by
  rw [arr4, Cert.Reference18Ideal.Hand.v71_eq]
  funext y
  obtain ⟨r, j, rfl⟩ : ∃ (r : Fin 4096) (j : Fin 1024), y = ix2 r j := ⟨y 0, y 1, eq_ix2 y⟩
  rw [Cert.Reference17Ideal.Hand.output_eq]
  show outAll m c (r.val / 128) ⟨r.val % 128, _⟩ j = _
  unfold outAll
  rw [V_main_arg0, V_main_arg1, e0, e1]

end Cert.Kernel18Ideal.Hand

namespace Cert.AttnFwdClaims

open Idealize.ShloMosaic Idealize.SL.Sem Cert.Kernel18Ideal.Hand

/-- The mask is the literal it stands for. -/
theorem preserves : Cert.preserves_Kernel18_Kernel18Ideal :=
  IdealRules.named_const.statement Cert.Kernel18Ideal.κ "mask" .f32 0xF149F2CA#32 ⊥ rfl

/-- The reference runs, leaves its arguments as they were and every counter at zero. -/
theorem reference : Cert.quiescent_Reference18Ideal := fun m ρ _ =>
  (θ_run _ _ _).mono (fun _ h => ⟨fun c => (h c).2, sem_eq_zero_of_no_sems (by decide) _⟩) (Cert.Reference18Ideal.Value.run m ρ)

/-- The attention's forward launch computes the plain attention. -/
theorem algebraic : Cert.algebraic_Kernel18Ideal_Reference18Ideal := by
  intro m ρ m' ρ' _ hagree
  refine ⟨_, Cert.Kernel18Ideal.Value.run_blocks m ρ, (θ_run _ _ _).mono (fun _ h c => ?_) (Cert.Reference18Ideal.Value.run m' ρ')⟩
  obtain ⟨r0, hargs⟩ := h c
  obtain ⟨a0, a1⟩ := hagree c
  refine ⟨r0.trans ?_, hargs⟩
  refine (Cert.Reference18Ideal.Read.val_main_v71_eq m' c).trans ?_
  rw [a0, a1]
  exact (out_eq m c _ _ rfl rfl).symm

end Cert.AttnFwdClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.GateClaims
public import proofs.«01_k».proof.Proof.DownDw
public import proofs.«01_k».proof.Proof.DownDx
public import proofs.«01_k».proof.Proof.UpDw
public import proofs.«01_k».proof.Proof.UpDx
public import proofs.«01_k».proof.Proof.OutDw
public import proofs.«01_k».proof.Proof.OutDx
public import proofs.«01_k».proof.Proof.InDw
public import proofs.«01_k».proof.Proof.InDx
public import proofs.«01_k».proof.Proof.GluDw
public import proofs.«01_k».proof.Proof.GluDx
public import proofs.«01_k».proof.Proof.Proj
public import proofs.«01_k».proof.Proof.Glu
public import proofs.«01_k».proof.Proof.OutProj
public import proofs.«01_k».proof.Proof.UpProj
public import proofs.«01_k».proof.Proof.DownProj
public import proofs.«01_k».proof.Proof.AttnClaims
public import proofs.«01_k».proof.Proof.AttnFwdClaims
public import proofs.«01_k».proof.Proof.Gen.Kernel18
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    GateClaims.preFacts, AttnClaims.preFacts,
    fun m ρ _ => Cert.Kernel.Gen.frame m ρ, fun m ρ _ => Cert.KernelIdeal.Gen.frame m ρ, fun m ρ _ => Cert.KernelIdeal.Gen.frame m ρ,
    fun m ρ _ => GateClaims.reference m ρ, fun m ρ _ => GateClaims.reference m ρ,
    fun m ρ _ => Cert.Kernel2.Gen.frame m ρ, fun m ρ _ => Cert.Kernel2Ideal.Gen.frame m ρ, Cert.Kernel2Ideal.Hand.reference,
    fun m ρ _ => Cert.Kernel3.Gen.frame m ρ, fun m ρ _ => Cert.Kernel3Ideal.Gen.frame m ρ, Cert.Kernel3Ideal.Hand.reference,
    fun m ρ _ => Cert.Kernel4.Gen.frame m ρ, fun m ρ _ => Cert.Kernel4Ideal.Gen.frame m ρ, Cert.Kernel4Ideal.Hand.reference,
    fun m ρ _ => Cert.Kernel5.Gen.frame m ρ, fun m ρ _ => Cert.Kernel5Ideal.Gen.frame m ρ, Cert.Kernel5Ideal.Hand.reference,
    fun m ρ _ => Cert.Kernel6.Gen.frame m ρ, fun m ρ _ => Cert.Kernel6Ideal.Gen.frame m ρ, Cert.Kernel6Ideal.Hand.reference,
    fun m ρ _ => Cert.Kernel7.Gen.frame m ρ, fun m ρ _ => Cert.Kernel7Ideal.Gen.frame m ρ, Cert.Kernel7Ideal.Hand.reference,
    fun m ρ _ => Cert.Kernel8.Gen.frame m ρ, fun m ρ _ => Cert.Kernel8Ideal.Gen.frame m ρ, Cert.Kernel8Ideal.Hand.reference,
    fun m ρ _ => Cert.Kernel9.Gen.frame m ρ, fun m ρ _ => Cert.Kernel9Ideal.Gen.frame m ρ, Cert.Kernel9Ideal.Hand.reference,
    fun m ρ _ => Cert.Kernel10.Gen.frame m ρ, fun m ρ _ => Cert.Kernel10Ideal.Gen.frame m ρ, Cert.Kernel10Ideal.Hand.reference,
    fun m ρ _ => Cert.Kernel11.Gen.frame m ρ, fun m ρ _ => Cert.Kernel11Ideal.Gen.frame m ρ, Cert.Kernel11Ideal.Hand.reference,
    fun m ρ _ => Cert.Kernel12.Gen.frame m ρ, fun m ρ _ => Cert.Kernel12Ideal.Gen.frame m ρ, Cert.Kernel12Ideal.Hand.reference,
    fun m ρ _ => Cert.Kernel13.Gen.frame m ρ, fun m ρ _ => Cert.Kernel13Ideal.Gen.frame m ρ, Cert.Kernel13Ideal.Hand.reference,
    fun m ρ _ => Cert.Kernel14.Gen.frame m ρ, fun m ρ _ => Cert.Kernel14Ideal.Gen.frame m ρ, Cert.Kernel14Ideal.Hand.reference,
    fun m ρ _ => Cert.Kernel15.Gen.frame m ρ, fun m ρ _ => Cert.Kernel15Ideal.Gen.frame m ρ, Cert.Kernel15Ideal.Hand.reference,
    fun m ρ _ => Cert.Kernel16.Gen.frame m ρ, fun m ρ _ => Cert.Kernel16Ideal.Gen.frame m ρ, Cert.Kernel16Ideal.Hand.reference,
    fun m ρ _ => Cert.Kernel17.Gen.frame m ρ, fun m ρ _ => Cert.Kernel17Ideal.Gen.frame m ρ, fun m ρ _ => Cert.Kernel17Ideal.Gen.frame m ρ,
    fun m ρ _ => AttnClaims.reference m ρ, fun m ρ _ => AttnClaims.reference m ρ,
    fun m ρ _ => Cert.Kernel18.Gen.frame m ρ, fun m ρ _ => Cert.Kernel18Ideal.Gen.frame m ρ, AttnFwdClaims.reference,
    GateClaims.preserves, GateClaims.algebraic (hPre := GateClaims.preFacts),
    trivial, Cert.Kernel2Ideal.Hand.algebraic,
    trivial, Cert.Kernel3Ideal.Hand.algebraic,
    trivial, Cert.Kernel4Ideal.Hand.algebraic,
    trivial, Cert.Kernel5Ideal.Hand.algebraic,
    trivial, Cert.Kernel6Ideal.Hand.algebraic,
    trivial, Cert.Kernel7Ideal.Hand.algebraic,
    trivial, Cert.Kernel8Ideal.Hand.algebraic,
    trivial, Cert.Kernel9Ideal.Hand.algebraic,
    trivial, Cert.Kernel10Ideal.Hand.algebraic,
    trivial, Cert.Kernel11Ideal.Hand.algebraic,
    trivial, Cert.Kernel12Ideal.Hand.algebraic,
    trivial, Cert.Kernel13Ideal.Hand.algebraic,
    trivial, Cert.Kernel14Ideal.Hand.algebraic,
    trivial, Cert.Kernel15Ideal.Hand.algebraic,
    trivial, Cert.Kernel16Ideal.Hand.algebraic,
    AttnClaims.preserves, AttnClaims.algebraic (hPre := AttnClaims.preFacts),
    AttnFwdClaims.preserves, AttnFwdClaims.algebraic⟩

end Cert.Proof

end
